-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v62)) (v2 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
-- ==== Pre_scales_nonneg.lean ====
abbrev S6x2048x32x96 : Shape := ⟨4, ![6, 2048, 32, 96]⟩
abbrev S32 : Shape := ⟨1, ![32]⟩
abbrev S6x2048x4x96 : Shape := ⟨4, ![6, 2048, 4, 96]⟩
abbrev S4 : Shape := ⟨1, ![4]⟩
abbrev S6x32x2048 : Shape := ⟨3, ![6, 32, 2048]⟩
abbrev S6x2048 : Shape := ⟨2, ![6, 2048]⟩
abbrev S_ : Shape := ⟨0, ![]⟩

class Facts : Prop where
  bcast_S_S6x2048 : S_.BroadcastsInDim S6x2048 (![] : Fin 0 → Fin S6x2048.rank)
  reducesTo_S6x2048_S_d0_1 : S6x2048.ReducesTo [0, 1] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S6x2048x32x96 .fp8e4m3) (main_arg1 : FVec F S32 .f32) (main_arg2 : FVec F S6x2048x4x96 .fp8e4m3) (main_arg3 : FVec F S4 .f32) (main_arg4 : FVec F S6x2048x4x96 .fp8e4m3) (main_arg5 : FVec F S4 .f32) (main_arg6 : FVec F S6x2048x32x96 .bf16) (main_arg7 : FVec F S6x32x2048 .f32) (main_arg8 : FVec F S6x2048x32x96 .fp8e5m2) (main_arg9 : FVec F S6x2048 .f32) : IVec S_ 1 :=
  let main_cst : FVec F S_ .f32 := constant S_ .f32 0x00000000#32
  let main_v0 : FVec F S6x2048 .f32 := broadcastInDim S6x2048 ![] bcast_S_S6x2048 main_cst
  let main_v1 : IVec S6x2048 1 := cmpf .oge main_arg9 main_v0
  let main_cst_0 : FVec F S_ .f32 := constant S_ .f32 0x7F800000#32
  let main_v2 : FVec F S6x2048 .f32 := broadcastInDim S6x2048 ![] bcast_S_S6x2048 main_cst_0
  let main_v3 : IVec S6x2048 1 := cmpf .olt main_arg9 main_v2
  let main_v4 : IVec S6x2048 1 := andi main_v1 main_v3
  let main_c : IVec S_ 1 := constantI S_ 1 1#1
  let main_v5 : IVec S_ 1 := (fun x v => Host.reduce IntOp.andi x v reducesTo_S6x2048_S_d0_1 h_S_) main_v4 main_c
  let main_cst_1 : FVec F S_ .f32 := constant S_ .f32 0x00000000#32
  let main_v6 : FVec F S4 .f32 := broadcastInDim S4 ![] bcast_S_S4 main_cst_1
  let main_v7 : IVec S4 1 := cmpf .oge main_arg5 main_v6
  let main_cst_2 : FVec F S_ .f32 := constant S_ .f32 0x7F800000#32
  let main_v8 : FVec F S4 .f32 := broadcastInDim S4 ![] bcast_S_S4 main_cst_2
  let main_v9 : IVec S4 1 := cmpf .olt main_arg5 main_v8
  let main_v10 : IVec S4 1 := andi main_v7 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v5 main_v11
  main_v12
-- ==== Kernel.lean ====
abbrev S6x2048x32x96 : Shape := ⟨4, ![6, 2048, 32, 96]⟩
abbrev S32 : Shape := ⟨1, ![32]⟩
abbrev S6x2048x4x96 : Shape := ⟨4, ![6, 2048, 4, 96]⟩
abbrev S4 : Shape := ⟨1, ![4]⟩
abbrev S6x32x2048 : Shape := ⟨3, ![6, 32, 2048]⟩
abbrev S6x2048 : Shape := ⟨2, ![6, 2048]⟩
abbrev S8x4 : Shape := ⟨2, ![8, 4]⟩
abbrev S1x4 : Shape := ⟨2, ![1, 4]⟩
abbrev S_ : Shape := ⟨0, ![]⟩
abbrev S4x8 : Shape := ⟨2, ![4, 8]⟩
abbrev S1x4x1x8 : Shape := ⟨4, ![1, 4, 1, 8]⟩
abbrev S6x4x1x8 : Shape := ⟨4, ![6, 4, 1, 8]⟩
abbrev S24x8 : Shape := ⟨2, ![24, 8]⟩
abbrev S24x8x1 : Shape := ⟨3, ![24, 8, 1]⟩
abbrev S24x8x128 : Shape := ⟨3, ![24, 8, 128]⟩
abbrev S6x1x2048x1 : Shape := ⟨4, ![6, 1, 2048, 1]⟩
abbrev S6x4x2048x8 : Shape := ⟨4, ![6, 4, 2048, 8]⟩
abbrev S24x1x16384 : Shape := ⟨3, ![24, 1, 16384]⟩
abbrev S6x4 : Shape := ⟨2, ![6, 4]⟩
abbrev S24 : Shape := ⟨1, ![24]⟩
abbrev S24x1x1 : Shape := ⟨3, ![24, 1, 1]⟩
abbrev S6x8x4x2048 : Shape := ⟨4, ![6, 8, 4, 2048]⟩
abbrev S6x4x8x2048 : Shape := ⟨4, ![6, 4, 8, 2048]⟩
abbrev S24x8x2048 : Shape := ⟨3, ![24, 8, 2048]⟩
abbrev S6x2048x8x4x96 : Shape := ⟨5, ![6, 2048, 8, 4, 96]⟩
abbrev S6x4x2048x8x96 : Shape := ⟨5, ![6, 4, 2048, 8, 96]⟩
abbrev S24x16384x96 : Shape := ⟨3, ![24, 16384, 96]⟩
abbrev S24x96x16384 : Shape := ⟨3, ![24, 96, 16384]⟩
abbrev S6x4x96x2048 : Shape := ⟨4, ![6, 4, 96, 2048]⟩
abbrev S24x96x2048 : Shape := ⟨3, ![24, 96, 2048]⟩
abbrev S24x16384x1 : Shape := ⟨3, ![24, 16384, 1]⟩
abbrev S1x8x128 : Shape := ⟨3, ![1, 8, 128]⟩
abbrev S1x16384x96 : Shape := ⟨3, ![1, 16384, 96]⟩
abbrev S1x16384x1 : Shape := ⟨3, ![1, 16384, 1]⟩
abbrev S1x96x16384 : Shape := ⟨3, ![1, 96, 16384]⟩
abbrev S1x1x16384 : Shape := ⟨3, ![1, 1, 16384]⟩
abbrev S1x8x2048 : Shape := ⟨3, ![1, 8, 2048]⟩
abbrev S1x96x2048 : Shape := ⟨3, ![1, 96, 2048]⟩
abbrev S1x1x1 : Shape := ⟨3, ![1, 1, 1]⟩
abbrev S16384x128 : Shape := ⟨2, ![16384, 128]⟩
abbrev S96x16384 : Shape := ⟨2, ![96, 16384]⟩
abbrev S1x1024x96 : Shape := ⟨3, ![1, 1024, 96]⟩
abbrev S1024x96 : Shape := ⟨2, ![1024, 96]⟩
abbrev S1x1024x1 : Shape := ⟨3, ![1, 1024, 1]⟩
abbrev S1024x1 : Shape := ⟨2, ![1024, 1]⟩
abbrev S1024 : Shape := ⟨1, ![1024]⟩
abbrev S1024x128 : Shape := ⟨2, ![1024, 128]⟩
abbrev S96x1024 : Shape := ⟨2, ![96, 1024]⟩
abbrev S8x128 : Shape := ⟨2, ![8, 128]⟩
abbrev S8x1 : Shape := ⟨2, ![8, 1]⟩
abbrev S8x256 : Shape := ⟨2, ![8, 256]⟩
abbrev S1x96x256 : Shape := ⟨3, ![1, 96, 256]⟩
abbrev S96x256 : Shape := ⟨2, ![96, 256]⟩
abbrev S1024x256 : Shape := ⟨2, ![1024, 256]⟩
abbrev S128x8x256 : Shape := ⟨3, ![128, 8, 256]⟩
abbrev S1x8x256 : Shape := ⟨3, ![1, 8, 256]⟩
abbrev S1x1 : Shape := ⟨2, ![1, 1]⟩
abbrev S1x96x1024 : Shape := ⟨3, ![1, 96, 1024]⟩
abbrev S1x1x1024 : Shape := ⟨3, ![1, 1, 1024]⟩
abbrev S1x1024 : Shape := ⟨2, ![1, 1024]⟩

abbrev nBuf : Space → Nat
  | .hbm => 79
  | .vmem => 30
  | .smem => 0
  | _ => 0

abbrev bufTy : (tb : Table) → Fin (tcTables nBuf tb) → BufTy
  | .hbm, ⟨0, _⟩ => ⟨S6x2048x32x96, .fp8e4m3⟩
  | .hbm, ⟨1, _⟩ => ⟨S32, .f32⟩
  | .hbm, ⟨2, _⟩ => ⟨S6x2048x4x96, .fp8e4m3⟩
  | .hbm, ⟨3, _⟩ => ⟨S4, .f32⟩
  | .hbm, ⟨4, _⟩ => ⟨S6x2048x4x96, .fp8e4m3⟩
  | .hbm, ⟨5, _⟩ => ⟨S4, .f32⟩
  | .hbm, ⟨6, _⟩ => ⟨S6x2048x32x96, .bf16⟩
  | .hbm, ⟨7, _⟩ => ⟨S6x32x2048, .f32⟩
  | .hbm, ⟨8, _⟩ => ⟨S6x2048x32x96, .fp8e5m2⟩
  | .hbm, ⟨9, _⟩ => ⟨S6x2048, .f32⟩
  | .hbm, ⟨10, _⟩ => ⟨S8x4, .f32⟩
  | .hbm, ⟨11, _⟩ => ⟨S1x4, .f32⟩
  | .hbm, ⟨12, _⟩ => ⟨S8x4, .f32⟩
  | .hbm, ⟨13, _⟩ => ⟨S8x4, .f32⟩
  | .hbm, ⟨14, _⟩ => ⟨S_, .f32⟩
  | .hbm, ⟨15, _⟩ => ⟨S8x4, .f32⟩
  | .hbm, ⟨16, _⟩ => ⟨S8x4, .f32⟩
  | .hbm, ⟨17, _⟩ => ⟨S4x8, .f32⟩
  | .hbm, ⟨18, _⟩ => ⟨S1x4x1x8, .f32⟩
  | .hbm, ⟨19, _⟩ => ⟨S6x4x1x8, .f32⟩
  | .hbm, ⟨20, _⟩ => ⟨S24x8, .f32⟩
  | .hbm, ⟨21, _⟩ => ⟨S24x8x1, .f32⟩
  | .hbm, ⟨22, _⟩ => ⟨S24x8x128, .f32⟩
  | .hbm, ⟨23, _⟩ => ⟨S6x2048, .bf16⟩
  | .hbm, ⟨24, _⟩ => ⟨S6x1x2048x1, .bf16⟩
  | .hbm, ⟨25, _⟩ => ⟨S6x4x2048x8, .bf16⟩
  | .hbm, ⟨26, _⟩ => ⟨S8x4, .bf16⟩
  | .hbm, ⟨27, _⟩ => ⟨S4x8, .bf16⟩
  | .hbm, ⟨28, _⟩ => ⟨S1x4x1x8, .bf16⟩
  | .hbm, ⟨29, _⟩ => ⟨S6x4x2048x8, .bf16⟩
  | .hbm, ⟨30, _⟩ => ⟨S24x1x16384, .bf16⟩
  | .hbm, ⟨31, _⟩ => ⟨S4, .bf16⟩
  | .hbm, ⟨32, _⟩ => ⟨S1x4, .bf16⟩
  | .hbm, ⟨33, _⟩ => ⟨S6x4, .bf16⟩
  | .hbm, ⟨34, _⟩ => ⟨S24, .bf16⟩
  | .hbm, ⟨35, _⟩ => ⟨S24x1x1, .bf16⟩
  | .hbm, ⟨36, _⟩ => ⟨S6x8x4x2048, .f32⟩
  | .hbm, ⟨37, _⟩ => ⟨S6x4x8x2048, .f32⟩
  | .hbm, ⟨38, _⟩ => ⟨S24x8x2048, .f32⟩
  | .hbm, ⟨39, _⟩ => ⟨S6x2048x8x4x96, .fp8e4m3⟩
  | .hbm, ⟨40, _⟩ => ⟨S6x4x2048x8x96, .fp8e4m3⟩
  | .hbm, ⟨41, _⟩ => ⟨S24x16384x96, .fp8e4m3⟩
  | .hbm, ⟨42, _⟩ => ⟨S6x2048x8x4x96, .fp8e5m2⟩
  | .hbm, ⟨43, _⟩ => ⟨S6x4x2048x8x96, .fp8e5m2⟩
  | .hbm, ⟨44, _⟩ => ⟨S24x16384x96, .fp8e5m2⟩
  | .hbm, ⟨45, _⟩ => ⟨S6x2048x8x4x96, .bf16⟩
  | .hbm, ⟨46, _⟩ => ⟨S6x4x2048x8x96, .bf16⟩
  | .hbm, ⟨47, _⟩ => ⟨S24x16384x96, .bf16⟩
  | .hbm, ⟨48, _⟩ => ⟨S24x96x16384, .fp8e4m3⟩
  | .hbm, ⟨49, _⟩ => ⟨S24x96x16384, .fp8e5m2⟩
  | .hbm, ⟨50, _⟩ => ⟨S6x4x96x2048, .fp8e4m3⟩
  | .hbm, ⟨51, _⟩ => ⟨S24x96x2048, .fp8e4m3⟩
  | .hbm, ⟨52, _⟩ => ⟨S6x4x96x2048, .fp8e4m3⟩
  | .hbm, ⟨53, _⟩ => ⟨S24x96x2048, .fp8e4m3⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S1x4, .f32⟩
  | .hbm, ⟨58, _⟩ => ⟨S6x4, .f32⟩
  | .hbm, ⟨59, _⟩ => ⟨S24, .f32⟩
  | .hbm, ⟨60, _⟩ => ⟨S24x1x1, .f32⟩
  | .hbm, ⟨61, _⟩ => ⟨S24x1x16384, .f32⟩
  | .hbm, ⟨62, _⟩ => ⟨S24x16384x1, .bf16⟩
  | .hbm, ⟨63, _⟩ => ⟨S24x1x16384, .bf16⟩
  | .hbm, ⟨64, _⟩ => ⟨S24x16384x96, .bf16⟩
  | .hbm, ⟨65, _⟩ => ⟨S24x96x2048, .f32⟩
  | .hbm, ⟨66, _⟩ => ⟨S24x96x2048, .f32⟩
  | .hbm, ⟨67, _⟩ => ⟨S6x4x2048x8x96, .bf16⟩
  | .hbm, ⟨68, _⟩ => ⟨S6x2048x8x4x96, .bf16⟩
  | .hbm, ⟨69, _⟩ => ⟨S6x2048x32x96, .bf16⟩
  | .hbm, ⟨70, _⟩ => ⟨S6x4x96x2048, .f32⟩
  | .hbm, ⟨71, _⟩ => ⟨S6x2048x4x96, .f32⟩
  | .hbm, ⟨72, _⟩ => ⟨S_, .f32⟩
  | .hbm, ⟨73, _⟩ => ⟨S6x2048x4x96, .f32⟩
  | .hbm, ⟨74, _⟩ => ⟨S6x2048x4x96, .f32⟩
  | .hbm, ⟨75, _⟩ => ⟨S6x4x96x2048, .f32⟩
  | .hbm, ⟨76, _⟩ => ⟨S6x2048x4x96, .f32⟩
  | .hbm, ⟨77, _⟩ => ⟨S6x2048x4x96, .bf16⟩
  | .hbm, ⟨78, _⟩ => ⟨S6x2048x4x96, .bf16⟩
  | .local _ .vmem, ⟨0, _⟩ => ⟨S1x8x128, .f32⟩
  | .local _ .vmem, ⟨1, _⟩ => ⟨S1x8x128, .f32⟩
  | .local _ .vmem, ⟨2, _⟩ => ⟨S1x16384x96, .fp8e5m2⟩
  | .local _ .vmem, ⟨3, _⟩ => ⟨S1x16384x1, .bf16⟩
  | .local _ .vmem, ⟨4, _⟩ => ⟨S1x96x16384, .fp8e4m3⟩
  | .local _ .vmem, ⟨5, _⟩ => ⟨S1x1x16384, .bf16⟩
  | .local _ .vmem, ⟨6, _⟩ => ⟨S1x96x16384, .fp8e5m2⟩
  | .local _ .vmem, ⟨7, _⟩ => ⟨S1x1x16384, .bf16⟩
  | .local _ .vmem, ⟨8, _⟩ => ⟨S1x16384x96, .fp8e4m3⟩
  | .local _ .vmem, ⟨9, _⟩ => ⟨S1x16384x96, .fp8e4m3⟩
  | .local _ .vmem, ⟨10, _⟩ => ⟨S1x16384x96, .bf16⟩
  | .local _ .vmem, ⟨11, _⟩ => ⟨S1x16384x96, .bf16⟩
  | .local _ .vmem, ⟨12, _⟩ => ⟨S1x8x2048, .f32⟩
  | .local _ .vmem, ⟨13, _⟩ => ⟨S1x8x2048, .f32⟩
  | .local _ .vmem, ⟨14, _⟩ => ⟨S1x96x2048, .fp8e4m3⟩
  | .local _ .vmem, ⟨15, _⟩ => ⟨S1x96x2048, .fp8e4m3⟩
  | .local _ .vmem, ⟨16, _⟩ => ⟨S1x96x2048, .fp8e4m3⟩
  | .local _ .vmem, ⟨17, _⟩ => ⟨S1x96x2048, .fp8e4m3⟩
  | .local _ .vmem, ⟨18, _⟩ => ⟨S1x1x1, .bf16⟩
  | .local _ .vmem, ⟨19, _⟩ => ⟨S1x1x1, .bf16⟩
  | .local _ .vmem, ⟨20, _⟩ => ⟨S1x1x16384, .f32⟩
  | .local _ .vmem, ⟨21, _⟩ => ⟨S1x1x16384, .f32⟩
  | .local _ .vmem, ⟨22, _⟩ => ⟨S1x16384x96, .bf16⟩
  | .local _ .vmem, ⟨23, _⟩ => ⟨S1x96x2048, .f32⟩
  | .local _ .vmem, ⟨24, _⟩ => ⟨S1x96x2048, .f32⟩
  | .local _ .vmem, ⟨25, _⟩ => ⟨S1x96x2048, .f32⟩
  | .local _ .vmem, ⟨26, _⟩ => ⟨S1x96x2048, .f32⟩
  | .local _ .vmem, ⟨27, _⟩ => ⟨S16384x128, .f32⟩
  | .local _ .vmem, ⟨28, _⟩ => ⟨S16384x128, .f32⟩
  | .local _ .vmem, ⟨29, _⟩ => ⟨S96x16384, .f32⟩
  | _, _ => ⟨S6x2048x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52_0 : Ref sig .tc := ⟨.hbm, 64, rfl⟩
abbrev main_v52_1 : Ref sig .tc := ⟨.hbm, 65, rfl⟩
abbrev main_v52_2 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_1 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 3 → Nat :=
  let c0_828 : Index := 0#32
  let c0_i32 : BitVec 32 := 0#32
  let c1_i32 : BitVec 32 := 1#32
  let arg21 : BitVec 32 := Scf.iv c0_i32 c1_i32 k0_t1
  let c1024_i32_827 : BitVec 32 := 1024#32
  let v1199 : BitVec 32 := Scalar.muli arg21 c1024_i32_827
  let v1200 : Index := Scalar.indexCast v1199
  let c0_829 : Index := 0#32
  ![0, v1200.toNat, 0]
def k0_off2 (k0_t1 : Fin k0_t1_loop.trips) : Fin 3 → Nat :=
  let c0_830 : Index := 0#32
  let c0_i32 : BitVec 32 := 0#32
  let c1_i32 : BitVec 32 := 1#32
  let arg21 : BitVec 32 := Scf.iv c0_i32 c1_i32 k0_t1
  let c1024_i32_827 : BitVec 32 := 1024#32
  let v1199 : BitVec 32 := Scalar.muli arg21 c1024_i32_827
  let v1204 : Index := Scalar.indexCast v1199
  let c0_831 : Index := 0#32
  ![0, v1204.toNat, 0]
def k0_off3 (k0_t1 : Fin k0_t1_loop.trips) : Fin 2 → Nat :=
  let c0_i32 : BitVec 32 := 0#32
  let c1_i32 : BitVec 32 := 1#32
  let arg21 : BitVec 32 := Scf.iv c0_i32 c1_i32 k0_t1
  let c1024_i32_827 : BitVec 32 := 1024#32
  let v1199 : BitVec 32 := Scalar.muli arg21 c1024_i32_827
  let v1219 : Index := Scalar.indexCast v1199
  let c0_835 : Index := 0#32
  ![v1219.toNat, 0]
def k0_off4 (k0_t1 : Fin k0_t1_loop.trips) : Fin 2 → Nat :=
  let c0_837 : Index := 0#32
  let c0_i32 : BitVec 32 := 0#32
  let c1_i32 : BitVec 32 := 1#32
  let arg21 : BitVec 32 := Scf.iv c0_i32 c1_i32 k0_t1
  let c1024_i32_827 : BitVec 32 := 1024#32
  let v1199 : BitVec 32 := Scalar.muli arg21 c1024_i32_827
  let v1224 : Index := Scalar.indexCast v1199
  ![0, v1224.toNat]
def k0_off5 (k0_t1 : Fin k0_t1_loop.trips) : Fin 3 → Nat :=
  let c0_839 : Index := 0#32
  let c0_840 : Index := 0#32
  let c0_i32 : BitVec 32 := 0#32
  let c1_i32 : BitVec 32 := 1#32
  let arg21 : BitVec 32 := Scf.iv c0_i32 c1_i32 k0_t1
  let c128_i32_838 : BitVec 32 := 128#32
  let v1228 : BitVec 32 := Scalar.muli arg21 c128_i32_838
  let v1229 : Index := Scalar.indexCast v1228
  ![0, 0, v1229.toNat]
def k0_off6 (k0_t1 : Fin k0_t1_loop.trips) (c0_i32_843 : BitVec 32) : Fin 2 → Nat :=
  let c0_i32 : BitVec 32 := 0#32
  let c1_i32 : BitVec 32 := 1#32
  let arg21 : BitVec 32 := Scf.iv c0_i32 c1_i32 k0_t1
  let c1024_i32_842 : BitVec 32 := 1024#32
  let v1237 : BitVec 32 := Scalar.muli arg21 c1024_i32_842
  let v1238 : BitVec 32 := Scalar.addi v1237 c0_i32_843
  let v1239 : Index := Scalar.indexCast v1238
  let c0_844 : Index := 0#32
  ![v1239.toNat, 0]
@[reducible] def k0_t2_loop : Scf.Loop 32 :=
  let c2_i32 : BitVec 32 := 2#32
  let c14_i32 : BitVec 32 := 14#32
  let v154 : BitVec 32 := Scalar.addi c2_i32 c14_i32
  let c1_i32_105 : BitVec 32 := 1#32
  ⟨c2_i32, v154, c1_i32_105⟩
def k0_off7 (k0_t2 : Fin k0_t2_loop.trips) : Fin 3 → Nat :=
  let c0_828 : Index := 0#32
  let c2_i32 : BitVec 32 := 2#32
  let c1_i32_105 : BitVec 32 := 1#32
  let arg21 : BitVec 32 := Scf.iv c2_i32 c1_i32_105 k0_t2
  let c1024_i32_827 : BitVec 32 := 1024#32
  let v1199 : BitVec 32 := Scalar.muli arg21 c1024_i32_827
  let v1200 : Index := Scalar.indexCast v1199
  let c0_829 : Index := 0#32
  ![0, v1200.toNat, 0]
def k0_off8 (k0_t2 : Fin k0_t2_loop.trips) : Fin 2 → Nat :=
  let c2_i32 : BitVec 32 := 2#32
  let c1_i32_105 : BitVec 32 := 1#32
  let arg21 : BitVec 32 := Scf.iv c2_i32 c1_i32_105 k0_t2
  let c1024_i32_827 : BitVec 32 := 1024#32
  let v1199 : BitVec 32 := Scalar.muli arg21 c1024_i32_827
  let v1210 : Index := Scalar.indexCast v1199
  let c0_834 : Index := 0#32
  ![v1210.toNat, 0]
def k0_off9 (k0_t2 : Fin k0_t2_loop.trips) : Fin 3 → Nat :=
  let c0_837 : Index := 0#32
  let c2_i32 : BitVec 32 := 2#32
  let c1_i32_105 : BitVec 32 := 1#32
  let arg21 : BitVec 32 := Scf.iv c2_i32 c1_i32_105 k0_t2
  let c1024_i32_827 : BitVec 32 := 1024#32
  let v1199 : BitVec 32 := Scalar.muli arg21 c1024_i32_827
  let v1221 : Index := Scalar.indexCast v1199
  let c0_838 : Index := 0#32
  ![0, v1221.toNat, 0]
def k0_off10 (k0_t2 : Fin k0_t2_loop.trips) : Fin 3 → Nat :=
  let c0_847 : Index := 0#32
  let c0_848 : Index := 0#32
  let c2_i32 : BitVec 32 := 2#32
  let c1_i32_105 : BitVec 32 := 1#32
  let arg21 : BitVec 32 := Scf.iv c2_i32 c1_i32_105 k0_t2
  let c1024_i32_827 : BitVec 32 := 1024#32
  let v1199 : BitVec 32 := Scalar.muli arg21 c1024_i32_827
  let v1241 : Index := Scalar.indexCast v1199
  ![0, 0, v1241.toNat]
def k0_off11 (k0_t2 : Fin k0_t2_loop.trips) : Fin 3 → Nat :=
  let c0_849 : Index := 0#32
  let c0_850 : Index := 0#32
  let c2_i32 : BitVec 32 := 2#32
  let c1_i32_105 : BitVec 32 := 1#32
  let arg21 : BitVec 32 := Scf.iv c2_i32 c1_i32_105 k0_t2
  let c1024_i32_827 : BitVec 32 := 1024#32
  let v1199 : BitVec 32 := Scalar.muli arg21 c1024_i32_827
  let v1245 : Index := Scalar.indexCast v1199
  ![0, 0, v1245.toNat]
def k0_off12 (k0_t2 : Fin k0_t2_loop.trips) : Fin 2 → Nat :=
  let c0_861 : Index := 0#32
  let c2_i32 : BitVec 32 := 2#32
  let c1_i32_105 : BitVec 32 := 1#32
  let arg21 : BitVec 32 := Scf.iv c2_i32 c1_i32_105 k0_t2
  let c1024_i32_827 : BitVec 32 := 1024#32
  let v1199 : BitVec 32 := Scalar.muli arg21 c1024_i32_827
  let v1265 : Index := Scalar.indexCast v1199
  ![0, v1265.toNat]
@[reducible] def k0_t3_loop : Scf.Loop 32 :=
  let c4_i32 : BitVec 32 := 4#32
  let c12_i32 : BitVec 32 := 12#32
  let v303 : BitVec 32 := Scalar.addi c4_i32 c12_i32
  let c1_i32_206 : BitVec 32 := 1#32
  ⟨c4_i32, v303, c1_i32_206⟩
def k0_off13 (k0_t3 : Fin k0_t3_loop.trips) : Fin 3 → Nat :=
  let c0_828 : Index := 0#32
  let c4_i32 : BitVec 32 := 4#32
  let c1_i32_206 : BitVec 32 := 1#32
  let arg21 : BitVec 32 := Scf.iv c4_i32 c1_i32_206 k0_t3
  let c1024_i32_827 : BitVec 32 := 1024#32
  let v1199 : BitVec 32 := Scalar.muli arg21 c1024_i32_827
  let v1200 : Index := Scalar.indexCast v1199
  let c0_829 : Index := 0#32
  ![0, v1200.toNat, 0]
def k0_off14 (k0_t3 : Fin k0_t3_loop.trips) : Fin 2 → Nat :=
  let c4_i32 : BitVec 32 := 4#32
  let c1_i32_206 : BitVec 32 := 1#32
  let arg21 : BitVec 32 := Scf.iv c4_i32 c1_i32_206 k0_t3
  let c1024_i32_827 : BitVec 32 := 1024#32
  let v1199 : BitVec 32 := Scalar.muli arg21 c1024_i32_827
  let v1210 : Index := Scalar.indexCast v1199
  let c0_834 : Index := 0#32
  ![v1210.toNat, 0]
def k0_off15 (k0_t3 : Fin k0_t3_loop.trips) : Fin 3 → Nat :=
  let c0_837 : Index := 0#32
  let c4_i32 : BitVec 32 := 4#32
  let c1_i32_206 : BitVec 32 := 1#32
  let arg21 : BitVec 32 := Scf.iv c4_i32 c1_i32_206 k0_t3
  let c1024_i32_827 : BitVec 32 := 1024#32
  let v1199 : BitVec 32 := Scalar.muli arg21 c1024_i32_827
  let v1221 : Index := Scalar.indexCast v1199
  let c0_838 : Index := 0#32
  ![0, v1221.toNat, 0]
def k0_off16 (k0_t3 : Fin k0_t3_loop.trips) : Fin 3 → Nat :=
  let c0_847 : Index := 0#32
  let c0_848 : Index := 0#32
  let c4_i32 : BitVec 32 := 4#32
  let c1_i32_206 : BitVec 32 := 1#32
  let arg21 : BitVec 32 := Scf.iv c4_i32 c1_i32_206 k0_t3
  let c1024_i32_827 : BitVec 32 := 1024#32
  let v1199 : BitVec 32 := Scalar.muli arg21 c1024_i32_827
  let v1241 : Index := Scalar.indexCast v1199
  ![0, 0, v1241.toNat]
def k0_off17 (k0_t3 : Fin k0_t3_loop.trips) : Fin 3 → Nat :=
  let c0_849 : Index := 0#32
  let c0_850 : Index := 0#32
  let c4_i32 : BitVec 32 := 4#32
  let c1_i32_206 : BitVec 32 := 1#32
  let arg21 : BitVec 32 := Scf.iv c4_i32 c1_i32_206 k0_t3
  let c1024_i32_827 : BitVec 32 := 1024#32
  let v1199 : BitVec 32 := Scalar.muli arg21 c1024_i32_827
  let v1245 : Index := Scalar.indexCast v1199
  ![0, 0, v1245.toNat]
def k0_off18 (k0_t3 : Fin k0_t3_loop.trips) : Fin 2 → Nat :=
  let c0_861 : Index := 0#32
  let c4_i32 : BitVec 32 := 4#32
  let c1_i32_206 : BitVec 32 := 1#32
  let arg21 : BitVec 32 := Scf.iv c4_i32 c1_i32_206 k0_t3
  let c1024_i32_827 : BitVec 32 := 1024#32
  let v1199 : BitVec 32 := Scalar.muli arg21 c1024_i32_827
  let v1265 : Index := Scalar.indexCast v1199
  ![0, v1265.toNat]
@[reducible] def k0_t4_loop : Scf.Loop 32 :=
  let c6_i32 : BitVec 32 := 6#32
  let c10_i32 : BitVec 32 := 10#32
  let v452 : BitVec 32 := Scalar.addi c6_i32 c10_i32
  let c1_i32_307 : BitVec 32 := 1#32
  ⟨c6_i32, v452, c1_i32_307⟩
def k0_off19 (k0_t4 : Fin k0_t4_loop.trips) : Fin 3 → Nat :=
  let c0_828 : Index := 0#32
  let c6_i32 : BitVec 32 := 6#32
  let c1_i32_307 : BitVec 32 := 1#32
  let arg21 : BitVec 32 := Scf.iv c6_i32 c1_i32_307 k0_t4
  let c1024_i32_827 : BitVec 32 := 1024#32
  let v1199 : BitVec 32 := Scalar.muli arg21 c1024_i32_827
  let v1200 : Index := Scalar.indexCast v1199
  let c0_829 : Index := 0#32
  ![0, v1200.toNat, 0]
def k0_off20 (k0_t4 : Fin k0_t4_loop.trips) : Fin 2 → Nat :=
  let c6_i32 : BitVec 32 := 6#32
  let c1_i32_307 : BitVec 32 := 1#32
  let arg21 : BitVec 32 := Scf.iv c6_i32 c1_i32_307 k0_t4
  let c1024_i32_827 : BitVec 32 := 1024#32
  let v1199 : BitVec 32 := Scalar.muli arg21 c1024_i32_827
  let v1210 : Index := Scalar.indexCast v1199
  let c0_834 : Index := 0#32
  ![v1210.toNat, 0]
def k0_off21 (k0_t4 : Fin k0_t4_loop.trips) : Fin 3 → Nat :=
  let c0_837 : Index := 0#32
  let c6_i32 : BitVec 32 := 6#32
  let c1_i32_307 : BitVec 32 := 1#32
  let arg21 : BitVec 32 := Scf.iv c6_i32 c1_i32_307 k0_t4
  let c1024_i32_827 : BitVec 32 := 1024#32
  let v1199 : BitVec 32 := Scalar.muli arg21 c1024_i32_827
  let v1221 : Index := Scalar.indexCast v1199
  let c0_838 : Index := 0#32
  ![0, v1221.toNat, 0]
def k0_off22 (k0_t4 : Fin k0_t4_loop.trips) : Fin 3 → Nat :=
  let c0_847 : Index := 0#32
  let c0_848 : Index := 0#32
  let c6_i32 : BitVec 32 := 6#32
  let c1_i32_307 : BitVec 32 := 1#32
  let arg21 : BitVec 32 := Scf.iv c6_i32 c1_i32_307 k0_t4
  let c1024_i32_827 : BitVec 32 := 1024#32
  let v1199 : BitVec 32 := Scalar.muli arg21 c1024_i32_827
  let v1241 : Index := Scalar.indexCast v1199
  ![0, 0, v1241.toNat]
def k0_off23 (k0_t4 : Fin k0_t4_loop.trips) : Fin 3 → Nat :=
  let c0_849 : Index := 0#32
  let c0_850 : Index := 0#32
  let c6_i32 : BitVec 32 := 6#32
  let c1_i32_307 : BitVec 32 := 1#32
  let arg21 : BitVec 32 := Scf.iv c6_i32 c1_i32_307 k0_t4
  let c1024_i32_827 : BitVec 32 := 1024#32
  let v1199 : BitVec 32 := Scalar.muli arg21 c1024_i32_827
  let v1245 : Index := Scalar.indexCast v1199
  ![0, 0, v1245.toNat]
def k0_off24 (k0_t4 : Fin k0_t4_loop.trips) : Fin 2 → Nat :=
  let c0_861 : Index := 0#32
  let c6_i32 : BitVec 32 := 6#32
  let c1_i32_307 : BitVec 32 := 1#32
  let arg21 : BitVec 32 := Scf.iv c6_i32 c1_i32_307 k0_t4
  let c1024_i32_827 : BitVec 32 := 1024#32
  let v1199 : BitVec 32 := Scalar.muli arg21 c1024_i32_827
  let v1265 : Index := Scalar.indexCast v1199
  ![0, v1265.toNat]
@[reducible] def k0_t5_loop : Scf.Loop 32 :=
  let c8_i32 : BitVec 32 := 8#32
  let c8_i32_408 : BitVec 32 := 8#32
  let v601 : BitVec 32 := Scalar.addi c8_i32 c8_i32_408
  let c1_i32_409 : BitVec 32 := 1#32
  ⟨c8_i32, v601, c1_i32_409⟩
def k0_off25 (k0_t5 : Fin k0_t5_loop.trips) : Fin 3 → Nat :=
  let c0_828 : Index := 0#32
  let c8_i32 : BitVec 32 := 8#32
  let c1_i32_409 : BitVec 32 := 1#32
  let arg21 : BitVec 32 := Scf.iv c8_i32 c1_i32_409 k0_t5
  let c1024_i32_827 : BitVec 32 := 1024#32
  let v1199 : BitVec 32 := Scalar.muli arg21 c1024_i32_827
  let v1200 : Index := Scalar.indexCast v1199
  let c0_829 : Index := 0#32
  ![0, v1200.toNat, 0]
def k0_off26 (k0_t5 : Fin k0_t5_loop.trips) : Fin 2 → Nat :=
  let c8_i32 : BitVec 32 := 8#32
  let c1_i32_409 : BitVec 32 := 1#32
  let arg21 : BitVec 32 := Scf.iv c8_i32 c1_i32_409 k0_t5
  let c1024_i32_827 : BitVec 32 := 1024#32
  let v1199 : BitVec 32 := Scalar.muli arg21 c1024_i32_827
  let v1210 : Index := Scalar.indexCast v1199
  let c0_834 : Index := 0#32
  ![v1210.toNat, 0]
def k0_off27 (k0_t5 : Fin k0_t5_loop.trips) : Fin 3 → Nat :=
  let c0_837 : Index := 0#32
  let c8_i32 : BitVec 32 := 8#32
  let c1_i32_409 : BitVec 32 := 1#32
  let arg21 : BitVec 32 := Scf.iv c8_i32 c1_i32_409 k0_t5
  let c1024_i32_827 : BitVec 32 := 1024#32
  let v1199 : BitVec 32 := Scalar.muli arg21 c1024_i32_827
  let v1221 : Index := Scalar.indexCast v1199
  let c0_838 : Index := 0#32
  ![0, v1221.toNat, 0]
def k0_off28 (k0_t5 : Fin k0_t5_loop.trips) : Fin 3 → Nat :=
  let c0_847 : Index := 0#32
  let c0_848 : Index := 0#32
  let c8_i32 : BitVec 32 := 8#32
  let c1_i32_409 : BitVec 32 := 1#32
  let arg21 : BitVec 32 := Scf.iv c8_i32 c1_i32_409 k0_t5
  let c1024_i32_827 : BitVec 32 := 1024#32
  let v1199 : BitVec 32 := Scalar.muli arg21 c1024_i32_827
  let v1241 : Index := Scalar.indexCast v1199
  ![0, 0, v1241.toNat]
def k0_off29 (k0_t5 : Fin k0_t5_loop.trips) : Fin 3 → Nat :=
  let c0_849 : Index := 0#32
  let c0_850 : Index := 0#32
  let c8_i32 : BitVec 32 := 8#32
  let c1_i32_409 : BitVec 32 := 1#32
  let arg21 : BitVec 32 := Scf.iv c8_i32 c1_i32_409 k0_t5
  let c1024_i32_827 : BitVec 32 := 1024#32
  let v1199 : BitVec 32 := Scalar.muli arg21 c1024_i32_827
  let v1245 : Index := Scalar.indexCast v1199
  ![0, 0, v1245.toNat]
def k0_off30 (k0_t5 : Fin k0_t5_loop.trips) : Fin 2 → Nat :=
  let c0_861 : Index := 0#32
  let c8_i32 : BitVec 32 := 8#32
  let c1_i32_409 : BitVec 32 := 1#32
  let arg21 : BitVec 32 := Scf.iv c8_i32 c1_i32_409 k0_t5
  let c1024_i32_827 : BitVec 32 := 1024#32
  let v1199 : BitVec 32 := Scalar.muli arg21 c1024_i32_827
  let v1265 : Index := Scalar.indexCast v1199
  ![0, v1265.toNat]
@[reducible] def k0_t6_loop : Scf.Loop 32 :=
  let c10_i32_511 : BitVec 32 := 10#32
  let c6_i32_512 : BitVec 32 := 6#32
  let v750 : BitVec 32 := Scalar.addi c10_i32_511 c6_i32_512
  let c1_i32_513 : BitVec 32 := 1#32
  ⟨c10_i32_511, v750, c1_i32_513⟩
def k0_off31 (k0_t6 : Fin k0_t6_loop.trips) : Fin 3 → Nat :=
  let c0_828 : Index := 0#32
  let c10_i32_511 : BitVec 32 := 10#32
  let c1_i32_513 : BitVec 32 := 1#32
  let arg21 : BitVec 32 := Scf.iv c10_i32_511 c1_i32_513 k0_t6
  let c1024_i32_827 : BitVec 32 := 1024#32
  let v1199 : BitVec 32 := Scalar.muli arg21 c1024_i32_827
  let v1200 : Index := Scalar.indexCast v1199
  let c0_829 : Index := 0#32
  ![0, v1200.toNat, 0]
def k0_off32 (k0_t6 : Fin k0_t6_loop.trips) : Fin 2 → Nat :=
  let c10_i32_511 : BitVec 32 := 10#32
  let c1_i32_513 : BitVec 32 := 1#32
  let arg21 : BitVec 32 := Scf.iv c10_i32_511 c1_i32_513 k0_t6
  let c1024_i32_827 : BitVec 32 := 1024#32
  let v1199 : BitVec 32 := Scalar.muli arg21 c1024_i32_827
  let v1210 : Index := Scalar.indexCast v1199
  let c0_834 : Index := 0#32
  ![v1210.toNat, 0]
def k0_off33 (k0_t6 : Fin k0_t6_loop.trips) : Fin 3 → Nat :=
  let c0_837 : Index := 0#32
  let c10_i32_511 : BitVec 32 := 10#32
  let c1_i32_513 : BitVec 32 := 1#32
  let arg21 : BitVec 32 := Scf.iv c10_i32_511 c1_i32_513 k0_t6
  let c1024_i32_827 : BitVec 32 := 1024#32
  let v1199 : BitVec 32 := Scalar.muli arg21 c1024_i32_827
  let v1221 : Index := Scalar.indexCast v1199
  let c0_838 : Index := 0#32
  ![0, v1221.toNat, 0]
def k0_off34 (k0_t6 : Fin k0_t6_loop.trips) : Fin 3 → Nat :=
  let c0_847 : Index := 0#32
  let c0_848 : Index := 0#32
  let c10_i32_511 : BitVec 32 := 10#32
  let c1_i32_513 : BitVec 32 := 1#32
  let arg21 : BitVec 32 := Scf.iv c10_i32_511 c1_i32_513 k0_t6
  let c1024_i32_827 : BitVec 32 := 1024#32
  let v1199 : BitVec 32 := Scalar.muli arg21 c1024_i32_827
  let v1241 : Index := Scalar.indexCast v1199
  ![0, 0, v1241.toNat]
def k0_off35 (k0_t6 : Fin k0_t6_loop.trips) : Fin 3 → Nat :=
  let c0_849 : Index := 0#32
  let c0_850 : Index := 0#32
  let c10_i32_511 : BitVec 32 := 10#32
  let c1_i32_513 : BitVec 32 := 1#32
  let arg21 : BitVec 32 := Scf.iv c10_i32_511 c1_i32_513 k0_t6
  let c1024_i32_827 : BitVec 32 := 1024#32
  let v1199 : BitVec 32 := Scalar.muli arg21 c1024_i32_827
  let v1245 : Index := Scalar.indexCast v1199
  ![0, 0, v1245.toNat]
def k0_off36 (k0_t6 : Fin k0_t6_loop.trips) : Fin 2 → Nat :=
  let c0_861 : Index := 0#32
  let c10_i32_511 : BitVec 32 := 10#32
  let c1_i32_513 : BitVec 32 := 1#32
  let arg21 : BitVec 32 := Scf.iv c10_i32_511 c1_i32_513 k0_t6
  let c1024_i32_827 : BitVec 32 := 1024#32
  let v1199 : BitVec 32 := Scalar.muli arg21 c1024_i32_827
  let v1265 : Index := Scalar.indexCast v1199
  ![0, v1265.toNat]
@[reducible] def k0_t7_loop : Scf.Loop 32 :=
  let c12_i32_614 : BitVec 32 := 12#32
  let c4_i32_615 : BitVec 32 := 4#32
  let v899 : BitVec 32 := Scalar.addi c12_i32_614 c4_i32_615
  let c1_i32_616 : BitVec 32 := 1#32
  ⟨c12_i32_614, v899, c1_i32_616⟩
def k0_off37 (k0_t7 : Fin k0_t7_loop.trips) : Fin 3 → Nat :=
  let c0_828 : Index := 0#32
  let c12_i32_614 : BitVec 32 := 12#32
  let c1_i32_616 : BitVec 32 := 1#32
  let arg21 : BitVec 32 := Scf.iv c12_i32_614 c1_i32_616 k0_t7
  let c1024_i32_827 : BitVec 32 := 1024#32
  let v1199 : BitVec 32 := Scalar.muli arg21 c1024_i32_827
  let v1200 : Index := Scalar.indexCast v1199
  let c0_829 : Index := 0#32
  ![0, v1200.toNat, 0]
def k0_off38 (k0_t7 : Fin k0_t7_loop.trips) : Fin 2 → Nat :=
  let c12_i32_614 : BitVec 32 := 12#32
  let c1_i32_616 : BitVec 32 := 1#32
  let arg21 : BitVec 32 := Scf.iv c12_i32_614 c1_i32_616 k0_t7
  let c1024_i32_827 : BitVec 32 := 1024#32
  let v1199 : BitVec 32 := Scalar.muli arg21 c1024_i32_827
  let v1210 : Index := Scalar.indexCast v1199
  let c0_834 : Index := 0#32
  ![v1210.toNat, 0]
def k0_off39 (k0_t7 : Fin k0_t7_loop.trips) : Fin 3 → Nat :=
  let c0_837 : Index := 0#32
  let c12_i32_614 : BitVec 32 := 12#32
  let c1_i32_616 : BitVec 32 := 1#32
  let arg21 : BitVec 32 := Scf.iv c12_i32_614 c1_i32_616 k0_t7
  let c1024_i32_827 : BitVec 32 := 1024#32
  let v1199 : BitVec 32 := Scalar.muli arg21 c1024_i32_827
  let v1221 : Index := Scalar.indexCast v1199
  let c0_838 : Index := 0#32
  ![0, v1221.toNat, 0]
def k0_off40 (k0_t7 : Fin k0_t7_loop.trips) : Fin 3 → Nat :=
  let c0_847 : Index := 0#32
  let c0_848 : Index := 0#32
  let c12_i32_614 : BitVec 32 := 12#32
  let c1_i32_616 : BitVec 32 := 1#32
  let arg21 : BitVec 32 := Scf.iv c12_i32_614 c1_i32_616 k0_t7
  let c1024_i32_827 : BitVec 32 := 1024#32
  let v1199 : BitVec 32 := Scalar.muli arg21 c1024_i32_827
  let v1241 : Index := Scalar.indexCast v1199
  ![0, 0, v1241.toNat]
def k0_off41 (k0_t7 : Fin k0_t7_loop.trips) : Fin 3 → Nat :=
  let c0_849 : Index := 0#32
  let c0_850 : Index := 0#32
  let c12_i32_614 : BitVec 32 := 12#32
  let c1_i32_616 : BitVec 32 := 1#32
  let arg21 : BitVec 32 := Scf.iv c12_i32_614 c1_i32_616 k0_t7
  let c1024_i32_827 : BitVec 32 := 1024#32
  let v1199 : BitVec 32 := Scalar.muli arg21 c1024_i32_827
  let v1245 : Index := Scalar.indexCast v1199
  ![0, 0, v1245.toNat]
def k0_off42 (k0_t7 : Fin k0_t7_loop.trips) : Fin 2 → Nat :=
  let c0_861 : Index := 0#32
  let c12_i32_614 : BitVec 32 := 12#32
  let c1_i32_616 : BitVec 32 := 1#32
  let arg21 : BitVec 32 := Scf.iv c12_i32_614 c1_i32_616 k0_t7
  let c1024_i32_827 : BitVec 32 := 1024#32
  let v1199 : BitVec 32 := Scalar.muli arg21 c1024_i32_827
  let v1265 : Index := Scalar.indexCast v1199
  ![0, v1265.toNat]
@[reducible] def k0_t8_loop : Scf.Loop 32 :=
  let c14_i32_717 : BitVec 32 := 14#32
  let c2_i32_718 : BitVec 32 := 2#32
  let v1048 : BitVec 32 := Scalar.addi c14_i32_717 c2_i32_718
  let c1_i32_719 : BitVec 32 := 1#32
  ⟨c14_i32_717, v1048, c1_i32_719⟩
def k0_off43 (k0_t8 : Fin k0_t8_loop.trips) : Fin 3 → Nat :=
  let c0_828 : Index := 0#32
  let c14_i32_717 : BitVec 32 := 14#32
  let c1_i32_719 : BitVec 32 := 1#32
  let arg21 : BitVec 32 := Scf.iv c14_i32_717 c1_i32_719 k0_t8
  let c1024_i32_827 : BitVec 32 := 1024#32
  let v1199 : BitVec 32 := Scalar.muli arg21 c1024_i32_827
  let v1200 : Index := Scalar.indexCast v1199
  let c0_829 : Index := 0#32
  ![0, v1200.toNat, 0]
def k0_off44 (k0_t8 : Fin k0_t8_loop.trips) : Fin 2 → Nat :=
  let c14_i32_717 : BitVec 32 := 14#32
  let c1_i32_719 : BitVec 32 := 1#32
  let arg21 : BitVec 32 := Scf.iv c14_i32_717 c1_i32_719 k0_t8
  let c1024_i32_827 : BitVec 32 := 1024#32
  let v1199 : BitVec 32 := Scalar.muli arg21 c1024_i32_827
  let v1210 : Index := Scalar.indexCast v1199
  let c0_834 : Index := 0#32
  ![v1210.toNat, 0]
def k0_off45 (k0_t8 : Fin k0_t8_loop.trips) : Fin 3 → Nat :=
  let c0_837 : Index := 0#32
  let c14_i32_717 : BitVec 32 := 14#32
  let c1_i32_719 : BitVec 32 := 1#32
  let arg21 : BitVec 32 := Scf.iv c14_i32_717 c1_i32_719 k0_t8
  let c1024_i32_827 : BitVec 32 := 1024#32
  let v1199 : BitVec 32 := Scalar.muli arg21 c1024_i32_827
  let v1221 : Index := Scalar.indexCast v1199
  let c0_838 : Index := 0#32
  ![0, v1221.toNat, 0]
def k0_off46 (k0_t8 : Fin k0_t8_loop.trips) : Fin 3 → Nat :=
  let c0_847 : Index := 0#32
  let c0_848 : Index := 0#32
  let c14_i32_717 : BitVec 32 := 14#32
  let c1_i32_719 : BitVec 32 := 1#32
  let arg21 : BitVec 32 := Scf.iv c14_i32_717 c1_i32_719 k0_t8
  let c1024_i32_827 : BitVec 32 := 1024#32
  let v1199 : BitVec 32 := Scalar.muli arg21 c1024_i32_827
  let v1241 : Index := Scalar.indexCast v1199
  ![0, 0, v1241.toNat]
def k0_off47 (k0_t8 : Fin k0_t8_loop.trips) : Fin 3 → Nat :=
  let c0_849 : Index := 0#32
  let c0_850 : Index := 0#32
  let c14_i32_717 : BitVec 32 := 14#32
  let c1_i32_719 : BitVec 32 := 1#32
  let arg21 : BitVec 32 := Scf.iv c14_i32_717 c1_i32_719 k0_t8
  let c1024_i32_827 : BitVec 32 := 1024#32
  let v1199 : BitVec 32 := Scalar.muli arg21 c1024_i32_827
  let v1245 : Index := Scalar.indexCast v1199
  ![0, 0, v1245.toNat]
def k0_off48 (k0_t8 : Fin k0_t8_loop.trips) : Fin 2 → Nat :=
  let c0_861 : Index := 0#32
  let c14_i32_717 : BitVec 32 := 14#32
  let c1_i32_719 : BitVec 32 := 1#32
  let arg21 : BitVec 32 := Scf.iv c14_i32_717 c1_i32_719 k0_t8
  let c1024_i32_827 : BitVec 32 := 1024#32
  let v1199 : BitVec 32 := Scalar.muli arg21 c1024_i32_827
  let v1265 : Index := Scalar.indexCast v1199
  ![0, v1265.toNat]
@[reducible] def k0_t9_loop : Scf.Loop 32 :=
  let c0_i32_823 : BitVec 32 := 0#32
  let c16_i32_824 : BitVec 32 := 16#32
  let v1198 : BitVec 32 := Scalar.addi c0_i32_823 c16_i32_824
  let c1_i32_825 : BitVec 32 := 1#32
  ⟨c0_i32_823, v1198, c1_i32_825⟩
def k0_off49 (k0_t9 : Fin k0_t9_loop.trips) : Fin 2 → Nat :=
  let c0_828 : Index := 0#32
  let c0_i32_823 : BitVec 32 := 0#32
  let c1_i32_825 : BitVec 32 := 1#32
  let arg21 : BitVec 32 := Scf.iv c0_i32_823 c1_i32_825 k0_t9
  let c1024_i32_827 : BitVec 32 := 1024#32
  let v1199 : BitVec 32 := Scalar.muli arg21 c1024_i32_827
  let v1200 : Index := Scalar.indexCast v1199
  ![0, v1200.toNat]
def k0_off50 (k0_t9 : Fin k0_t9_loop.trips) : Fin 3 → Nat :=
  let c0_829 : Index := 0#32
  let c0_830 : Index := 0#32
  let c0_i32_823 : BitVec 32 := 0#32
  let c1_i32_825 : BitVec 32 := 1#32
  let arg21 : BitVec 32 := Scf.iv c0_i32_823 c1_i32_825 k0_t9
  let c1024_i32_827 : BitVec 32 := 1024#32
  let v1199 : BitVec 32 := Scalar.muli arg21 c1024_i32_827
  let v1202 : Index := Scalar.indexCast v1199
  ![0, 0, v1202.toNat]
def k0_off51 (k0_t9 : Fin k0_t9_loop.trips) : Fin 3 → Nat :=
  let c0_831 : Index := 0#32
  let c0_i32_823 : BitVec 32 := 0#32
  let c1_i32_825 : BitVec 32 := 1#32
  let arg21 : BitVec 32 := Scf.iv c0_i32_823 c1_i32_825 k0_t9
  let c1024_i32_827 : BitVec 32 := 1024#32
  let v1199 : BitVec 32 := Scalar.muli arg21 c1024_i32_827
  let v1209 : Index := Scalar.indexCast v1199
  let c0_832 : Index := 0#32
  ![0, v1209.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384x96 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16384x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x96x16384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x96x16384 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x16384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 2 → Memref sig .tc .vmem S1x16384x96 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16384x96 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x96x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x96x2048 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x16384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x16384x96 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 2 → Memref sig .tc .vmem S1x96x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x96x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S6x2048x32x96 : Shape := ⟨4, ![6, 2048, 32, 96]⟩
abbrev S32 : Shape := ⟨1, ![32]⟩
abbrev S6x2048x4x96 : Shape := ⟨4, ![6, 2048, 4, 96]⟩
abbrev S4 : Shape := ⟨1, ![4]⟩
abbrev S6x32x2048 : Shape := ⟨3, ![6, 32, 2048]⟩
abbrev S6x2048 : Shape := ⟨2, ![6, 2048]⟩
abbrev S6x2048x8x4x96 : Shape := ⟨5, ![6, 2048, 8, 4, 96]⟩
abbrev S8x4 : Shape := ⟨2, ![8, 4]⟩
abbrev S6x8x4x2048 : Shape := ⟨4, ![6, 8, 4, 2048]⟩
abbrev S1x4 : Shape := ⟨2, ![1, 4]⟩
abbrev S_ : Shape := ⟨0, ![]⟩
abbrev S6x2048x1x1x1 : Shape := ⟨5, ![6, 2048, 1, 1, 1]⟩
abbrev S1x1x8x4x1 : Shape := ⟨5, ![1, 1, 8, 4, 1]⟩
abbrev S6x4x2048x2048x8 : Shape := ⟨5, ![6, 4, 2048, 2048, 8]⟩
abbrev S6x8x4x2048x2048 : Shape := ⟨5, ![6, 8, 4, 2048, 2048]⟩
abbrev S1x8x4x1x1 : Shape := ⟨5, ![1, 8, 4, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S6x8x4x2048x1 : Shape := ⟨5, ![6, 8, 4, 2048, 1]⟩
abbrev S6x1x1x2048x1 : Shape := ⟨5, ![6, 1, 1, 2048, 1]⟩
abbrev S1x1x4x1x1 : Shape := ⟨5, ![1, 1, 4, 1, 1]⟩
abbrev S6x4x96x8x2048 : Shape := ⟨5, ![6, 4, 96, 8, 2048]⟩
abbrev S1x1x1x4x1 : Shape := ⟨5, ![1, 1, 1, 4, 1]⟩
abbrev S6x4x96x2048 : Shape := ⟨4, ![6, 4, 96, 2048]⟩

abbrev nBuf : Space → Nat
  | .hbm => 92
  | .vmem => 8
  | .smem => 0
  | _ => 0

abbrev bufTy : (tb : Table) → Fin (tcTables nBuf tb) → BufTy
  | .hbm, ⟨0, _⟩ => ⟨S6x2048x32x96, .fp8e4m3⟩
  | .hbm, ⟨1, _⟩ => ⟨S32, .f32⟩
  | .hbm, ⟨2, _⟩ => ⟨S6x2048x4x96, .fp8e4m3⟩
  | .hbm, ⟨3, _⟩ => ⟨S4, .f32⟩
  | .hbm, ⟨4, _⟩ => ⟨S6x2048x4x96, .fp8e4m3⟩
  | .hbm, ⟨5, _⟩ => ⟨S4, .f32⟩
  | .hbm, ⟨6, _⟩ => ⟨S6x2048x32x96, .bf16⟩
  | .hbm, ⟨7, _⟩ => ⟨S6x32x2048, .f32⟩
  | .hbm, ⟨8, _⟩ => ⟨S6x2048x32x96, .fp8e5m2⟩
  | .hbm, ⟨9, _⟩ => ⟨S6x2048, .f32⟩
  | .hbm, ⟨10, _⟩ => ⟨S6x2048x32x96, .bf16⟩
  | .hbm, ⟨11, _⟩ => ⟨S6x2048x4x96, .bf16⟩
  | .hbm, ⟨12, _⟩ => ⟨S6x2048x4x96, .bf16⟩
  | .hbm, ⟨13, _⟩ => ⟨S6x2048x32x96, .bf16⟩
  | .hbm, ⟨14, _⟩ => ⟨S6x2048x8x4x96, .bf16⟩
  | .hbm, ⟨15, _⟩ => ⟨S6x2048x8x4x96, .bf16⟩
  | .hbm, ⟨16, _⟩ => ⟨S8x4, .f32⟩
  | .hbm, ⟨17, _⟩ => ⟨S6x8x4x2048, .f32⟩
  | .hbm, ⟨18, _⟩ => ⟨S1x4, .f32⟩
  | .hbm, ⟨19, _⟩ => ⟨S8x4, .f32⟩
  | .hbm, ⟨20, _⟩ => ⟨S8x4, .f32⟩
  | .hbm, ⟨21, _⟩ => ⟨S_, .f32⟩
  | .hbm, ⟨22, _⟩ => ⟨S8x4, .f32⟩
  | .hbm, ⟨23, _⟩ => ⟨S8x4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S6x2048x8x4x96, .f32⟩
  | .hbm, ⟨28, _⟩ => ⟨S6x2048x1x1x1, .f32⟩
  | .hbm, ⟨29, _⟩ => ⟨S6x2048x8x4x96, .f32⟩
  | .hbm, ⟨30, _⟩ => ⟨S6x2048x8x4x96, .f32⟩
  | .hbm, ⟨31, _⟩ => ⟨S6x2048x8x4x96, .bf16⟩
  | .hbm, ⟨32, _⟩ => ⟨S6x2048x8x4x96, .f32⟩
  | .hbm, ⟨33, _⟩ => ⟨S6x8x4x2048, .f32⟩
  | .hbm, ⟨34, _⟩ => ⟨S8x4, .bf16⟩
  | .hbm, ⟨35, _⟩ => ⟨S1x1x8x4x1, .bf16⟩
  | .hbm, ⟨36, _⟩ => ⟨S6x2048x8x4x96, .bf16⟩
  | .hbm, ⟨37, _⟩ => ⟨S6x2048x8x4x96, .bf16⟩
  | .hbm, ⟨38, _⟩ => ⟨S6x2048, .bf16⟩
  | .hbm, ⟨39, _⟩ => ⟨S6x2048x1x1x1, .bf16⟩
  | .hbm, ⟨40, _⟩ => ⟨S6x2048x8x4x96, .bf16⟩
  | .hbm, ⟨41, _⟩ => ⟨S6x2048x8x4x96, .bf16⟩
  | .hbm, ⟨42, _⟩ => ⟨S6x4x2048x2048x8, .f32⟩
  | .hbm, ⟨43, _⟩ => ⟨S6x8x4x2048x2048, .f32⟩
  | .hbm, ⟨44, _⟩ => ⟨S1x8x4x1x1, .f32⟩
  | .hbm, ⟨45, _⟩ => ⟨S6x8x4x2048x2048, .f32⟩
  | .hbm, ⟨46, _⟩ => ⟨S6x8x4x2048x2048, .f32⟩
  | .hbm, ⟨47, _⟩ => ⟨S2048, .i32⟩
  | .hbm, ⟨48, _⟩ => ⟨S1x2048, .i32⟩
  | .hbm, ⟨49, _⟩ => ⟨S2048x1, .i32⟩
  | .hbm, ⟨50, _⟩ => ⟨S2048x2048, .i32⟩
  | .hbm, ⟨51, _⟩ => ⟨S2048x2048, .i32⟩
  | .hbm, ⟨52, _⟩ => ⟨S2048x2048, .i1⟩
  | .hbm, ⟨53, _⟩ => ⟨S_, .f32⟩
  | .hbm, ⟨54, _⟩ => ⟨S_, .f32⟩
  | .hbm, ⟨55, _⟩ => ⟨S6x8x4x2048x2048, .i1⟩
  | .hbm, ⟨56, _⟩ => ⟨S6x8x4x2048x2048, .f32⟩
  | .hbm, ⟨57, _⟩ => ⟨S6x8x4x2048x2048, .f32⟩
  | .hbm, ⟨58, _⟩ => ⟨S6x8x4x2048x1, .f32⟩
  | .hbm, ⟨59, _⟩ => ⟨S6x8x4x2048x2048, .f32⟩
  | .hbm, ⟨60, _⟩ => ⟨S6x8x4x2048x2048, .f32⟩
  | .hbm, ⟨61, _⟩ => ⟨S6x8x4x2048x2048, .f32⟩
  | .hbm, ⟨62, _⟩ => ⟨S6x4x2048x2048x8, .f32⟩
  | .hbm, ⟨63, _⟩ => ⟨S6x8x4x2048x2048, .f32⟩
  | .hbm, ⟨64, _⟩ => ⟨S6x1x1x2048x1, .f32⟩
  | .hbm, ⟨65, _⟩ => ⟨S6x8x4x2048x2048, .f32⟩
  | .hbm, ⟨66, _⟩ => ⟨S6x8x4x2048x2048, .f32⟩
  | .hbm, ⟨67, _⟩ => ⟨S1x1x4x1x1, .f32⟩
  | .hbm, ⟨68, _⟩ => ⟨S6x8x4x2048x2048, .f32⟩
  | .hbm, ⟨69, _⟩ => ⟨S6x8x4x2048x2048, .f32⟩
  | .hbm, ⟨70, _⟩ => ⟨S6x8x4x2048x1, .f32⟩
  | .hbm, ⟨71, _⟩ => ⟨S6x8x4x2048x2048, .f32⟩
  | .hbm, ⟨72, _⟩ => ⟨S6x8x4x2048x2048, .f32⟩
  | .hbm, ⟨73, _⟩ => ⟨S6x8x4x2048x2048, .f32⟩
  | .hbm, ⟨74, _⟩ => ⟨S6x8x4x2048x2048, .bf16⟩
  | .hbm, ⟨75, _⟩ => ⟨S6x4x96x8x2048, .f32⟩
  | .hbm, ⟨76, _⟩ => ⟨S6x2048x8x4x96, .f32⟩
  | .hbm, ⟨77, _⟩ => ⟨S1x1x1x4x1, .f32⟩
  | .hbm, ⟨78, _⟩ => ⟨S6x2048x8x4x96, .f32⟩
  | .hbm, ⟨79, _⟩ => ⟨S6x2048x8x4x96, .f32⟩
  | .hbm, ⟨80, _⟩ => ⟨S6x2048x8x4x96, .bf16⟩
  | .hbm, ⟨81, _⟩ => ⟨S6x2048x32x96, .bf16⟩
  | .hbm, ⟨82, _⟩ => ⟨S6x4x96x2048, .f32⟩
  | .hbm, ⟨83, _⟩ => ⟨S6x2048x4x96, .f32⟩
  | .hbm, ⟨84, _⟩ => ⟨S_, .f32⟩
  | .hbm, ⟨85, _⟩ => ⟨S6x2048x4x96, .f32⟩
  | .hbm, ⟨86, _⟩ => ⟨S6x2048x4x96, .f32⟩
  | .hbm, ⟨87, _⟩ => ⟨S6x8x4x2048x2048, .bf16⟩
  | .hbm, ⟨88, _⟩ => ⟨S6x4x96x2048, .f32⟩
  | .hbm, ⟨89, _⟩ => ⟨S6x2048x4x96, .f32⟩
  | .hbm, ⟨90, _⟩ => ⟨S6x2048x4x96, .bf16⟩
  | .hbm, ⟨91, _⟩ => ⟨S6x2048x4x96, .bf16⟩
  | .local _ .vmem, ⟨0, _⟩ => ⟨S6x2048x32x96, .fp8e4m3⟩
  | .local _ .vmem, ⟨1, _⟩ => ⟨S6x2048x4x96, .fp8e4m3⟩
  | .local _ .vmem, ⟨2, _⟩ => ⟨S6x2048x4x96, .fp8e4m3⟩
  | .local _ .vmem, ⟨3, _⟩ => ⟨S6x2048x32x96, .fp8e5m2⟩
  | .local _ .vmem, ⟨4, _⟩ => ⟨S6x2048x32x96, .bf16⟩
  | .local _ .vmem, ⟨5, _⟩ => ⟨S6x2048x4x96, .bf16⟩
  | .local _ .vmem, ⟨6, _⟩ => ⟨S6x2048x4x96, .bf16⟩
  | .local _ .vmem, ⟨7, _⟩ => ⟨S6x2048x32x96, .bf16⟩
  | _, _ => ⟨S6x2048x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_1 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_2 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x2048x32x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x4x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2048x4x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x2048x32x96 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x32x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2048x4x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2048x4x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2048x32x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Blocks.lean ====
module

public import proofs.«01_k».proof.Proof.Gen.KernelIdeal
public import proofs.«01_k».proof.Proof.Gen.KernelIdeal.Skeleton
public import Idealize.ShloMosaic.Lib.Pointwise
public import Idealize.ShloMosaic.Lib.ValueIdx
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Blocks

A grid point's arrays are read and written one block of rows (or one block of keys) at a time; `blkX x i` is block `i` of the
array `x`. -/

theorem inbD (i : Fin 16) : ∀ a, (![0, 1024 * i.val, 0] : Fin 3 → Nat) a + S1x1024x96.size a ≤ S1x16384x96.size a := by
  intro a; have := i.isLt; fin_cases a <;> simp [S1x16384x96, S1x1024x96] <;> omega

/-- Block `i` of an array of this shape. -/
def blkD {e : EltTy} (x : Vec F S1x16384x96 e) (i : Fin 16) : Vec F S1x1024x96 e :=
  fun y => x ((Rect.unit (s := S1x16384x96) ![0, 1024 * i.val, 0] S1x1024x96.size (inbD i)).emb y)

/-- A load of block `i` reads it. -/
theorem rdD {sp : Space} {e : EltTy} (m : Memref sig .tc sp S1x16384x96 e) (X : BufTy.Contents (Elt F) m.view.ty) (i : Fin 16)
    {o : Fin 3 → Nat} (h : o = ![0, 1024 * i.val, 0]) (inb : ∀ a, o a + S1x1024x96.size a ≤ S1x16384x96.size a) :
    m.view.readAt (Elt F) (Rect.unit (s := S1x16384x96) o S1x1024x96.size inb).toLoadRect X = blkD (m.view.read (Elt F) X) i := by
  subst h; rfl

theorem inbC (i : Fin 16) : ∀ a, (![0, 1024 * i.val, 0] : Fin 3 → Nat) a + S1x1024x1.size a ≤ S1x16384x1.size a := by
  intro a; have := i.isLt; fin_cases a <;> simp [S1x16384x1, S1x1024x1] <;> omega

/-- Block `i` of an array of this shape. -/
def blkC {e : EltTy} (x : Vec F S1x16384x1 e) (i : Fin 16) : Vec F S1x1024x1 e :=
  fun y => x ((Rect.unit (s := S1x16384x1) ![0, 1024 * i.val, 0] S1x1024x1.size (inbC i)).emb y)

/-- A load of block `i` reads it. -/
theorem rdC {sp : Space} {e : EltTy} (m : Memref sig .tc sp S1x16384x1 e) (X : BufTy.Contents (Elt F) m.view.ty) (i : Fin 16)
    {o : Fin 3 → Nat} (h : o = ![0, 1024 * i.val, 0]) (inb : ∀ a, o a + S1x1024x1.size a ≤ S1x16384x1.size a) :
    m.view.readAt (Elt F) (Rect.unit (s := S1x16384x1) o S1x1024x1.size inb).toLoadRect X = blkC (m.view.read (Elt F) X) i := by
  subst h; rfl

theorem inbT (i : Fin 16) : ∀ a, (![0, 0, 1024 * i.val] : Fin 3 → Nat) a + S1x96x1024.size a ≤ S1x96x16384.size a := by
  intro a; have := i.isLt; fin_cases a <;> simp [S1x96x16384, S1x96x1024] <;> omega

/-- Block `i` of an array of this shape. -/
def blkT {e : EltTy} (x : Vec F S1x96x16384 e) (i : Fin 16) : Vec F S1x96x1024 e :=
  fun y => x ((Rect.unit (s := S1x96x16384) ![0, 0, 1024 * i.val] S1x96x1024.size (inbT i)).emb y)

/-- A load of block `i` reads it. -/
theorem rdT {sp : Space} {e : EltTy} (m : Memref sig .tc sp S1x96x16384 e) (X : BufTy.Contents (Elt F) m.view.ty) (i : Fin 16)
    {o : Fin 3 → Nat} (h : o = ![0, 0, 1024 * i.val]) (inb : ∀ a, o a + S1x96x1024.size a ≤ S1x96x16384.size a) :
    m.view.readAt (Elt F) (Rect.unit (s := S1x96x16384) o S1x96x1024.size inb).toLoadRect X = blkT (m.view.read (Elt F) X) i := by
  subst h; rfl

theorem inbR (i : Fin 16) : ∀ a, (![0, 0, 1024 * i.val] : Fin 3 → Nat) a + S1x1x1024.size a ≤ S1x1x16384.size a := by
  intro a; have := i.isLt; fin_cases a <;> simp [S1x1x16384, S1x1x1024] <;> omega

/-- Block `i` of an array of this shape. -/
def blkR {e : EltTy} (x : Vec F S1x1x16384 e) (i : Fin 16) : Vec F S1x1x1024 e :=
  fun y => x ((Rect.unit (s := S1x1x16384) ![0, 0, 1024 * i.val] S1x1x1024.size (inbR i)).emb y)

/-- A load of block `i` reads it. -/
theorem rdR {sp : Space} {e : EltTy} (m : Memref sig .tc sp S1x1x16384 e) (X : BufTy.Contents (Elt F) m.view.ty) (i : Fin 16)
    {o : Fin 3 → Nat} (h : o = ![0, 0, 1024 * i.val]) (inb : ∀ a, o a + S1x1x1024.size a ≤ S1x1x16384.size a) :
    m.view.readAt (Elt F) (Rect.unit (s := S1x1x16384) o S1x1x1024.size inb).toLoadRect X = blkR (m.view.read (Elt F) X) i := by
  subst h; rfl

theorem inbK (i : Fin 8) : ∀ a, (![0, 0, 256 * i.val] : Fin 3 → Nat) a + S1x96x256.size a ≤ S1x96x2048.size a := by
  intro a; have := i.isLt; fin_cases a <;> simp [S1x96x2048, S1x96x256] <;> omega

/-- Block `i` of an array of this shape. -/
def blkK {e : EltTy} (x : Vec F S1x96x2048 e) (i : Fin 8) : Vec F S1x96x256 e :=
  fun y => x ((Rect.unit (s := S1x96x2048) ![0, 0, 256 * i.val] S1x96x256.size (inbK i)).emb y)

/-- A load of block `i` reads it. -/
theorem rdK {sp : Space} {e : EltTy} (m : Memref sig .tc sp S1x96x2048 e) (X : BufTy.Contents (Elt F) m.view.ty) (i : Fin 8)
    {o : Fin 3 → Nat} (h : o = ![0, 0, 256 * i.val]) (inb : ∀ a, o a + S1x96x256.size a ≤ S1x96x2048.size a) :
    m.view.readAt (Elt F) (Rect.unit (s := S1x96x2048) o S1x96x256.size inb).toLoadRect X = blkK (m.view.read (Elt F) X) i := by
  subst h; rfl

theorem inbL (i : Fin 16) : ∀ a, (![0, 0, 128 * i.val] : Fin 3 → Nat) a + S1x8x128.size a ≤ S1x8x2048.size a := by
  intro a; have := i.isLt; fin_cases a <;> simp [S1x8x2048, S1x8x128] <;> omega

/-- Block `i` of an array of this shape. -/
def blkL {e : EltTy} (x : Vec F S1x8x2048 e) (i : Fin 16) : Vec F S1x8x128 e :=
  fun y => x ((Rect.unit (s := S1x8x2048) ![0, 0, 128 * i.val] S1x8x128.size (inbL i)).emb y)

/-- A load of block `i` reads it. -/
theorem rdL {sp : Space} {e : EltTy} (m : Memref sig .tc sp S1x8x2048 e) (X : BufTy.Contents (Elt F) m.view.ty) (i : Fin 16)
    {o : Fin 3 → Nat} (h : o = ![0, 0, 128 * i.val]) (inb : ∀ a, o a + S1x8x128.size a ≤ S1x8x2048.size a) :
    m.view.readAt (Elt F) (Rect.unit (s := S1x8x2048) o S1x8x128.size inb).toLoadRect X = blkL (m.view.read (Elt F) X) i := by
  subst h; rfl

theorem inbS (i : Fin 16) : ∀ a, (![1024 * i.val, 0] : Fin 2 → Nat) a + S1024x128.size a ≤ S16384x128.size a := by
  intro a; have := i.isLt; fin_cases a <;> simp [S16384x128, S1024x128] <;> omega

/-- Block `i` of an array of this shape. -/
def blkS {e : EltTy} (x : Vec F S16384x128 e) (i : Fin 16) : Vec F S1024x128 e :=
  fun y => x ((Rect.unit (s := S16384x128) ![1024 * i.val, 0] S1024x128.size (inbS i)).emb y)

/-- A load of block `i` reads it. -/
theorem rdS {sp : Space} {e : EltTy} (m : Memref sig .tc sp S16384x128 e) (X : BufTy.Contents (Elt F) m.view.ty) (i : Fin 16)
    {o : Fin 2 → Nat} (h : o = ![1024 * i.val, 0]) (inb : ∀ a, o a + S1024x128.size a ≤ S16384x128.size a) :
    m.view.readAt (Elt F) (Rect.unit (s := S16384x128) o S1024x128.size inb).toLoadRect X = blkS (m.view.read (Elt F) X) i := by
  subst h; rfl

theorem inbQ (i : Fin 16) : ∀ a, (![0, 1024 * i.val] : Fin 2 → Nat) a + S96x1024.size a ≤ S96x16384.size a := by
  intro a; have := i.isLt; fin_cases a <;> simp [S96x16384, S96x1024] <;> omega

/-- Block `i` of an array of this shape. -/
def blkQ {e : EltTy} (x : Vec F S96x16384 e) (i : Fin 16) : Vec F S96x1024 e :=
  fun y => x ((Rect.unit (s := S96x16384) ![0, 1024 * i.val] S96x1024.size (inbQ i)).emb y)

/-- A load of block `i` reads it. -/
theorem rdQ {sp : Space} {e : EltTy} (m : Memref sig .tc sp S96x16384 e) (X : BufTy.Contents (Elt F) m.view.ty) (i : Fin 16)
    {o : Fin 2 → Nat} (h : o = ![0, 1024 * i.val]) (inb : ∀ a, o a + S96x1024.size a ≤ S96x16384.size a) :
    m.view.readAt (Elt F) (Rect.unit (s := S96x16384) o S96x1024.size inb).toLoadRect X = blkQ (m.view.read (Elt F) X) i := by
  subst h; rfl

/-- A store of block `i` is what block `i` holds, -/
theorem wrD_same {sp : Space} {e : EltTy} (m : Memref sig .tc sp S1x16384x96 e) (f : BufTy.Contents (Elt F) m.view.ty) (i : Fin 16)
    {o : Fin 3 → Nat} (h : o = ![0, 1024 * i.val, 0]) (inb : ∀ a, o a + S1x1024x96.size a ≤ S1x16384x96.size a) (w : Vec F S1x1024x96 e)
    (L : List (View.Piece (Elt F) S1x16384x96 e)) :
    blkD (m.view.read (Elt F) (m.view.writes (Elt F) f (⟨Rect.unit (s := S1x16384x96) o S1x1024x96.size inb, w⟩ :: L))) i = w := by
  subst h
  funext y
  exact View.read_writes_cons_emb m.view f (Rect.unit (s := S1x16384x96) _ S1x1024x96.size inb) w L y

/-- and leaves the other blocks. -/
theorem wrD_ne {sp : Space} {e : EltTy} (m : Memref sig .tc sp S1x16384x96 e) (f : BufTy.Contents (Elt F) m.view.ty) (i j : Fin 16) (hij : j ≠ i)
    {o : Fin 3 → Nat} (h : o = ![0, 1024 * i.val, 0]) (inb : ∀ a, o a + S1x1024x96.size a ≤ S1x16384x96.size a) (w : Vec F S1x1024x96 e)
    (L : List (View.Piece (Elt F) S1x16384x96 e)) :
    blkD (m.view.read (Elt F) (m.view.writes (Elt F) f (⟨Rect.unit (s := S1x16384x96) o S1x1024x96.size inb, w⟩ :: L))) j
      = blkD (m.view.read (Elt F) (m.view.writes (Elt F) f L)) j := by
  subst h
  funext y
  have hne : j.val ≠ i.val := fun h => hij (Fin.ext h)
  refine View.read_slice_write_of_not_mem (v := m.view) (Rect.unit (s := S1x16384x96) _ S1x1024x96.size inb) _ w Finset.univ ?_
  rw [Rect.map_emb_univ]
  intro hm
  have hy : (y 1).val < 1024 := (y 1).isLt
  obtain ⟨z, hz, e⟩ := (LoadRect.mem_set _).mp hm 1
  have hz' : z < 1024 := hz
  have e' : 1024 * j.val + 1 * (y 1).val = 1024 * i.val + 1 * z := e
  omega

/-- A store of block `i` is what block `i` holds, -/
theorem wrK_same {sp : Space} {e : EltTy} (m : Memref sig .tc sp S1x96x2048 e) (f : BufTy.Contents (Elt F) m.view.ty) (i : Fin 8)
    {o : Fin 3 → Nat} (h : o = ![0, 0, 256 * i.val]) (inb : ∀ a, o a + S1x96x256.size a ≤ S1x96x2048.size a) (w : Vec F S1x96x256 e)
    (L : List (View.Piece (Elt F) S1x96x2048 e)) :
    blkK (m.view.read (Elt F) (m.view.writes (Elt F) f (⟨Rect.unit (s := S1x96x2048) o S1x96x256.size inb, w⟩ :: L))) i = w := by
  subst h
  funext y
  exact View.read_writes_cons_emb m.view f (Rect.unit (s := S1x96x2048) _ S1x96x256.size inb) w L y

/-- and leaves the other blocks. -/
theorem wrK_ne {sp : Space} {e : EltTy} (m : Memref sig .tc sp S1x96x2048 e) (f : BufTy.Contents (Elt F) m.view.ty) (i j : Fin 8) (hij : j ≠ i)
    {o : Fin 3 → Nat} (h : o = ![0, 0, 256 * i.val]) (inb : ∀ a, o a + S1x96x256.size a ≤ S1x96x2048.size a) (w : Vec F S1x96x256 e)
    (L : List (View.Piece (Elt F) S1x96x2048 e)) :
    blkK (m.view.read (Elt F) (m.view.writes (Elt F) f (⟨Rect.unit (s := S1x96x2048) o S1x96x256.size inb, w⟩ :: L))) j
      = blkK (m.view.read (Elt F) (m.view.writes (Elt F) f L)) j := by
  subst h
  funext y
  have hne : j.val ≠ i.val := fun h => hij (Fin.ext h)
  refine View.read_slice_write_of_not_mem (v := m.view) (Rect.unit (s := S1x96x2048) _ S1x96x256.size inb) _ w Finset.univ ?_
  rw [Rect.map_emb_univ]
  intro hm
  have hy : (y 2).val < 256 := (y 2).isLt
  obtain ⟨z, hz, e⟩ := (LoadRect.mem_set _).mp hm 2
  have hz' : z < 256 := hz
  have e' : 256 * j.val + 1 * (y 2).val = 256 * i.val + 1 * z := e
  omega

/-- A store of block `i` is what block `i` holds, -/
theorem wrS_same {sp : Space} {e : EltTy} (m : Memref sig .tc sp S16384x128 e) (f : BufTy.Contents (Elt F) m.view.ty) (i : Fin 16)
    {o : Fin 2 → Nat} (h : o = ![1024 * i.val, 0]) (inb : ∀ a, o a + S1024x128.size a ≤ S16384x128.size a) (w : Vec F S1024x128 e)
    (L : List (View.Piece (Elt F) S16384x128 e)) :
    blkS (m.view.read (Elt F) (m.view.writes (Elt F) f (⟨Rect.unit (s := S16384x128) o S1024x128.size inb, w⟩ :: L))) i = w := by
  subst h
  funext y
  exact View.read_writes_cons_emb m.view f (Rect.unit (s := S16384x128) _ S1024x128.size inb) w L y

/-- and leaves the other blocks. -/
theorem wrS_ne {sp : Space} {e : EltTy} (m : Memref sig .tc sp S16384x128 e) (f : BufTy.Contents (Elt F) m.view.ty) (i j : Fin 16) (hij : j ≠ i)
    {o : Fin 2 → Nat} (h : o = ![1024 * i.val, 0]) (inb : ∀ a, o a + S1024x128.size a ≤ S16384x128.size a) (w : Vec F S1024x128 e)
    (L : List (View.Piece (Elt F) S16384x128 e)) :
    blkS (m.view.read (Elt F) (m.view.writes (Elt F) f (⟨Rect.unit (s := S16384x128) o S1024x128.size inb, w⟩ :: L))) j
      = blkS (m.view.read (Elt F) (m.view.writes (Elt F) f L)) j := by
  subst h
  funext y
  have hne : j.val ≠ i.val := fun h => hij (Fin.ext h)
  refine View.read_slice_write_of_not_mem (v := m.view) (Rect.unit (s := S16384x128) _ S1024x128.size inb) _ w Finset.univ ?_
  rw [Rect.map_emb_univ]
  intro hm
  have hy : (y 0).val < 1024 := (y 0).isLt
  obtain ⟨z, hz, e⟩ := (LoadRect.mem_set _).mp hm 0
  have hz' : z < 1024 := hz
  have e' : 1024 * j.val + 1 * (y 0).val = 1024 * i.val + 1 * z := e
  omega

/-- A store of block `i` is what block `i` holds, -/
theorem wrQ_same {sp : Space} {e : EltTy} (m : Memref sig .tc sp S96x16384 e) (f : BufTy.Contents (Elt F) m.view.ty) (i : Fin 16)
    {o : Fin 2 → Nat} (h : o = ![0, 1024 * i.val]) (inb : ∀ a, o a + S96x1024.size a ≤ S96x16384.size a) (w : Vec F S96x1024 e)
    (L : List (View.Piece (Elt F) S96x16384 e)) :
    blkQ (m.view.read (Elt F) (m.view.writes (Elt F) f (⟨Rect.unit (s := S96x16384) o S96x1024.size inb, w⟩ :: L))) i = w := by
  subst h
  funext y
  exact View.read_writes_cons_emb m.view f (Rect.unit (s := S96x16384) _ S96x1024.size inb) w L y

/-- and leaves the other blocks. -/
theorem wrQ_ne {sp : Space} {e : EltTy} (m : Memref sig .tc sp S96x16384 e) (f : BufTy.Contents (Elt F) m.view.ty) (i j : Fin 16) (hij : j ≠ i)
    {o : Fin 2 → Nat} (h : o = ![0, 1024 * i.val]) (inb : ∀ a, o a + S96x1024.size a ≤ S96x16384.size a) (w : Vec F S96x1024 e)
    (L : List (View.Piece (Elt F) S96x16384 e)) :
    blkQ (m.view.read (Elt F) (m.view.writes (Elt F) f (⟨Rect.unit (s := S96x16384) o S96x1024.size inb, w⟩ :: L))) j
      = blkQ (m.view.read (Elt F) (m.view.writes (Elt F) f L)) j := by
  subst h
  funext y
  have hne : j.val ≠ i.val := fun h => hij (Fin.ext h)
  refine View.read_slice_write_of_not_mem (v := m.view) (Rect.unit (s := S96x16384) _ S96x1024.size inb) _ w Finset.univ ?_
  rw [Rect.map_emb_univ]
  intro hm
  have hy : (y 1).val < 1024 := (y 1).isLt
  obtain ⟨z, hz, e⟩ := (LoadRect.mem_set _).mp hm 1
  have hz' : z < 1024 := hz
  have e' : 1024 * j.val + 1 * (y 1).val = 1024 * i.val + 1 * z := e
  omega

/-- Arrays that agree block by block are equal. -/
theorem extD {e : EltTy} {x x' : Vec F S1x16384x96 e} (h : ∀ i, blkD x i = blkD x' i) : x = x' := by
  funext j
  have hj : (j 1).val < 16384 := (j 1).isLt
  have h0 : (j 0).val = 0 := Nat.lt_one_iff.mp (j 0).isLt
  have e : ∀ z : Vec F S1x16384x96 e, z j = blkD z ⟨(j 1).val / 1024, by omega⟩ (fun a => match a with
      | ⟨0, _⟩ => (⟨0, Nat.one_pos⟩ : Fin 1) | ⟨1, _⟩ => (⟨(j 1).val % 1024, Nat.mod_lt _ (by decide)⟩ : Fin 1024) | ⟨2, _⟩ => j 2) := by
    intro z
    refine congrArg z (funext fun a => Fin.ext ?_)
    match a with
    | ⟨0, _⟩ => show (j 0).val = 0 + 1 * 0; omega
    | ⟨1, _⟩ => show (j 1).val = 1024 * ((j 1).val / 1024) + 1 * ((j 1).val % 1024); omega
    | ⟨2, _⟩ => show (j 2).val = 0 + 1 * (j 2).val; omega
  rw [e x, e x', h]

/-- Arrays that agree block by block are equal. -/
theorem extK {e : EltTy} {x x' : Vec F S1x96x2048 e} (h : ∀ i, blkK x i = blkK x' i) : x = x' := by
  funext j
  have hj : (j 2).val < 2048 := (j 2).isLt
  have h0 : (j 0).val = 0 := Nat.lt_one_iff.mp (j 0).isLt
  have e : ∀ z : Vec F S1x96x2048 e, z j = blkK z ⟨(j 2).val / 256, by omega⟩ (fun a => match a with
      | ⟨0, _⟩ => (⟨0, Nat.one_pos⟩ : Fin 1) | ⟨1, _⟩ => j 1 | ⟨2, _⟩ => (⟨(j 2).val % 256, Nat.mod_lt _ (by decide)⟩ : Fin 256)) := by
    intro z
    refine congrArg z (funext fun a => Fin.ext ?_)
    match a with
    | ⟨0, _⟩ => show (j 0).val = 0 + 1 * 0; omega
    | ⟨1, _⟩ => show (j 1).val = 0 + 1 * (j 1).val; omega
    | ⟨2, _⟩ => show (j 2).val = 256 * ((j 2).val / 256) + 1 * ((j 2).val % 256); omega
  rw [e x, e x', h]

end Cert.Proof.KernelIdeal

end
-- ==== Proof.Model.lean ====
module

public import proofs.«01_k».proof.Proof.Gen.KernelIdeal
public import proofs.«01_k».proof.Proof.Gen.KernelIdeal.Skeleton
public import proofs.«01_k».proof.Proof.Blocks
public import Idealize.ShloMosaic.Lib.ValueIdx
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## What one grid point computes

The values of one grid point, written block by block: rows of the query side come in sixteen blocks of 1024 (a row is
`8 * token + head`), keys in eight blocks of 256. -/

/-- The arrays one grid point reads: scales, the output gradient (rows, columns, each with its scales), the queries the same way, the
forward output, its log-sum-exp, keys, values, the value scale and the scale of `dq`. -/
structure In (F : FTy → Type) where
  sc : Vec F S1x8x128 .f32
  dor : Vec F S1x16384x96 .fp8e5m2
  dos : Vec F S1x16384x1 .bf16
  qt : Vec F S1x96x16384 .fp8e4m3
  qs : Vec F S1x1x16384 .bf16
  dot : Vec F S1x96x16384 .fp8e5m2
  dost : Vec F S1x1x16384 .bf16
  qr : Vec F S1x16384x96 .fp8e4m3
  o : Vec F S1x16384x96 .bf16
  lse : Vec F S1x8x2048 .f32
  kt : Vec F S1x96x2048 .fp8e4m3
  vt : Vec F S1x96x2048 .fp8e4m3
  vs : Vec F S1x1x1 .bf16
  dqs : Vec F S1x1x16384 .f32

/-- The arrays the input buffers hold. -/
def inOf (arg1 : Memref sig .tc .vmem S1x8x128 .f32) (arg2 : Memref sig .tc .vmem S1x16384x96 .fp8e5m2) (arg3 : Memref sig .tc .vmem S1x16384x1 .bf16) (arg4 : Memref sig .tc .vmem S1x96x16384 .fp8e4m3) (arg5 : Memref sig .tc .vmem S1x1x16384 .bf16) (arg6 : Memref sig .tc .vmem S1x96x16384 .fp8e5m2) (arg7 : Memref sig .tc .vmem S1x1x16384 .bf16) (arg8 : Memref sig .tc .vmem S1x16384x96 .fp8e4m3) (arg9 : Memref sig .tc .vmem S1x16384x96 .bf16) (arg10 : Memref sig .tc .vmem S1x8x2048 .f32) (arg11 : Memref sig .tc .vmem S1x96x2048 .fp8e4m3) (arg12 : Memref sig .tc .vmem S1x96x2048 .fp8e4m3) (arg13 : Memref sig .tc .vmem S1x1x1 .bf16) (arg14 : Memref sig .tc .vmem S1x1x16384 .f32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) : In F :=
  ⟨arg1.view.read (Elt F) X1, arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9, arg10.view.read (Elt F) X10, arg11.view.read (Elt F) X11, arg12.view.read (Elt F) X12, arg13.view.read (Elt F) X13, arg14.view.read (Elt F) X14⟩

/-- A load of a whole array reads it. -/
theorem rdV {sp : Space} {e : EltTy} (m : Memref sig .tc sp S1x1x1 e) (X : BufTy.Contents (Elt F) m.view.ty)
    (inb : ∀ a, (![0, 0, 0] : Fin 3 → Nat) a + S1x1x1.size a ≤ S1x1x1.size a) :
    m.view.readAt (Elt F) (Rect.unit (s := S1x1x1) ![0, 0, 0] S1x1x1.size inb).toLoadRect X = m.view.read (Elt F) X := by
  funext x
  refine congrArg (m.view.read (Elt F) X) (funext fun a => Fin.ext ?_)
  fin_cases a <;> exact (Nat.zero_add _).trans (Nat.one_mul _)

/-- A load of a whole array reads it. -/
theorem rdSc {sp : Space} {e : EltTy} (m : Memref sig .tc sp S1x8x128 e) (X : BufTy.Contents (Elt F) m.view.ty)
    (inb : ∀ a, (![0, 0, 0] : Fin 3 → Nat) a + S1x8x128.size a ≤ S1x8x128.size a) :
    m.view.readAt (Elt F) (Rect.unit (s := S1x8x128) ![0, 0, 0] S1x8x128.size inb).toLoadRect X = m.view.read (Elt F) X := by
  funext x
  refine congrArg (m.view.read (Elt F) X) (funext fun a => Fin.ext ?_)
  fin_cases a <;> exact (Nat.zero_add _).trans (Nat.one_mul _)

/-- A row block's number, from a natural number. -/
def blkNo (n : Nat) : Fin 16 := ⟨n % 16, Nat.mod_lt _ (by decide)⟩

theorem blkNo_val (i : Fin 16) : blkNo i.val = i := Fin.ext (Nat.mod_eq_of_lt i.isLt)

theorem blkNo_of_lt {n : Nat} (h : n < 16) : blkNo n = ⟨n, h⟩ := Fin.ext (Nat.mod_eq_of_lt h)

/-- Column `r` of a table of 8 rows, repeated along the columns. -/
def colRep (v : FVec F S8x128 .f32) (r : Nat) (h : S8x128.Slices ![0, r] S8x1) : FVec F S8x128 .f32 :=
  shapeCast S8x128 (broadcastTo S8x128 (shapeCast S8x1 (extractStridedSlice S8x1 ![0, r] v h) shapeCasts_S8x1_S8x1)
    broadcasts_S8x1_S8x128) shapeCasts_S8x128_S8x128

/-- The scores' scale, one column per key. -/
def scaleRow (I : In F) : FVec F S8x256 .f32 := k0_pay201 I.sc

/-- Scores before the exponential, for one block of rows and one of keys. -/
def scores (I : In F) (L : Fin 16 → FVec F S1024x128 .f32) (kt : Fin 8) (i : Fin 16) : FVec F S128x8x256 .f32 :=
  k0_pay218 (scaleRow I) (blkD I.qr i) (blkK I.kt kt) (L i)

/-- The rows' log-sum-exp (times log2 e), repeated along the columns. -/
def lseB (I : In F) (i : Fin 16) : FVec F S1024x128 .f32 := fun y =>
  k0_pay5 (blkL I.lse i) (ix2 ⟨(y 0).val % 8, Nat.mod_lt _ (by decide)⟩ ⟨(y 0).val / 8, Nat.div_lt_of_lt_mul (y 0).isLt⟩)

/-- The rows' sums of output gradient times output, repeated along the columns. -/
def deltaB (I : In F) (i : Fin 16) : FVec F S1024x128 .f32 := k0_pay3 (blkD I.dor i) (blkC I.dos i) (blkD I.o i)

/-- The causal mask at a block on the diagonal: token `qo + a` sees key `ko + b` when `ko + b ≤ qo + a`. -/
def masked (qo ko : BitVec 32) (x : FVec F S128x8x256 .f32) : FVec F S128x8x256 .f32 :=
  select (cmpi .sle (addi (broadcast S128x8x256 ko) (iota .tc S128x8x256 32 [2] iota_S128x8x256_d2_w32))
    (addi (broadcast S128x8x256 qo) (iota .tc S128x8x256 32 [0] iota_S128x8x256_d0_w32))) x
    (broadcast S128x8x256 (Scalar.ofBits .f32 0xFF800000#32))

/-- The probabilities of a block below the diagonal. -/
def probFull (I : In F) (kt : Fin 8) (i : Fin 16) : FVec F S1024x256 .f32 :=
  shapeCast S1024x256 (exp2 (scores I (lseB I) kt i)) shapeCasts_S128x8x256_S1024x256

/-- The probabilities of a block on the diagonal. -/
def probDiag (I : In F) (kt : Fin 8) (i : Fin 16) : FVec F S1024x256 .f32 :=
  shapeCast S1024x256 (exp2 (masked (BitVec.ofNat 32 (128 * i.val)) (BitVec.ofNat 32 (256 * kt.val)) (scores I (lseB I) kt i)))
    shapeCasts_S128x8x256_S1024x256

/-- The probabilities of a block the kernel visits. -/
def prob (I : In F) (kt : Fin 8) (i : Fin 16) : FVec F S1024x256 .f32 :=
  if i.val / 2 = kt.val then probDiag I kt i else probFull I kt i

theorem prob_full (I : In F) (kt : Fin 8) (i : Fin 16) (h : i.val / 2 ≠ kt.val) : prob I kt i = probFull I kt i := if_neg h

theorem prob_diag (I : In F) (kt : Fin 8) (i : Fin 16) (h : i.val / 2 = kt.val) : prob I kt i = probDiag I kt i := if_pos h

/-- The gradient of the scores, for a block's probabilities. -/
def dsOf (I : In F) (p : FVec F S1024x256 .f32) (kt : Fin 8) (i : Fin 16) : FVec F S1024x256 .bf16 :=
  k0_pay204 p (k0_pay203 (blkD I.dor i)) (blkC I.dos i) (blkK I.vt kt) I.vs (deltaB I i)

def dvOf (I : In F) (p : FVec F S1024x256 .f32) (i : Fin 16) : FVec F S96x256 .f32 :=
  k0_pay205 p (blkT I.dot i) (blkR I.dost i)

def dkOf (I : In F) (p : FVec F S1024x256 .f32) (kt : Fin 8) (i : Fin 16) : FVec F S96x256 .f32 :=
  k0_pay206 p (k0_pay203 (blkD I.dor i)) (blkC I.dos i) (blkK I.vt kt) I.vs (deltaB I i) (blkT I.qt i) (blkR I.qs i)

/-- One more key block added to a row block's `dq`. -/
def dqStep (I : In F) (p : FVec F S1024x256 .f32) (kt : Fin 8) (i : Fin 16) (old : FVec F S96x1024 .f32) : FVec F S96x1024 .f32 :=
  k0_pay207 (dsOf I p kt i) (blkK I.kt kt) old

/-- A row block's `dq` after its first `c` key blocks. -/
def dqSum (I : In F) (i : Fin 16) : Nat → FVec F S96x1024 .f32
  | 0 => k0_pay4
  | c + 1 => dqStep I (prob I ⟨c % 8, Nat.mod_lt _ (by decide)⟩ i) ⟨c % 8, Nat.mod_lt _ (by decide)⟩ i (dqSum I i c)

/-- The first two row blocks' part of a key block's sum. -/
def pairSum (a b : FVec F S96x256 .f32) : FVec F S1x96x256 .f32 := shapeCast S1x96x256 (addf a b) shapeCasts_S96x256_S1x96x256

/-- One more row block's part. -/
def addBlk (old : FVec F S1x96x256 .f32) (a : FVec F S96x256 .f32) : FVec F S1x96x256 .f32 :=
  shapeCast S1x96x256 (addf (shapeCast S96x256 old shapeCasts_S1x96x256_S96x256) a) shapeCasts_S96x256_S1x96x256

/-- A key block's `dk` after the two row blocks on the diagonal and `n` more. -/
def dkSum (I : In F) (kt : Fin 8) : Nat → FVec F S1x96x256 .f32
  | 0 => pairSum (dkOf I (probDiag I kt (blkNo (2 * kt.val))) kt (blkNo (2 * kt.val)))
      (dkOf I (probDiag I kt (blkNo (2 * kt.val + 1))) kt (blkNo (2 * kt.val + 1)))
  | n + 1 => addBlk (dkSum I kt n) (dkOf I (probFull I kt (blkNo (n + 2 * kt.val + 2))) kt (blkNo (n + 2 * kt.val + 2)))

/-- A key block's `dv` after the two row blocks on the diagonal and `n` more. -/
def dvSum (I : In F) (kt : Fin 8) : Nat → FVec F S1x96x256 .f32
  | 0 => pairSum (dvOf I (probDiag I kt (blkNo (2 * kt.val))) (blkNo (2 * kt.val)))
      (dvOf I (probDiag I kt (blkNo (2 * kt.val + 1))) (blkNo (2 * kt.val + 1)))
  | n + 1 => addBlk (dvSum I kt n) (dvOf I (probFull I kt (blkNo (n + 2 * kt.val + 2))) (blkNo (n + 2 * kt.val + 2)))

theorem dkSum_succ (I : In F) (kt : Fin 8) (n : Nat) : dkSum I kt (n + 1) = addBlk (dkSum I kt n)
    (dkOf I (probFull I kt (blkNo (n + 2 * kt.val + 2))) kt (blkNo (n + 2 * kt.val + 2))) := rfl

theorem dvSum_succ (I : In F) (kt : Fin 8) (n : Nat) : dvSum I kt (n + 1) = addBlk (dvSum I kt n)
    (dvOf I (probFull I kt (blkNo (n + 2 * kt.val + 2))) (blkNo (n + 2 * kt.val + 2))) := rfl

/-- The block of `dq` the grid point returns. -/
def dqOut (I : In F) (i : Fin 16) : FVec F S1x1024x96 .bf16 := k0_pay2 (dqSum I i (i.val / 2 + 1)) (blkR I.dqs i)

/-! ## What the buffers hold on the way -/

/-- How many key blocks row block `i` has seen when key block `kt` has been through the row blocks below `m`. -/
def seen (kt m i : Nat) : Nat := min (i / 2 + 1) (if i < m then kt + 1 else kt)

/-- The `dq` accumulator. -/
def DqAt (I : In F) (kt m : Nat) (a : Vec F S96x16384 .f32) : Prop := ∀ i : Fin 16, blkQ a i = dqSum I i (seen kt m i.val)

/-- A per-key-block result: the blocks before `kt` are complete, block `kt` has its first `n` steps. -/
def KvAt (S : Fin 8 → Nat → FVec F S1x96x256 .f32) (kt : Fin 8) (n : Nat) (a : Vec F S1x96x2048 .f32) : Prop :=
  (∀ j : Fin 8, j.val < kt.val → blkK a j = S j (14 - 2 * j.val)) ∧ blkK a kt = S kt n

/-- A per-key-block result: the blocks before `kt` are complete. -/
def KvBelow (S : Fin 8 → Nat → FVec F S1x96x256 .f32) (kt : Nat) (a : Vec F S1x96x2048 .f32) : Prop :=
  ∀ j : Fin 8, j.val < kt → blkK a j = S j (14 - 2 * j.val)

/-- A per-row table. -/
def RowsAt (S : Fin 16 → FVec F S1024x128 .f32) (n : Nat) (a : Vec F S16384x128 .f32) : Prop :=
  ∀ i : Fin 16, i.val < n → blkS a i = S i

theorem seen_next (kt i : Nat) : seen kt 16 i = seen (kt + 1) 0 i ∨ 16 ≤ i := by
  unfold seen; by_cases h : i < 16
  · left; simp [h]
  · right; omega

theorem seen_low (kt m i : Nat) (hm : m ≤ 2 * kt) : seen kt 0 i = seen kt m i := by
  unfold seen; split <;> split <;> omega

theorem DqAt.next {I : In F} {kt : Nat} {a : Vec F S96x16384 .f32} (h : DqAt I kt 16 a) : DqAt I (kt + 1) (2 * (kt + 1)) a := by
  intro i
  rw [h i]; congr 1
  rcases seen_next kt i.val with e | e
  · rw [e]; exact seen_low _ _ _ (Nat.le_refl _)
  · have := i.isLt; omega

theorem DqAt.done {I : In F} {a : Vec F S96x16384 .f32} (h : DqAt I 7 16 a) (i : Fin 16) : blkQ a i = dqSum I i (i.val / 2 + 1) := by
  rw [h i]; congr 1; have := i.isLt; unfold seen; rw [if_pos this]; omega

/-- A row block's next key block. -/
theorem DqAt.step {I : In F} {m : Memref sig .tc .vmem S96x16384 .f32} {kt : Nat} (hkt : kt < 8) {i : Fin 16} (hi : 2 * kt ≤ i.val)
    {f : BufTy.Contents (Elt F) m.view.ty} {L} (h : DqAt I kt i.val (m.view.read (Elt F) (m.view.writes (Elt F) f L)))
    (w : FVec F S96x1024 .f32) (hw : w = dqStep I (prob I ⟨kt, hkt⟩ i) ⟨kt, hkt⟩ i (blkQ (m.view.read (Elt F) (m.view.writes (Elt F) f L)) i))
    {o : Fin 2 → Nat} (ho : o = ![0, 1024 * i.val]) (inb : ∀ a, o a + S96x1024.size a ≤ S96x16384.size a) :
    DqAt I kt (i.val + 1) (m.view.read (Elt F) (m.view.writes (Elt F) f (⟨Rect.unit (s := S96x16384) o S96x1024.size inb, w⟩ :: L))) := by
  intro j
  by_cases e : j = i
  · subst e
    rw [wrQ_same m f j ho inb w L]
    rw [hw, h j]
    have e1 : seen kt j.val j.val = kt := by unfold seen; rw [if_neg (Nat.lt_irrefl _)]; omega
    have e2 : seen kt (j.val + 1) j.val = kt + 1 := by unfold seen; rw [if_pos (Nat.lt_succ_self _)]; omega
    rw [e1, e2]
    show _ = dqStep I _ _ _ _
    have e3 : (⟨kt % 8, Nat.mod_lt _ (by decide)⟩ : Fin 8) = ⟨kt, hkt⟩ := Fin.ext (Nat.mod_eq_of_lt hkt)
    rw [e3]
  · rw [wrQ_ne m f i j e ho inb w L]
    show blkQ (m.view.read (Elt F) (m.view.writes (Elt F) f L)) j = _
    rw [h j]; congr 1
    have : j.val ≠ i.val := fun h => e (Fin.ext h)
    unfold seen
    by_cases h1 : j.val < i.val
    · rw [if_pos h1, if_pos (by omega)]
    · rw [if_neg h1, if_neg (by omega)]

/-- One more row block in a key block's sum. -/
theorem KvAt.step {S : Fin 8 → Nat → FVec F S1x96x256 .f32} {m : Memref sig .tc .vmem S1x96x2048 .f32} {kt : Fin 8} {n : Nat}
    {f : BufTy.Contents (Elt F) m.view.ty} {L} (h : KvAt S kt n (m.view.read (Elt F) (m.view.writes (Elt F) f L)))
    (w : FVec F S1x96x256 .f32) (hw : blkK (m.view.read (Elt F) (m.view.writes (Elt F) f L)) kt = S kt n → w = S kt (n + 1))
    {o : Fin 3 → Nat} (ho : o = ![0, 0, 256 * kt.val]) (inb : ∀ a, o a + S1x96x256.size a ≤ S1x96x2048.size a) :
    KvAt S kt (n + 1) (m.view.read (Elt F) (m.view.writes (Elt F) f (⟨Rect.unit (s := S1x96x2048) o S1x96x256.size inb, w⟩ :: L))) := by
  refine ⟨fun j hj => ?_, ?_⟩
  · have e : j ≠ kt := fun e => by subst e; exact Nat.lt_irrefl _ hj
    rw [wrK_ne m f kt j e ho inb w L]
    exact h.1 j hj
  · rw [wrK_same m f kt ho inb w L]
    exact hw h.2

/-- A key block's first two row blocks. -/
theorem KvAt.start {S : Fin 8 → Nat → FVec F S1x96x256 .f32} {m : Memref sig .tc .vmem S1x96x2048 .f32} {kt : Fin 8}
    {f : BufTy.Contents (Elt F) m.view.ty} {L} (h : KvBelow S kt.val (m.view.read (Elt F) (m.view.writes (Elt F) f L)))
    (w : FVec F S1x96x256 .f32) (hw : w = S kt 0)
    {o : Fin 3 → Nat} (ho : o = ![0, 0, 256 * kt.val]) (inb : ∀ a, o a + S1x96x256.size a ≤ S1x96x2048.size a) :
    KvAt S kt 0 (m.view.read (Elt F) (m.view.writes (Elt F) f (⟨Rect.unit (s := S1x96x2048) o S1x96x256.size inb, w⟩ :: L))) := by
  refine ⟨fun j hj => ?_, ?_⟩
  · have e : j ≠ kt := fun e => by subst e; exact Nat.lt_irrefl _ hj
    rw [wrK_ne m f kt j e ho inb w L]
    exact h j hj
  · rw [wrK_same m f kt ho inb w L]
    exact hw

theorem KvAt.below {S : Fin 8 → Nat → FVec F S1x96x256 .f32} {kt : Fin 8} {a : Vec F S1x96x2048 .f32}
    (h : KvAt S kt (14 - 2 * kt.val) a) : KvBelow S (kt.val + 1) a := by
  intro j hj
  by_cases e : j = kt
  · subst e; exact h.2
  · have : j.val ≠ kt.val := fun h => e (Fin.ext h)
    exact h.1 j (by omega)

theorem KvBelow.zero {S : Fin 8 → Nat → FVec F S1x96x256 .f32} {a : Vec F S1x96x2048 .f32} : KvBelow S 0 a :=
  fun j hj => absurd hj (Nat.not_lt_zero _)

/-- One more row block of a per-row table. -/
theorem RowsAt.step {S : Fin 16 → FVec F S1024x128 .f32} {m : Memref sig .tc .vmem S16384x128 .f32} {i : Fin 16}
    {f : BufTy.Contents (Elt F) m.view.ty} {L} (h : RowsAt S i.val (m.view.read (Elt F) (m.view.writes (Elt F) f L)))
    (w : FVec F S1024x128 .f32) (hw : w = S i)
    {o : Fin 2 → Nat} (ho : o = ![1024 * i.val, 0]) (inb : ∀ a, o a + S1024x128.size a ≤ S16384x128.size a) :
    RowsAt S (i.val + 1) (m.view.read (Elt F) (m.view.writes (Elt F) f (⟨Rect.unit (s := S16384x128) o S1024x128.size inb, w⟩ :: L))) := by
  intro j hj
  by_cases e : j = i
  · subst e; rw [wrS_same m f j ho inb w L]; exact hw
  · have : j.val ≠ i.val := fun h => e (Fin.ext h)
    rw [wrS_ne m f i j e ho inb w L]
    exact h j (by omega)

end Cert.Proof.KernelIdeal
-- ==== Proof.Trip2.lean ====
module

public import proofs.«01_k».proof.Proof.Gen.KernelIdeal
public import proofs.«01_k».proof.Proof.Gen.KernelIdeal.Skeleton
public import proofs.«01_k».proof.Proof.Model
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- One trip of the loop over the row blocks below the diagonal of key block 0. -/
theorem trip2 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v58 : FVec F S96x256 .f32) (v66 : FVec F S96x256 .f32) (v120 : FVec F S1024x256 .bf16) (v128 : FVec F S96x256 .f32) (v136 : FVec F S96x256 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  (k : Fin k0_t2_loop.trips) :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨0, by decide⟩ k.val (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨0, by decide⟩ k.val (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 0 (k.val + 2) (arg20.view.read (Elt F) f20)⌝) : sProp 𝕄G) ⊢
  wp frame (wpE (defs₀ (F := F)) Variants.none (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v58 v66 v120 v128 v136 k PUnit.unit)
   (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨0, by decide⟩ (k.val + 1) (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨0, by decide⟩ (k.val + 1) (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 0 (k.val + 1 + 2) (arg20.view.read (Elt F) f20)⌝)) := by
  have hk : k.val < 14 := Nat.lt_of_lt_of_le k.isLt k0_t2_abs.2.1
  unfold k0_t2_body
  iintro ⟨⟨H1, H2, H3, H4, H5, H6, H7, H8, H9, H10, H11, H12, H13, H14, H18, H19⟩, %f16, %f17, %f20, H16, H17, H20, %hh⟩
  obtain ⟨h16, h17, h20⟩ := hh
  sl_exec
  sl_step
  isplitl [H1 H2 H3 H4 H5 H6 H7 H8 H9 H10 H11 H12 H13 H14 H18 H19]
  · iframe
  iexists _, _, _
  isplitl [H16]
  · iexact H16
  isplitl [H17]
  · iexact H17
  isplitl [H20]
  · iexact H20
  ipureintro
  subst hv5
  obtain ⟨r, hr⟩ : ∃ r : Fin 16, r = blkNo (k.val + 2 * (⟨0, by decide⟩ : Fin 8).val + 2) := ⟨_, rfl⟩
  have hi : r.val = k.val + 2 := by
    rw [hr, blkNo_of_lt (by show k.val + 2 * 0 + 2 < 16; omega)]
    show k.val + 2 * 0 + 2 = _
    omega
  have hn : r.val / 2 ≠ (⟨0, by decide⟩ : Fin 8).val := by show r.val / 2 ≠ 0; omega
  have oD : k0_off7 k = ![0, 1024 * r.val, 0] := (k0_off7_eq k).trans (by rw [hi, Nat.mul_add])
  have oS : k0_off8 k = ![1024 * r.val, 0] := (k0_off8_eq k).trans (by rw [hi, Nat.mul_add])
  have oC : k0_off9 k = ![0, 1024 * r.val, 0] := (k0_off9_eq k).trans (by rw [hi, Nat.mul_add])
  have oT : k0_off10 k = ![0, 0, 1024 * r.val] := (k0_off10_eq k).trans (by rw [hi, Nat.mul_add])
  have oR : k0_off11 k = ![0, 0, 1024 * r.val] := (k0_off11_eq k).trans (by rw [hi, Nat.mul_add])
  have oQ : k0_off12 k = ![0, 1024 * r.val] := (k0_off12_eq k).trans (by rw [hi, Nat.mul_add])
  have eqr : blkD (inOf arg1 arg2 arg3 arg4 arg5 arg6 arg7 arg8 arg9 arg10 arg11 arg12 arg13 arg14 X1 X2 X3 X4 X5 X6 X7 X8 X9 X10 X11 X12 X13 X14).qr r = _ := (rdD arg8 X8 r oD (k0_off7_inb k)).symm
  have edo : blkD (inOf arg1 arg2 arg3 arg4 arg5 arg6 arg7 arg8 arg9 arg10 arg11 arg12 arg13 arg14 X1 X2 X3 X4 X5 X6 X7 X8 X9 X10 X11 X12 X13 X14).dor r = _ := (rdD arg2 X2 r oD (k0_off7_inb k)).symm
  have eds : blkC (inOf arg1 arg2 arg3 arg4 arg5 arg6 arg7 arg8 arg9 arg10 arg11 arg12 arg13 arg14 X1 X2 X3 X4 X5 X6 X7 X8 X9 X10 X11 X12 X13 X14).dos r = _ := (rdC arg3 X3 r oC (k0_off9_inb k)).symm
  have eqt : blkT (inOf arg1 arg2 arg3 arg4 arg5 arg6 arg7 arg8 arg9 arg10 arg11 arg12 arg13 arg14 X1 X2 X3 X4 X5 X6 X7 X8 X9 X10 X11 X12 X13 X14).qt r = _ := (rdT arg4 X4 r oT (k0_off10_inb k)).symm
  have eqs : blkR (inOf arg1 arg2 arg3 arg4 arg5 arg6 arg7 arg8 arg9 arg10 arg11 arg12 arg13 arg14 X1 X2 X3 X4 X5 X6 X7 X8 X9 X10 X11 X12 X13 X14).qs r = _ := (rdR arg5 X5 r oR (k0_off11_inb k)).symm
  have edt : blkT (inOf arg1 arg2 arg3 arg4 arg5 arg6 arg7 arg8 arg9 arg10 arg11 arg12 arg13 arg14 X1 X2 X3 X4 X5 X6 X7 X8 X9 X10 X11 X12 X13 X14).dot r = _ := (rdT arg6 X6 r oT (k0_off10_inb k)).symm
  have ett : blkR (inOf arg1 arg2 arg3 arg4 arg5 arg6 arg7 arg8 arg9 arg10 arg11 arg12 arg13 arg14 X1 X2 X3 X4 X5 X6 X7 X8 X9 X10 X11 X12 X13 X14).dost r = _ := (rdR arg7 X7 r oR (k0_off11_inb k)).symm
  have ek : blkK (inOf arg1 arg2 arg3 arg4 arg5 arg6 arg7 arg8 arg9 arg10 arg11 arg12 arg13 arg14 X1 X2 X3 X4 X5 X6 X7 X8 X9 X10 X11 X12 X13 X14).kt ⟨0, by decide⟩ = _ := (rdK arg11 X11 ⟨0, by decide⟩ rfl inb_S1x96x2048_S1x96x256_0_0_0).symm
  have ev : blkK (inOf arg1 arg2 arg3 arg4 arg5 arg6 arg7 arg8 arg9 arg10 arg11 arg12 arg13 arg14 X1 X2 X3 X4 X5 X6 X7 X8 X9 X10 X11 X12 X13 X14).vt ⟨0, by decide⟩ = _ := (rdK arg12 X12 ⟨0, by decide⟩ rfl inb_S1x96x2048_S1x96x256_0_0_0).symm
  have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
  have el : lseB (inOf arg1 arg2 arg3 arg4 arg5 arg6 arg7 arg8 arg9 arg10 arg11 arg12 arg13 arg14 X1 X2 X3 X4 X5 X6 X7 X8 X9 X10 X11 X12 X13 X14) r = _ := (h18 r).symm.trans (rdS arg18 X18 r oS (k0_off8_inb k)).symm
  have ed : deltaB (inOf arg1 arg2 arg3 arg4 arg5 arg6 arg7 arg8 arg9 arg10 arg11 arg12 arg13 arg14 X1 X2 X3 X4 X5 X6 X7 X8 X9 X10 X11 X12 X13 X14) r = _ := (h19 r).symm.trans (rdS arg19 X19 r oS (k0_off8_inb k)).symm
  refine ⟨KvAt.step (L := []) h16 _ (fun e => ?_) rfl _, KvAt.step (L := []) h17 _ (fun e => ?_) rfl _, ?_⟩
  · rw [dkSum_succ, ← hr]
    simp only [dkOf, probFull, scores]
    rw [eqr, edo, eds, eqt, eqs, ek, ev, evs, el, ed, ← (show blkK (arg16.view.read (Elt F) f16) ⟨0, by decide⟩ = _ from e), ← rdK arg16 f16 ⟨0, by decide⟩ rfl inb_S1x96x2048_S1x96x256_0_0_0]
    rfl
  · rw [dvSum_succ, ← hr]
    simp only [dvOf, probFull, scores]
    rw [eqr, edt, ett, ek, el, ← (show blkK (arg17.view.read (Elt F) f17) ⟨0, by decide⟩ = _ from e), ← rdK arg17 f17 ⟨0, by decide⟩ rfl inb_S1x96x2048_S1x96x256_0_0_0]
    rfl
  · have h20' := h20
    rw [← hi] at h20'
    rw [show k.val + 1 + 2 = r.val + 1 by omega]
    refine DqAt.step (L := []) (by decide) (by omega) h20' _ ?_ oQ _
    rw [prob_full _ _ _ hn]
    simp only [dqStep, dsOf, probFull, scores]
    rw [eqr, edo, eds, ek, ev, evs, el, ed, ← rdQ arg20 _ r oQ (k0_off12_inb k)]
    rfl

end Cert.Proof.KernelIdeal
-- ==== Proof.Trip3.lean ====
module

public import proofs.«01_k».proof.Proof.Gen.KernelIdeal
public import proofs.«01_k».proof.Proof.Gen.KernelIdeal.Skeleton
public import proofs.«01_k».proof.Proof.Model
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- One trip of the loop over the row blocks below the diagonal of key block 1. -/
theorem trip3 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v207 : FVec F S96x256 .f32) (v215 : FVec F S96x256 .f32) (v268 : FVec F S1024x256 .bf16) (v269 : FVec F S1024x256 .bf16) (v272 : FVec F S96x1024 .bf16) (v273 : Vec F S1x1x1024 .bf16)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  (k : Fin k0_t3_loop.trips) :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨1, by decide⟩ k.val (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨1, by decide⟩ k.val (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 1 (k.val + 4) (arg20.view.read (Elt F) f20)⌝) : sProp 𝕄G) ⊢
  wp frame (wpE (defs₀ (F := F)) Variants.none (c : Thread nD τ) none) Set.univ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v207 v215 v268 v269 v272 v273 k PUnit.unit)
   (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨1, by decide⟩ (k.val + 1) (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨1, by decide⟩ (k.val + 1) (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 1 (k.val + 1 + 4) (arg20.view.read (Elt F) f20)⌝)) := by
  have hk : k.val < 12 := Nat.lt_of_lt_of_le k.isLt k0_t3_abs.2.1
  unfold k0_t3_body
  iintro ⟨⟨H1, H2, H3, H4, H5, H6, H7, H8, H9, H10, H11, H12, H13, H14, H18, H19⟩, %f16, %f17, %f20, H16, H17, H20, %hh⟩
  obtain ⟨h16, h17, h20⟩ := hh
  sl_exec
  sl_step
  isplitl [H1 H2 H3 H4 H5 H6 H7 H8 H9 H10 H11 H12 H13 H14 H18 H19]
  · iframe
  iexists _, _, _
  isplitl [H16]
  · iexact H16
  isplitl [H17]
  · iexact H17
  isplitl [H20]
  · iexact H20
  ipureintro
  subst hv5
  obtain ⟨r, hr⟩ : ∃ r : Fin 16, r = blkNo (k.val + 2 * (⟨1, by decide⟩ : Fin 8).val + 2) := ⟨_, rfl⟩
  have hi : r.val = k.val + 4 := by
    rw [hr, blkNo_of_lt (by show k.val + 2 * 1 + 2 < 16; omega)]
    show k.val + 2 * 1 + 2 = _
    omega
  have hn : r.val / 2 ≠ (⟨1, by decide⟩ : Fin 8).val := by show r.val / 2 ≠ 1; omega
  have oD : k0_off13 k = ![0, 1024 * r.val, 0] := (k0_off13_eq k).trans (by rw [hi, Nat.mul_add])
  have oS : k0_off14 k = ![1024 * r.val, 0] := (k0_off14_eq k).trans (by rw [hi, Nat.mul_add])
  have oC : k0_off15 k = ![0, 1024 * r.val, 0] := (k0_off15_eq k).trans (by rw [hi, Nat.mul_add])
  have oT : k0_off16 k = ![0, 0, 1024 * r.val] := (k0_off16_eq k).trans (by rw [hi, Nat.mul_add])
  have oR : k0_off17 k = ![0, 0, 1024 * r.val] := (k0_off17_eq k).trans (by rw [hi, Nat.mul_add])
  have oQ : k0_off18 k = ![0, 1024 * r.val] := (k0_off18_eq k).trans (by rw [hi, Nat.mul_add])
  have eqr : blkD (inOf arg1 arg2 arg3 arg4 arg5 arg6 arg7 arg8 arg9 arg10 arg11 arg12 arg13 arg14 X1 X2 X3 X4 X5 X6 X7 X8 X9 X10 X11 X12 X13 X14).qr r = _ := (rdD arg8 X8 r oD (k0_off13_inb k)).symm
  have edo : blkD (inOf arg1 arg2 arg3 arg4 arg5 arg6 arg7 arg8 arg9 arg10 arg11 arg12 arg13 arg14 X1 X2 X3 X4 X5 X6 X7 X8 X9 X10 X11 X12 X13 X14).dor r = _ := (rdD arg2 X2 r oD (k0_off13_inb k)).symm
  have eds : blkC (inOf arg1 arg2 arg3 arg4 arg5 arg6 arg7 arg8 arg9 arg10 arg11 arg12 arg13 arg14 X1 X2 X3 X4 X5 X6 X7 X8 X9 X10 X11 X12 X13 X14).dos r = _ := (rdC arg3 X3 r oC (k0_off15_inb k)).symm
  have eqt : blkT (inOf arg1 arg2 arg3 arg4 arg5 arg6 arg7 arg8 arg9 arg10 arg11 arg12 arg13 arg14 X1 X2 X3 X4 X5 X6 X7 X8 X9 X10 X11 X12 X13 X14).qt r = _ := (rdT arg4 X4 r oT (k0_off16_inb k)).symm
  have eqs : blkR (inOf arg1 arg2 arg3 arg4 arg5 arg6 arg7 arg8 arg9 arg10 arg11 arg12 arg13 arg14 X1 X2 X3 X4 X5 X6 X7 X8 X9 X10 X11 X12 X13 X14).qs r = _ := (rdR arg5 X5 r oR (k0_off17_inb k)).symm
  have edt : blkT (inOf arg1 arg2 arg3 arg4 arg5 arg6 arg7 arg8 arg9 arg10 arg11 arg12 arg13 arg14 X1 X2 X3 X4 X5 X6 X7 X8 X9 X10 X11 X12 X13 X14).dot r = _ := (rdT arg6 X6 r oT (k0_off16_inb k)).symm
  have ett : blkR (inOf arg1 arg2 arg3 arg4 arg5 arg6 arg7 arg8 arg9 arg10 arg11 arg12 arg13 arg14 X1 X2 X3 X4 X5 X6 X7 X8 X9 X10 X11 X12 X13 X14).dost r = _ := (rdR arg7 X7 r oR (k0_off17_inb k)).symm
  have ek : blkK (inOf arg1 arg2 arg3 arg4 arg5 arg6 arg7 arg8 arg9 arg10 arg11 arg12 arg13 arg14 X1 X2 X3 X4 X5 X6 X7 X8 X9 X10 X11 X12 X13 X14).kt ⟨1, by decide⟩ = _ := (rdK arg11 X11 ⟨1, by decide⟩ rfl inb_S1x96x2048_S1x96x256_0_0_256).symm
  have ev : blkK (inOf arg1 arg2 arg3 arg4 arg5 arg6 arg7 arg8 arg9 arg10 arg11 arg12 arg13 arg14 X1 X2 X3 X4 X5 X6 X7 X8 X9 X10 X11 X12 X13 X14).vt ⟨1, by decide⟩ = _ := (rdK arg12 X12 ⟨1, by decide⟩ rfl inb_S1x96x2048_S1x96x256_0_0_256).symm
  have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
  have el : lseB (inOf arg1 arg2 arg3 arg4 arg5 arg6 arg7 arg8 arg9 arg10 arg11 arg12 arg13 arg14 X1 X2 X3 X4 X5 X6 X7 X8 X9 X10 X11 X12 X13 X14) r = _ := (h18 r).symm.trans (rdS arg18 X18 r oS (k0_off14_inb k)).symm
  have ed : deltaB (inOf arg1 arg2 arg3 arg4 arg5 arg6 arg7 arg8 arg9 arg10 arg11 arg12 arg13 arg14 X1 X2 X3 X4 X5 X6 X7 X8 X9 X10 X11 X12 X13 X14) r = _ := (h19 r).symm.trans (rdS arg19 X19 r oS (k0_off14_inb k)).symm
  refine ⟨KvAt.step (L := []) h16 _ (fun e => ?_) rfl _, KvAt.step (L := []) h17 _ (fun e => ?_) rfl _, ?_⟩
  · rw [dkSum_succ, ← hr]
    simp only [dkOf, probFull, scores]
    rw [eqr, edo, eds, eqt, eqs, ek, ev, evs, el, ed, ← (show blkK (arg16.view.read (Elt F) f16) ⟨1, by decide⟩ = _ from e), ← rdK arg16 f16 ⟨1, by decide⟩ rfl inb_S1x96x2048_S1x96x256_0_0_256]
    rfl
  · rw [dvSum_succ, ← hr]
    simp only [dvOf, probFull, scores]
    rw [eqr, edt, ett, ek, el, ← (show blkK (arg17.view.read (Elt F) f17) ⟨1, by decide⟩ = _ from e), ← rdK arg17 f17 ⟨1, by decide⟩ rfl inb_S1x96x2048_S1x96x256_0_0_256]
    rfl
  · have h20' := h20
    rw [← hi] at h20'
    rw [show k.val + 1 + 4 = r.val + 1 by omega]
    refine DqAt.step (L := []) (by decide) (by omega) h20' _ ?_ oQ _
    rw [prob_full _ _ _ hn]
    simp only [dqStep, dsOf, probFull, scores]
    rw [eqr, edo, eds, ek, ev, evs, el, ed, ← rdQ arg20 _ r oQ (k0_off18_inb k)]
    rfl

end Cert.Proof.KernelIdeal
-- ==== Proof.Trip4.lean ====
module

public import proofs.«01_k».proof.Proof.Gen.KernelIdeal
public import proofs.«01_k».proof.Proof.Gen.KernelIdeal.Skeleton
public import proofs.«01_k».proof.Proof.Model
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- One trip of the loop over the row blocks below the diagonal of key block 2. -/
theorem trip4 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v356 : FVec F S96x256 .f32) (v364 : FVec F S96x256 .f32) (v426 : FVec F S96x256 .f32) (v434 : FVec F S96x256 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  (k : Fin k0_t4_loop.trips) :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨2, by decide⟩ k.val (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨2, by decide⟩ k.val (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 2 (k.val + 6) (arg20.view.read (Elt F) f20)⌝) : sProp 𝕄G) ⊢
  wp frame (wpE (defs₀ (F := F)) Variants.none (c : Thread nD τ) none) Set.univ (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v356 v364 v426 v434 k PUnit.unit)
   (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨2, by decide⟩ (k.val + 1) (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨2, by decide⟩ (k.val + 1) (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 2 (k.val + 1 + 6) (arg20.view.read (Elt F) f20)⌝)) := by
  have hk : k.val < 10 := Nat.lt_of_lt_of_le k.isLt k0_t4_abs.2.1
  unfold k0_t4_body
  iintro ⟨⟨H1, H2, H3, H4, H5, H6, H7, H8, H9, H10, H11, H12, H13, H14, H18, H19⟩, %f16, %f17, %f20, H16, H17, H20, %hh⟩
  obtain ⟨h16, h17, h20⟩ := hh
  sl_exec
  sl_step
  isplitl [H1 H2 H3 H4 H5 H6 H7 H8 H9 H10 H11 H12 H13 H14 H18 H19]
  · iframe
  iexists _, _, _
  isplitl [H16]
  · iexact H16
  isplitl [H17]
  · iexact H17
  isplitl [H20]
  · iexact H20
  ipureintro
  subst hv5
  obtain ⟨r, hr⟩ : ∃ r : Fin 16, r = blkNo (k.val + 2 * (⟨2, by decide⟩ : Fin 8).val + 2) := ⟨_, rfl⟩
  have hi : r.val = k.val + 6 := by
    rw [hr, blkNo_of_lt (by show k.val + 2 * 2 + 2 < 16; omega)]
    show k.val + 2 * 2 + 2 = _
    omega
  have hn : r.val / 2 ≠ (⟨2, by decide⟩ : Fin 8).val := by show r.val / 2 ≠ 2; omega
  have oD : k0_off19 k = ![0, 1024 * r.val, 0] := (k0_off19_eq k).trans (by rw [hi, Nat.mul_add])
  have oS : k0_off20 k = ![1024 * r.val, 0] := (k0_off20_eq k).trans (by rw [hi, Nat.mul_add])
  have oC : k0_off21 k = ![0, 1024 * r.val, 0] := (k0_off21_eq k).trans (by rw [hi, Nat.mul_add])
  have oT : k0_off22 k = ![0, 0, 1024 * r.val] := (k0_off22_eq k).trans (by rw [hi, Nat.mul_add])
  have oR : k0_off23 k = ![0, 0, 1024 * r.val] := (k0_off23_eq k).trans (by rw [hi, Nat.mul_add])
  have oQ : k0_off24 k = ![0, 1024 * r.val] := (k0_off24_eq k).trans (by rw [hi, Nat.mul_add])
  have eqr : blkD (inOf arg1 arg2 arg3 arg4 arg5 arg6 arg7 arg8 arg9 arg10 arg11 arg12 arg13 arg14 X1 X2 X3 X4 X5 X6 X7 X8 X9 X10 X11 X12 X13 X14).qr r = _ := (rdD arg8 X8 r oD (k0_off19_inb k)).symm
  have edo : blkD (inOf arg1 arg2 arg3 arg4 arg5 arg6 arg7 arg8 arg9 arg10 arg11 arg12 arg13 arg14 X1 X2 X3 X4 X5 X6 X7 X8 X9 X10 X11 X12 X13 X14).dor r = _ := (rdD arg2 X2 r oD (k0_off19_inb k)).symm
  have eds : blkC (inOf arg1 arg2 arg3 arg4 arg5 arg6 arg7 arg8 arg9 arg10 arg11 arg12 arg13 arg14 X1 X2 X3 X4 X5 X6 X7 X8 X9 X10 X11 X12 X13 X14).dos r = _ := (rdC arg3 X3 r oC (k0_off21_inb k)).symm
  have eqt : blkT (inOf arg1 arg2 arg3 arg4 arg5 arg6 arg7 arg8 arg9 arg10 arg11 arg12 arg13 arg14 X1 X2 X3 X4 X5 X6 X7 X8 X9 X10 X11 X12 X13 X14).qt r = _ := (rdT arg4 X4 r oT (k0_off22_inb k)).symm
  have eqs : blkR (inOf arg1 arg2 arg3 arg4 arg5 arg6 arg7 arg8 arg9 arg10 arg11 arg12 arg13 arg14 X1 X2 X3 X4 X5 X6 X7 X8 X9 X10 X11 X12 X13 X14).qs r = _ := (rdR arg5 X5 r oR (k0_off23_inb k)).symm
  have edt : blkT (inOf arg1 arg2 arg3 arg4 arg5 arg6 arg7 arg8 arg9 arg10 arg11 arg12 arg13 arg14 X1 X2 X3 X4 X5 X6 X7 X8 X9 X10 X11 X12 X13 X14).dot r = _ := (rdT arg6 X6 r oT (k0_off22_inb k)).symm
  have ett : blkR (inOf arg1 arg2 arg3 arg4 arg5 arg6 arg7 arg8 arg9 arg10 arg11 arg12 arg13 arg14 X1 X2 X3 X4 X5 X6 X7 X8 X9 X10 X11 X12 X13 X14).dost r = _ := (rdR arg7 X7 r oR (k0_off23_inb k)).symm
  have ek : blkK (inOf arg1 arg2 arg3 arg4 arg5 arg6 arg7 arg8 arg9 arg10 arg11 arg12 arg13 arg14 X1 X2 X3 X4 X5 X6 X7 X8 X9 X10 X11 X12 X13 X14).kt ⟨2, by decide⟩ = _ := (rdK arg11 X11 ⟨2, by decide⟩ rfl inb_S1x96x2048_S1x96x256_0_0_512).symm
  have ev : blkK (inOf arg1 arg2 arg3 arg4 arg5 arg6 arg7 arg8 arg9 arg10 arg11 arg12 arg13 arg14 X1 X2 X3 X4 X5 X6 X7 X8 X9 X10 X11 X12 X13 X14).vt ⟨2, by decide⟩ = _ := (rdK arg12 X12 ⟨2, by decide⟩ rfl inb_S1x96x2048_S1x96x256_0_0_512).symm
  have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
  have el : lseB (inOf arg1 arg2 arg3 arg4 arg5 arg6 arg7 arg8 arg9 arg10 arg11 arg12 arg13 arg14 X1 X2 X3 X4 X5 X6 X7 X8 X9 X10 X11 X12 X13 X14) r = _ := (h18 r).symm.trans (rdS arg18 X18 r oS (k0_off20_inb k)).symm
  have ed : deltaB (inOf arg1 arg2 arg3 arg4 arg5 arg6 arg7 arg8 arg9 arg10 arg11 arg12 arg13 arg14 X1 X2 X3 X4 X5 X6 X7 X8 X9 X10 X11 X12 X13 X14) r = _ := (h19 r).symm.trans (rdS arg19 X19 r oS (k0_off20_inb k)).symm
  refine ⟨KvAt.step (L := []) h16 _ (fun e => ?_) rfl _, KvAt.step (L := []) h17 _ (fun e => ?_) rfl _, ?_⟩
  · rw [dkSum_succ, ← hr]
    simp only [dkOf, probFull, scores]
    rw [eqr, edo, eds, eqt, eqs, ek, ev, evs, el, ed, ← (show blkK (arg16.view.read (Elt F) f16) ⟨2, by decide⟩ = _ from e), ← rdK arg16 f16 ⟨2, by decide⟩ rfl inb_S1x96x2048_S1x96x256_0_0_512]
    rfl
  · rw [dvSum_succ, ← hr]
    simp only [dvOf, probFull, scores]
    rw [eqr, edt, ett, ek, el, ← (show blkK (arg17.view.read (Elt F) f17) ⟨2, by decide⟩ = _ from e), ← rdK arg17 f17 ⟨2, by decide⟩ rfl inb_S1x96x2048_S1x96x256_0_0_512]
    rfl
  · have h20' := h20
    rw [← hi] at h20'
    rw [show k.val + 1 + 6 = r.val + 1 by omega]
    refine DqAt.step (L := []) (by decide) (by omega) h20' _ ?_ oQ _
    rw [prob_full _ _ _ hn]
    simp only [dqStep, dsOf, probFull, scores]
    rw [eqr, edo, eds, ek, ev, evs, el, ed, ← rdQ arg20 _ r oQ (k0_off24_inb k)]
    rfl

end Cert.Proof.KernelIdeal
-- ==== Proof.Trip5.lean ====
module

public import proofs.«01_k».proof.Proof.Gen.KernelIdeal
public import proofs.«01_k».proof.Proof.Gen.KernelIdeal.Skeleton
public import proofs.«01_k».proof.Proof.Model
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- One trip of the loop over the row blocks below the diagonal of key block 3. -/
theorem trip5 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v505 : FVec F S96x256 .f32) (v513 : FVec F S96x256 .f32) (v567 : FVec F S1024x256 .bf16) (v575 : FVec F S96x256 .f32) (v578 : FVec F S96x1024 .bf16) (v580 : FVec F S1x1024 .bf16)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  (k : Fin k0_t5_loop.trips) :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨3, by decide⟩ k.val (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨3, by decide⟩ k.val (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 3 (k.val + 8) (arg20.view.read (Elt F) f20)⌝) : sProp 𝕄G) ⊢
  wp frame (wpE (defs₀ (F := F)) Variants.none (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v505 v513 v567 v575 v578 v580 k PUnit.unit)
   (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨3, by decide⟩ (k.val + 1) (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨3, by decide⟩ (k.val + 1) (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 3 (k.val + 1 + 8) (arg20.view.read (Elt F) f20)⌝)) := by
  have hk : k.val < 8 := Nat.lt_of_lt_of_le k.isLt k0_t5_abs.2.1
  unfold k0_t5_body
  iintro ⟨⟨H1, H2, H3, H4, H5, H6, H7, H8, H9, H10, H11, H12, H13, H14, H18, H19⟩, %f16, %f17, %f20, H16, H17, H20, %hh⟩
  obtain ⟨h16, h17, h20⟩ := hh
  sl_exec
  sl_step
  isplitl [H1 H2 H3 H4 H5 H6 H7 H8 H9 H10 H11 H12 H13 H14 H18 H19]
  · iframe
  iexists _, _, _
  isplitl [H16]
  · iexact H16
  isplitl [H17]
  · iexact H17
  isplitl [H20]
  · iexact H20
  ipureintro
  subst hv5
  obtain ⟨r, hr⟩ : ∃ r : Fin 16, r = blkNo (k.val + 2 * (⟨3, by decide⟩ : Fin 8).val + 2) := ⟨_, rfl⟩
  have hi : r.val = k.val + 8 := by
    rw [hr, blkNo_of_lt (by show k.val + 2 * 3 + 2 < 16; omega)]
    show k.val + 2 * 3 + 2 = _
    omega
  have hn : r.val / 2 ≠ (⟨3, by decide⟩ : Fin 8).val := by show r.val / 2 ≠ 3; omega
  have oD : k0_off25 k = ![0, 1024 * r.val, 0] := (k0_off25_eq k).trans (by rw [hi, Nat.mul_add])
  have oS : k0_off26 k = ![1024 * r.val, 0] := (k0_off26_eq k).trans (by rw [hi, Nat.mul_add])
  have oC : k0_off27 k = ![0, 1024 * r.val, 0] := (k0_off27_eq k).trans (by rw [hi, Nat.mul_add])
  have oT : k0_off28 k = ![0, 0, 1024 * r.val] := (k0_off28_eq k).trans (by rw [hi, Nat.mul_add])
  have oR : k0_off29 k = ![0, 0, 1024 * r.val] := (k0_off29_eq k).trans (by rw [hi, Nat.mul_add])
  have oQ : k0_off30 k = ![0, 1024 * r.val] := (k0_off30_eq k).trans (by rw [hi, Nat.mul_add])
  have eqr : blkD (inOf arg1 arg2 arg3 arg4 arg5 arg6 arg7 arg8 arg9 arg10 arg11 arg12 arg13 arg14 X1 X2 X3 X4 X5 X6 X7 X8 X9 X10 X11 X12 X13 X14).qr r = _ := (rdD arg8 X8 r oD (k0_off25_inb k)).symm
  have edo : blkD (inOf arg1 arg2 arg3 arg4 arg5 arg6 arg7 arg8 arg9 arg10 arg11 arg12 arg13 arg14 X1 X2 X3 X4 X5 X6 X7 X8 X9 X10 X11 X12 X13 X14).dor r = _ := (rdD arg2 X2 r oD (k0_off25_inb k)).symm
  have eds : blkC (inOf arg1 arg2 arg3 arg4 arg5 arg6 arg7 arg8 arg9 arg10 arg11 arg12 arg13 arg14 X1 X2 X3 X4 X5 X6 X7 X8 X9 X10 X11 X12 X13 X14).dos r = _ := (rdC arg3 X3 r oC (k0_off27_inb k)).symm
  have eqt : blkT (inOf arg1 arg2 arg3 arg4 arg5 arg6 arg7 arg8 arg9 arg10 arg11 arg12 arg13 arg14 X1 X2 X3 X4 X5 X6 X7 X8 X9 X10 X11 X12 X13 X14).qt r = _ := (rdT arg4 X4 r oT (k0_off28_inb k)).symm
  have eqs : blkR (inOf arg1 arg2 arg3 arg4 arg5 arg6 arg7 arg8 arg9 arg10 arg11 arg12 arg13 arg14 X1 X2 X3 X4 X5 X6 X7 X8 X9 X10 X11 X12 X13 X14).qs r = _ := (rdR arg5 X5 r oR (k0_off29_inb k)).symm
  have edt : blkT (inOf arg1 arg2 arg3 arg4 arg5 arg6 arg7 arg8 arg9 arg10 arg11 arg12 arg13 arg14 X1 X2 X3 X4 X5 X6 X7 X8 X9 X10 X11 X12 X13 X14).dot r = _ := (rdT arg6 X6 r oT (k0_off28_inb k)).symm
  have ett : blkR (inOf arg1 arg2 arg3 arg4 arg5 arg6 arg7 arg8 arg9 arg10 arg11 arg12 arg13 arg14 X1 X2 X3 X4 X5 X6 X7 X8 X9 X10 X11 X12 X13 X14).dost r = _ := (rdR arg7 X7 r oR (k0_off29_inb k)).symm
  have ek : blkK (inOf arg1 arg2 arg3 arg4 arg5 arg6 arg7 arg8 arg9 arg10 arg11 arg12 arg13 arg14 X1 X2 X3 X4 X5 X6 X7 X8 X9 X10 X11 X12 X13 X14).kt ⟨3, by decide⟩ = _ := (rdK arg11 X11 ⟨3, by decide⟩ rfl inb_S1x96x2048_S1x96x256_0_0_768).symm
  have ev : blkK (inOf arg1 arg2 arg3 arg4 arg5 arg6 arg7 arg8 arg9 arg10 arg11 arg12 arg13 arg14 X1 X2 X3 X4 X5 X6 X7 X8 X9 X10 X11 X12 X13 X14).vt ⟨3, by decide⟩ = _ := (rdK arg12 X12 ⟨3, by decide⟩ rfl inb_S1x96x2048_S1x96x256_0_0_768).symm
  have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
  have el : lseB (inOf arg1 arg2 arg3 arg4 arg5 arg6 arg7 arg8 arg9 arg10 arg11 arg12 arg13 arg14 X1 X2 X3 X4 X5 X6 X7 X8 X9 X10 X11 X12 X13 X14) r = _ := (h18 r).symm.trans (rdS arg18 X18 r oS (k0_off26_inb k)).symm
  have ed : deltaB (inOf arg1 arg2 arg3 arg4 arg5 arg6 arg7 arg8 arg9 arg10 arg11 arg12 arg13 arg14 X1 X2 X3 X4 X5 X6 X7 X8 X9 X10 X11 X12 X13 X14) r = _ := (h19 r).symm.trans (rdS arg19 X19 r oS (k0_off26_inb k)).symm
  refine ⟨KvAt.step (L := []) h16 _ (fun e => ?_) rfl _, KvAt.step (L := []) h17 _ (fun e => ?_) rfl _, ?_⟩
  · rw [dkSum_succ, ← hr]
    simp only [dkOf, probFull, scores]
    rw [eqr, edo, eds, eqt, eqs, ek, ev, evs, el, ed, ← (show blkK (arg16.view.read (Elt F) f16) ⟨3, by decide⟩ = _ from e), ← rdK arg16 f16 ⟨3, by decide⟩ rfl inb_S1x96x2048_S1x96x256_0_0_768]
    rfl
  · rw [dvSum_succ, ← hr]
    simp only [dvOf, probFull, scores]
    rw [eqr, edt, ett, ek, el, ← (show blkK (arg17.view.read (Elt F) f17) ⟨3, by decide⟩ = _ from e), ← rdK arg17 f17 ⟨3, by decide⟩ rfl inb_S1x96x2048_S1x96x256_0_0_768]
    rfl
  · have h20' := h20
    rw [← hi] at h20'
    rw [show k.val + 1 + 8 = r.val + 1 by omega]
    refine DqAt.step (L := []) (by decide) (by omega) h20' _ ?_ oQ _
    rw [prob_full _ _ _ hn]
    simp only [dqStep, dsOf, probFull, scores]
    rw [eqr, edo, eds, ek, ev, evs, el, ed, ← rdQ arg20 _ r oQ (k0_off30_inb k)]
    rfl

end Cert.Proof.KernelIdeal
-- ==== Proof.Trip6.lean ====
module

public import proofs.«01_k».proof.Proof.Gen.KernelIdeal
public import proofs.«01_k».proof.Proof.Gen.KernelIdeal.Skeleton
public import proofs.«01_k».proof.Proof.Model
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- One trip of the loop over the row blocks below the diagonal of key block 4. -/
theorem trip6 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  (k : Fin k0_t6_loop.trips) :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨4, by decide⟩ k.val (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨4, by decide⟩ k.val (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 4 (k.val + 10) (arg20.view.read (Elt F) f20)⌝) : sProp 𝕄G) ⊢
  wp frame (wpE (defs₀ (F := F)) Variants.none (c : Thread nD τ) none) Set.univ (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 k PUnit.unit)
   (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨4, by decide⟩ (k.val + 1) (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨4, by decide⟩ (k.val + 1) (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 4 (k.val + 1 + 10) (arg20.view.read (Elt F) f20)⌝)) := by
  have hk : k.val < 6 := Nat.lt_of_lt_of_le k.isLt k0_t6_abs.2.1
  unfold k0_t6_body
  iintro ⟨⟨H1, H2, H3, H4, H5, H6, H7, H8, H9, H10, H11, H12, H13, H14, H18, H19⟩, %f16, %f17, %f20, H16, H17, H20, %hh⟩
  obtain ⟨h16, h17, h20⟩ := hh
  sl_exec
  sl_step
  isplitl [H1 H2 H3 H4 H5 H6 H7 H8 H9 H10 H11 H12 H13 H14 H18 H19]
  · iframe
  iexists _, _, _
  isplitl [H16]
  · iexact H16
  isplitl [H17]
  · iexact H17
  isplitl [H20]
  · iexact H20
  ipureintro
  subst hv5
  obtain ⟨r, hr⟩ : ∃ r : Fin 16, r = blkNo (k.val + 2 * (⟨4, by decide⟩ : Fin 8).val + 2) := ⟨_, rfl⟩
  have hi : r.val = k.val + 10 := by
    rw [hr, blkNo_of_lt (by show k.val + 2 * 4 + 2 < 16; omega)]
    show k.val + 2 * 4 + 2 = _
    omega
  have hn : r.val / 2 ≠ (⟨4, by decide⟩ : Fin 8).val := by show r.val / 2 ≠ 4; omega
  have oD : k0_off31 k = ![0, 1024 * r.val, 0] := (k0_off31_eq k).trans (by rw [hi, Nat.mul_add])
  have oS : k0_off32 k = ![1024 * r.val, 0] := (k0_off32_eq k).trans (by rw [hi, Nat.mul_add])
  have oC : k0_off33 k = ![0, 1024 * r.val, 0] := (k0_off33_eq k).trans (by rw [hi, Nat.mul_add])
  have oT : k0_off34 k = ![0, 0, 1024 * r.val] := (k0_off34_eq k).trans (by rw [hi, Nat.mul_add])
  have oR : k0_off35 k = ![0, 0, 1024 * r.val] := (k0_off35_eq k).trans (by rw [hi, Nat.mul_add])
  have oQ : k0_off36 k = ![0, 1024 * r.val] := (k0_off36_eq k).trans (by rw [hi, Nat.mul_add])
  have eqr : blkD (inOf arg1 arg2 arg3 arg4 arg5 arg6 arg7 arg8 arg9 arg10 arg11 arg12 arg13 arg14 X1 X2 X3 X4 X5 X6 X7 X8 X9 X10 X11 X12 X13 X14).qr r = _ := (rdD arg8 X8 r oD (k0_off31_inb k)).symm
  have edo : blkD (inOf arg1 arg2 arg3 arg4 arg5 arg6 arg7 arg8 arg9 arg10 arg11 arg12 arg13 arg14 X1 X2 X3 X4 X5 X6 X7 X8 X9 X10 X11 X12 X13 X14).dor r = _ := (rdD arg2 X2 r oD (k0_off31_inb k)).symm
  have eds : blkC (inOf arg1 arg2 arg3 arg4 arg5 arg6 arg7 arg8 arg9 arg10 arg11 arg12 arg13 arg14 X1 X2 X3 X4 X5 X6 X7 X8 X9 X10 X11 X12 X13 X14).dos r = _ := (rdC arg3 X3 r oC (k0_off33_inb k)).symm
  have eqt : blkT (inOf arg1 arg2 arg3 arg4 arg5 arg6 arg7 arg8 arg9 arg10 arg11 arg12 arg13 arg14 X1 X2 X3 X4 X5 X6 X7 X8 X9 X10 X11 X12 X13 X14).qt r = _ := (rdT arg4 X4 r oT (k0_off34_inb k)).symm
  have eqs : blkR (inOf arg1 arg2 arg3 arg4 arg5 arg6 arg7 arg8 arg9 arg10 arg11 arg12 arg13 arg14 X1 X2 X3 X4 X5 X6 X7 X8 X9 X10 X11 X12 X13 X14).qs r = _ := (rdR arg5 X5 r oR (k0_off35_inb k)).symm
  have edt : blkT (inOf arg1 arg2 arg3 arg4 arg5 arg6 arg7 arg8 arg9 arg10 arg11 arg12 arg13 arg14 X1 X2 X3 X4 X5 X6 X7 X8 X9 X10 X11 X12 X13 X14).dot r = _ := (rdT arg6 X6 r oT (k0_off34_inb k)).symm
  have ett : blkR (inOf arg1 arg2 arg3 arg4 arg5 arg6 arg7 arg8 arg9 arg10 arg11 arg12 arg13 arg14 X1 X2 X3 X4 X5 X6 X7 X8 X9 X10 X11 X12 X13 X14).dost r = _ := (rdR arg7 X7 r oR (k0_off35_inb k)).symm
  have ek : blkK (inOf arg1 arg2 arg3 arg4 arg5 arg6 arg7 arg8 arg9 arg10 arg11 arg12 arg13 arg14 X1 X2 X3 X4 X5 X6 X7 X8 X9 X10 X11 X12 X13 X14).kt ⟨4, by decide⟩ = _ := (rdK arg11 X11 ⟨4, by decide⟩ rfl inb_S1x96x2048_S1x96x256_0_0_1024).symm
  have ev : blkK (inOf arg1 arg2 arg3 arg4 arg5 arg6 arg7 arg8 arg9 arg10 arg11 arg12 arg13 arg14 X1 X2 X3 X4 X5 X6 X7 X8 X9 X10 X11 X12 X13 X14).vt ⟨4, by decide⟩ = _ := (rdK arg12 X12 ⟨4, by decide⟩ rfl inb_S1x96x2048_S1x96x256_0_0_1024).symm
  have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
  have el : lseB (inOf arg1 arg2 arg3 arg4 arg5 arg6 arg7 arg8 arg9 arg10 arg11 arg12 arg13 arg14 X1 X2 X3 X4 X5 X6 X7 X8 X9 X10 X11 X12 X13 X14) r = _ := (h18 r).symm.trans (rdS arg18 X18 r oS (k0_off32_inb k)).symm
  have ed : deltaB (inOf arg1 arg2 arg3 arg4 arg5 arg6 arg7 arg8 arg9 arg10 arg11 arg12 arg13 arg14 X1 X2 X3 X4 X5 X6 X7 X8 X9 X10 X11 X12 X13 X14) r = _ := (h19 r).symm.trans (rdS arg19 X19 r oS (k0_off32_inb k)).symm
  refine ⟨KvAt.step (L := []) h16 _ (fun e => ?_) rfl _, KvAt.step (L := []) h17 _ (fun e => ?_) rfl _, ?_⟩
  · rw [dkSum_succ, ← hr]
    simp only [dkOf, probFull, scores]
    rw [eqr, edo, eds, eqt, eqs, ek, ev, evs, el, ed, ← (show blkK (arg16.view.read (Elt F) f16) ⟨4, by decide⟩ = _ from e), ← rdK arg16 f16 ⟨4, by decide⟩ rfl inb_S1x96x2048_S1x96x256_0_0_1024]
    rfl
  · rw [dvSum_succ, ← hr]
    simp only [dvOf, probFull, scores]
    rw [eqr, edt, ett, ek, el, ← (show blkK (arg17.view.read (Elt F) f17) ⟨4, by decide⟩ = _ from e), ← rdK arg17 f17 ⟨4, by decide⟩ rfl inb_S1x96x2048_S1x96x256_0_0_1024]
    rfl
  · have h20' := h20
    rw [← hi] at h20'
    rw [show k.val + 1 + 10 = r.val + 1 by omega]
    refine DqAt.step (L := []) (by decide) (by omega) h20' _ ?_ oQ _
    rw [prob_full _ _ _ hn]
    simp only [dqStep, dsOf, probFull, scores]
    rw [eqr, edo, eds, ek, ev, evs, el, ed, ← rdQ arg20 _ r oQ (k0_off36_inb k)]
    rfl

end Cert.Proof.KernelIdeal
-- ==== Proof.Trip7.lean ====
module

public import proofs.«01_k».proof.Proof.Gen.KernelIdeal
public import proofs.«01_k».proof.Proof.Gen.KernelIdeal.Skeleton
public import proofs.«01_k».proof.Proof.Model
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- One trip of the loop over the row blocks below the diagonal of key block 5. -/
theorem trip7 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v803 : FVec F S96x256 .f32) (v811 : FVec F S96x256 .f32) (v873 : FVec F S96x256 .f32) (v881 : FVec F S96x256 .f32) (v887 : FVec F S96x1024 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  (k : Fin k0_t7_loop.trips) :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨5, by decide⟩ k.val (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨5, by decide⟩ k.val (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 5 (k.val + 12) (arg20.view.read (Elt F) f20)⌝) : sProp 𝕄G) ⊢
  wp frame (wpE (defs₀ (F := F)) Variants.none (c : Thread nD τ) none) Set.univ (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v803 v811 v873 v881 v887 k PUnit.unit)
   (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨5, by decide⟩ (k.val + 1) (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨5, by decide⟩ (k.val + 1) (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 5 (k.val + 1 + 12) (arg20.view.read (Elt F) f20)⌝)) := by
  have hk : k.val < 4 := Nat.lt_of_lt_of_le k.isLt k0_t7_abs.2.1
  unfold k0_t7_body
  iintro ⟨⟨H1, H2, H3, H4, H5, H6, H7, H8, H9, H10, H11, H12, H13, H14, H18, H19⟩, %f16, %f17, %f20, H16, H17, H20, %hh⟩
  obtain ⟨h16, h17, h20⟩ := hh
  sl_exec
  sl_step
  isplitl [H1 H2 H3 H4 H5 H6 H7 H8 H9 H10 H11 H12 H13 H14 H18 H19]
  · iframe
  iexists _, _, _
  isplitl [H16]
  · iexact H16
  isplitl [H17]
  · iexact H17
  isplitl [H20]
  · iexact H20
  ipureintro
  subst hv5
  obtain ⟨r, hr⟩ : ∃ r : Fin 16, r = blkNo (k.val + 2 * (⟨5, by decide⟩ : Fin 8).val + 2) := ⟨_, rfl⟩
  have hi : r.val = k.val + 12 := by
    rw [hr, blkNo_of_lt (by show k.val + 2 * 5 + 2 < 16; omega)]
    show k.val + 2 * 5 + 2 = _
    omega
  have hn : r.val / 2 ≠ (⟨5, by decide⟩ : Fin 8).val := by show r.val / 2 ≠ 5; omega
  have oD : k0_off37 k = ![0, 1024 * r.val, 0] := (k0_off37_eq k).trans (by rw [hi, Nat.mul_add])
  have oS : k0_off38 k = ![1024 * r.val, 0] := (k0_off38_eq k).trans (by rw [hi, Nat.mul_add])
  have oC : k0_off39 k = ![0, 1024 * r.val, 0] := (k0_off39_eq k).trans (by rw [hi, Nat.mul_add])
  have oT : k0_off40 k = ![0, 0, 1024 * r.val] := (k0_off40_eq k).trans (by rw [hi, Nat.mul_add])
  have oR : k0_off41 k = ![0, 0, 1024 * r.val] := (k0_off41_eq k).trans (by rw [hi, Nat.mul_add])
  have oQ : k0_off42 k = ![0, 1024 * r.val] := (k0_off42_eq k).trans (by rw [hi, Nat.mul_add])
  have eqr : blkD (inOf arg1 arg2 arg3 arg4 arg5 arg6 arg7 arg8 arg9 arg10 arg11 arg12 arg13 arg14 X1 X2 X3 X4 X5 X6 X7 X8 X9 X10 X11 X12 X13 X14).qr r = _ := (rdD arg8 X8 r oD (k0_off37_inb k)).symm
  have edo : blkD (inOf arg1 arg2 arg3 arg4 arg5 arg6 arg7 arg8 arg9 arg10 arg11 arg12 arg13 arg14 X1 X2 X3 X4 X5 X6 X7 X8 X9 X10 X11 X12 X13 X14).dor r = _ := (rdD arg2 X2 r oD (k0_off37_inb k)).symm
  have eds : blkC (inOf arg1 arg2 arg3 arg4 arg5 arg6 arg7 arg8 arg9 arg10 arg11 arg12 arg13 arg14 X1 X2 X3 X4 X5 X6 X7 X8 X9 X10 X11 X12 X13 X14).dos r = _ := (rdC arg3 X3 r oC (k0_off39_inb k)).symm
  have eqt : blkT (inOf arg1 arg2 arg3 arg4 arg5 arg6 arg7 arg8 arg9 arg10 arg11 arg12 arg13 arg14 X1 X2 X3 X4 X5 X6 X7 X8 X9 X10 X11 X12 X13 X14).qt r = _ := (rdT arg4 X4 r oT (k0_off40_inb k)).symm
  have eqs : blkR (inOf arg1 arg2 arg3 arg4 arg5 arg6 arg7 arg8 arg9 arg10 arg11 arg12 arg13 arg14 X1 X2 X3 X4 X5 X6 X7 X8 X9 X10 X11 X12 X13 X14).qs r = _ := (rdR arg5 X5 r oR (k0_off41_inb k)).symm
  have edt : blkT (inOf arg1 arg2 arg3 arg4 arg5 arg6 arg7 arg8 arg9 arg10 arg11 arg12 arg13 arg14 X1 X2 X3 X4 X5 X6 X7 X8 X9 X10 X11 X12 X13 X14).dot r = _ := (rdT arg6 X6 r oT (k0_off40_inb k)).symm
  have ett : blkR (inOf arg1 arg2 arg3 arg4 arg5 arg6 arg7 arg8 arg9 arg10 arg11 arg12 arg13 arg14 X1 X2 X3 X4 X5 X6 X7 X8 X9 X10 X11 X12 X13 X14).dost r = _ := (rdR arg7 X7 r oR (k0_off41_inb k)).symm
  have ek : blkK (inOf arg1 arg2 arg3 arg4 arg5 arg6 arg7 arg8 arg9 arg10 arg11 arg12 arg13 arg14 X1 X2 X3 X4 X5 X6 X7 X8 X9 X10 X11 X12 X13 X14).kt ⟨5, by decide⟩ = _ := (rdK arg11 X11 ⟨5, by decide⟩ rfl inb_S1x96x2048_S1x96x256_0_0_1280).symm
  have ev : blkK (inOf arg1 arg2 arg3 arg4 arg5 arg6 arg7 arg8 arg9 arg10 arg11 arg12 arg13 arg14 X1 X2 X3 X4 X5 X6 X7 X8 X9 X10 X11 X12 X13 X14).vt ⟨5, by decide⟩ = _ := (rdK arg12 X12 ⟨5, by decide⟩ rfl inb_S1x96x2048_S1x96x256_0_0_1280).symm
  have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
  have el : lseB (inOf arg1 arg2 arg3 arg4 arg5 arg6 arg7 arg8 arg9 arg10 arg11 arg12 arg13 arg14 X1 X2 X3 X4 X5 X6 X7 X8 X9 X10 X11 X12 X13 X14) r = _ := (h18 r).symm.trans (rdS arg18 X18 r oS (k0_off38_inb k)).symm
  have ed : deltaB (inOf arg1 arg2 arg3 arg4 arg5 arg6 arg7 arg8 arg9 arg10 arg11 arg12 arg13 arg14 X1 X2 X3 X4 X5 X6 X7 X8 X9 X10 X11 X12 X13 X14) r = _ := (h19 r).symm.trans (rdS arg19 X19 r oS (k0_off38_inb k)).symm
  refine ⟨KvAt.step (L := []) h16 _ (fun e => ?_) rfl _, KvAt.step (L := []) h17 _ (fun e => ?_) rfl _, ?_⟩
  · rw [dkSum_succ, ← hr]
    simp only [dkOf, probFull, scores]
    rw [eqr, edo, eds, eqt, eqs, ek, ev, evs, el, ed, ← (show blkK (arg16.view.read (Elt F) f16) ⟨5, by decide⟩ = _ from e), ← rdK arg16 f16 ⟨5, by decide⟩ rfl inb_S1x96x2048_S1x96x256_0_0_1280]
    rfl
  · rw [dvSum_succ, ← hr]
    simp only [dvOf, probFull, scores]
    rw [eqr, edt, ett, ek, el, ← (show blkK (arg17.view.read (Elt F) f17) ⟨5, by decide⟩ = _ from e), ← rdK arg17 f17 ⟨5, by decide⟩ rfl inb_S1x96x2048_S1x96x256_0_0_1280]
    rfl
  · have h20' := h20
    rw [← hi] at h20'
    rw [show k.val + 1 + 12 = r.val + 1 by omega]
    refine DqAt.step (L := []) (by decide) (by omega) h20' _ ?_ oQ _
    rw [prob_full _ _ _ hn]
    simp only [dqStep, dsOf, probFull, scores]
    rw [eqr, edo, eds, ek, ev, evs, el, ed, ← rdQ arg20 _ r oQ (k0_off42_inb k)]
    rfl

end Cert.Proof.KernelIdeal
-- ==== Proof.Trip8.lean ====
module

public import proofs.«01_k».proof.Proof.Gen.KernelIdeal
public import proofs.«01_k».proof.Proof.Gen.KernelIdeal.Skeleton
public import proofs.«01_k».proof.Proof.Model
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- One trip of the loop over the row blocks below the diagonal of key block 6. -/
theorem trip8 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v952 : FVec F S96x256 .f32) (v960 : FVec F S96x256 .f32) (v1014 : FVec F S1024x256 .bf16) (v1022 : FVec F S96x256 .f32) (v1024 : FVec F S96x1024 .fp8e4m3)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  (k : Fin k0_t8_loop.trips) :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨6, by decide⟩ k.val (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨6, by decide⟩ k.val (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 6 (k.val + 14) (arg20.view.read (Elt F) f20)⌝) : sProp 𝕄G) ⊢
  wp frame (wpE (defs₀ (F := F)) Variants.none (c : Thread nD τ) none) Set.univ (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v952 v960 v1014 v1022 v1024 k PUnit.unit)
   (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨6, by decide⟩ (k.val + 1) (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨6, by decide⟩ (k.val + 1) (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 6 (k.val + 1 + 14) (arg20.view.read (Elt F) f20)⌝)) := by
  have hk : k.val < 2 := Nat.lt_of_lt_of_le k.isLt k0_t8_abs.2.1
  unfold k0_t8_body
  iintro ⟨⟨H1, H2, H3, H4, H5, H6, H7, H8, H9, H10, H11, H12, H13, H14, H18, H19⟩, %f16, %f17, %f20, H16, H17, H20, %hh⟩
  obtain ⟨h16, h17, h20⟩ := hh
  sl_exec
  sl_step
  isplitl [H1 H2 H3 H4 H5 H6 H7 H8 H9 H10 H11 H12 H13 H14 H18 H19]
  · iframe
  iexists _, _, _
  isplitl [H16]
  · iexact H16
  isplitl [H17]
  · iexact H17
  isplitl [H20]
  · iexact H20
  ipureintro
  subst hv5
  obtain ⟨r, hr⟩ : ∃ r : Fin 16, r = blkNo (k.val + 2 * (⟨6, by decide⟩ : Fin 8).val + 2) := ⟨_, rfl⟩
  have hi : r.val = k.val + 14 := by
    rw [hr, blkNo_of_lt (by show k.val + 2 * 6 + 2 < 16; omega)]
    show k.val + 2 * 6 + 2 = _
    omega
  have hn : r.val / 2 ≠ (⟨6, by decide⟩ : Fin 8).val := by show r.val / 2 ≠ 6; omega
  have oD : k0_off43 k = ![0, 1024 * r.val, 0] := (k0_off43_eq k).trans (by rw [hi, Nat.mul_add])
  have oS : k0_off44 k = ![1024 * r.val, 0] := (k0_off44_eq k).trans (by rw [hi, Nat.mul_add])
  have oC : k0_off45 k = ![0, 1024 * r.val, 0] := (k0_off45_eq k).trans (by rw [hi, Nat.mul_add])
  have oT : k0_off46 k = ![0, 0, 1024 * r.val] := (k0_off46_eq k).trans (by rw [hi, Nat.mul_add])
  have oR : k0_off47 k = ![0, 0, 1024 * r.val] := (k0_off47_eq k).trans (by rw [hi, Nat.mul_add])
  have oQ : k0_off48 k = ![0, 1024 * r.val] := (k0_off48_eq k).trans (by rw [hi, Nat.mul_add])
  have eqr : blkD (inOf arg1 arg2 arg3 arg4 arg5 arg6 arg7 arg8 arg9 arg10 arg11 arg12 arg13 arg14 X1 X2 X3 X4 X5 X6 X7 X8 X9 X10 X11 X12 X13 X14).qr r = _ := (rdD arg8 X8 r oD (k0_off43_inb k)).symm
  have edo : blkD (inOf arg1 arg2 arg3 arg4 arg5 arg6 arg7 arg8 arg9 arg10 arg11 arg12 arg13 arg14 X1 X2 X3 X4 X5 X6 X7 X8 X9 X10 X11 X12 X13 X14).dor r = _ := (rdD arg2 X2 r oD (k0_off43_inb k)).symm
  have eds : blkC (inOf arg1 arg2 arg3 arg4 arg5 arg6 arg7 arg8 arg9 arg10 arg11 arg12 arg13 arg14 X1 X2 X3 X4 X5 X6 X7 X8 X9 X10 X11 X12 X13 X14).dos r = _ := (rdC arg3 X3 r oC (k0_off45_inb k)).symm
  have eqt : blkT (inOf arg1 arg2 arg3 arg4 arg5 arg6 arg7 arg8 arg9 arg10 arg11 arg12 arg13 arg14 X1 X2 X3 X4 X5 X6 X7 X8 X9 X10 X11 X12 X13 X14).qt r = _ := (rdT arg4 X4 r oT (k0_off46_inb k)).symm
  have eqs : blkR (inOf arg1 arg2 arg3 arg4 arg5 arg6 arg7 arg8 arg9 arg10 arg11 arg12 arg13 arg14 X1 X2 X3 X4 X5 X6 X7 X8 X9 X10 X11 X12 X13 X14).qs r = _ := (rdR arg5 X5 r oR (k0_off47_inb k)).symm
  have edt : blkT (inOf arg1 arg2 arg3 arg4 arg5 arg6 arg7 arg8 arg9 arg10 arg11 arg12 arg13 arg14 X1 X2 X3 X4 X5 X6 X7 X8 X9 X10 X11 X12 X13 X14).dot r = _ := (rdT arg6 X6 r oT (k0_off46_inb k)).symm
  have ett : blkR (inOf arg1 arg2 arg3 arg4 arg5 arg6 arg7 arg8 arg9 arg10 arg11 arg12 arg13 arg14 X1 X2 X3 X4 X5 X6 X7 X8 X9 X10 X11 X12 X13 X14).dost r = _ := (rdR arg7 X7 r oR (k0_off47_inb k)).symm
  have ek : blkK (inOf arg1 arg2 arg3 arg4 arg5 arg6 arg7 arg8 arg9 arg10 arg11 arg12 arg13 arg14 X1 X2 X3 X4 X5 X6 X7 X8 X9 X10 X11 X12 X13 X14).kt ⟨6, by decide⟩ = _ := (rdK arg11 X11 ⟨6, by decide⟩ rfl inb_S1x96x2048_S1x96x256_0_0_1536).symm
  have ev : blkK (inOf arg1 arg2 arg3 arg4 arg5 arg6 arg7 arg8 arg9 arg10 arg11 arg12 arg13 arg14 X1 X2 X3 X4 X5 X6 X7 X8 X9 X10 X11 X12 X13 X14).vt ⟨6, by decide⟩ = _ := (rdK arg12 X12 ⟨6, by decide⟩ rfl inb_S1x96x2048_S1x96x256_0_0_1536).symm
  have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
  have el : lseB (inOf arg1 arg2 arg3 arg4 arg5 arg6 arg7 arg8 arg9 arg10 arg11 arg12 arg13 arg14 X1 X2 X3 X4 X5 X6 X7 X8 X9 X10 X11 X12 X13 X14) r = _ := (h18 r).symm.trans (rdS arg18 X18 r oS (k0_off44_inb k)).symm
  have ed : deltaB (inOf arg1 arg2 arg3 arg4 arg5 arg6 arg7 arg8 arg9 arg10 arg11 arg12 arg13 arg14 X1 X2 X3 X4 X5 X6 X7 X8 X9 X10 X11 X12 X13 X14) r = _ := (h19 r).symm.trans (rdS arg19 X19 r oS (k0_off44_inb k)).symm
  refine ⟨KvAt.step (L := []) h16 _ (fun e => ?_) rfl _, KvAt.step (L := []) h17 _ (fun e => ?_) rfl _, ?_⟩
  · rw [dkSum_succ, ← hr]
    simp only [dkOf, probFull, scores]
    rw [eqr, edo, eds, eqt, eqs, ek, ev, evs, el, ed, ← (show blkK (arg16.view.read (Elt F) f16) ⟨6, by decide⟩ = _ from e), ← rdK arg16 f16 ⟨6, by decide⟩ rfl inb_S1x96x2048_S1x96x256_0_0_1536]
    rfl
  · rw [dvSum_succ, ← hr]
    simp only [dvOf, probFull, scores]
    rw [eqr, edt, ett, ek, el, ← (show blkK (arg17.view.read (Elt F) f17) ⟨6, by decide⟩ = _ from e), ← rdK arg17 f17 ⟨6, by decide⟩ rfl inb_S1x96x2048_S1x96x256_0_0_1536]
    rfl
  · have h20' := h20
    rw [← hi] at h20'
    rw [show k.val + 1 + 14 = r.val + 1 by omega]
    refine DqAt.step (L := []) (by decide) (by omega) h20' _ ?_ oQ _
    rw [prob_full _ _ _ hn]
    simp only [dqStep, dsOf, probFull, scores]
    rw [eqr, edo, eds, ek, ev, evs, el, ed, ← rdQ arg20 _ r oQ (k0_off48_inb k)]
    rfl

end Cert.Proof.KernelIdeal
-- ==== Proof.Loops.lean ====
module

public import proofs.«01_k».proof.Proof.Gen.KernelIdeal
public import proofs.«01_k».proof.Proof.Gen.KernelIdeal.Skeleton
public import proofs.«01_k».proof.Proof.Trip2
public import proofs.«01_k».proof.Proof.Trip3
public import proofs.«01_k».proof.Proof.Trip4
public import proofs.«01_k».proof.Proof.Trip5
public import proofs.«01_k».proof.Proof.Trip6
public import proofs.«01_k».proof.Proof.Trip7
public import proofs.«01_k».proof.Proof.Trip8
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The loop over the row blocks below the diagonal of key block 0. -/
@[reducible] def loop2 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v58 : FVec F S96x256 .f32) (v66 : FVec F S96x256 .f32) (v120 : FVec F S1024x256 .bf16) (v128 : FVec F S96x256 .f32) (v136 : FVec F S96x256 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j) :
  LoopInv (M := 𝕄G) frame (wpE (defs₀ (F := F)) Variants.none (c : Thread nD τ) none) Set.univ
    k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v58 v66 v120 v128 v136) where
  inv k _ := iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨0, by decide⟩ k (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨0, by decide⟩ k (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 0 (k + 2) (arg20.view.read (Elt F) f20)⌝)
  step k _ := trip2 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v58 v66 v120 v128 v136 X1 X2 X3 X4 X5 X6 X7 X8 X9 X10 X11 X12 X13 X14 X18 X19 hv5 h18 h19 k

/-- The loop over the row blocks below the diagonal of key block 1. -/
@[reducible] def loop3 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v207 : FVec F S96x256 .f32) (v215 : FVec F S96x256 .f32) (v268 : FVec F S1024x256 .bf16) (v269 : FVec F S1024x256 .bf16) (v272 : FVec F S96x1024 .bf16) (v273 : Vec F S1x1x1024 .bf16)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j) :
  LoopInv (M := 𝕄G) frame (wpE (defs₀ (F := F)) Variants.none (c : Thread nD τ) none) Set.univ
    k0_t3_loop.lb k0_t3_loop.ub k0_t3_loop.st k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v207 v215 v268 v269 v272 v273) where
  inv k _ := iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨1, by decide⟩ k (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨1, by decide⟩ k (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 1 (k + 4) (arg20.view.read (Elt F) f20)⌝)
  step k _ := trip3 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v207 v215 v268 v269 v272 v273 X1 X2 X3 X4 X5 X6 X7 X8 X9 X10 X11 X12 X13 X14 X18 X19 hv5 h18 h19 k

/-- The loop over the row blocks below the diagonal of key block 2. -/
@[reducible] def loop4 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v356 : FVec F S96x256 .f32) (v364 : FVec F S96x256 .f32) (v426 : FVec F S96x256 .f32) (v434 : FVec F S96x256 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j) :
  LoopInv (M := 𝕄G) frame (wpE (defs₀ (F := F)) Variants.none (c : Thread nD τ) none) Set.univ
    k0_t4_loop.lb k0_t4_loop.ub k0_t4_loop.st k0_t4_ok () (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v356 v364 v426 v434) where
  inv k _ := iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨2, by decide⟩ k (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨2, by decide⟩ k (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 2 (k + 6) (arg20.view.read (Elt F) f20)⌝)
  step k _ := trip4 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v356 v364 v426 v434 X1 X2 X3 X4 X5 X6 X7 X8 X9 X10 X11 X12 X13 X14 X18 X19 hv5 h18 h19 k

/-- The loop over the row blocks below the diagonal of key block 3. -/
@[reducible] def loop5 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v505 : FVec F S96x256 .f32) (v513 : FVec F S96x256 .f32) (v567 : FVec F S1024x256 .bf16) (v575 : FVec F S96x256 .f32) (v578 : FVec F S96x1024 .bf16) (v580 : FVec F S1x1024 .bf16)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j) :
  LoopInv (M := 𝕄G) frame (wpE (defs₀ (F := F)) Variants.none (c : Thread nD τ) none) Set.univ
    k0_t5_loop.lb k0_t5_loop.ub k0_t5_loop.st k0_t5_ok () (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v505 v513 v567 v575 v578 v580) where
  inv k _ := iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨3, by decide⟩ k (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨3, by decide⟩ k (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 3 (k + 8) (arg20.view.read (Elt F) f20)⌝)
  step k _ := trip5 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v505 v513 v567 v575 v578 v580 X1 X2 X3 X4 X5 X6 X7 X8 X9 X10 X11 X12 X13 X14 X18 X19 hv5 h18 h19 k

/-- The loop over the row blocks below the diagonal of key block 4. -/
@[reducible] def loop6 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j) :
  LoopInv (M := 𝕄G) frame (wpE (defs₀ (F := F)) Variants.none (c : Thread nD τ) none) Set.univ
    k0_t6_loop.lb k0_t6_loop.ub k0_t6_loop.st k0_t6_ok () (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5) where
  inv k _ := iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨4, by decide⟩ k (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨4, by decide⟩ k (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 4 (k + 10) (arg20.view.read (Elt F) f20)⌝)
  step k _ := trip6 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 X1 X2 X3 X4 X5 X6 X7 X8 X9 X10 X11 X12 X13 X14 X18 X19 hv5 h18 h19 k

/-- The loop over the row blocks below the diagonal of key block 5. -/
@[reducible] def loop7 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v803 : FVec F S96x256 .f32) (v811 : FVec F S96x256 .f32) (v873 : FVec F S96x256 .f32) (v881 : FVec F S96x256 .f32) (v887 : FVec F S96x1024 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j) :
  LoopInv (M := 𝕄G) frame (wpE (defs₀ (F := F)) Variants.none (c : Thread nD τ) none) Set.univ
    k0_t7_loop.lb k0_t7_loop.ub k0_t7_loop.st k0_t7_ok () (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v803 v811 v873 v881 v887) where
  inv k _ := iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨5, by decide⟩ k (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨5, by decide⟩ k (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 5 (k + 12) (arg20.view.read (Elt F) f20)⌝)
  step k _ := trip7 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v803 v811 v873 v881 v887 X1 X2 X3 X4 X5 X6 X7 X8 X9 X10 X11 X12 X13 X14 X18 X19 hv5 h18 h19 k

/-- The loop over the row blocks below the diagonal of key block 6. -/
@[reducible] def loop8 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v952 : FVec F S96x256 .f32) (v960 : FVec F S96x256 .f32) (v1014 : FVec F S1024x256 .bf16) (v1022 : FVec F S96x256 .f32) (v1024 : FVec F S96x1024 .fp8e4m3)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j) :
  LoopInv (M := 𝕄G) frame (wpE (defs₀ (F := F)) Variants.none (c : Thread nD τ) none) Set.univ
    k0_t8_loop.lb k0_t8_loop.ub k0_t8_loop.st k0_t8_ok () (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v952 v960 v1014 v1022 v1024) where
  inv k _ := iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗
    ⌜KvAt (dkSum (inOf arg1 arg2 arg3 arg4 arg5 arg6 arg7 arg8 arg9 arg10 arg11 arg12 arg13 arg14 X1 X2 X3 X4 X5 X6 X7 X8 X9 X10 X11 X12 X13 X14)) ⟨6, by decide⟩ k (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨6, by decide⟩ k (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 6 (k + 14) (arg20.view.read (Elt F) f20)⌝)
  step k _ := trip8 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v952 v960 v1014 v1022 v1024 X1 X2 X3 X4 X5 X6 X7 X8 X9 X10 X11 X12 X13 X14 X18 X19 hv5 h18 h19 k

end Cert.Proof.KernelIdeal
-- ==== Proof.Prep.lean ====
module

public import proofs.«01_k».proof.Proof.Gen.KernelIdeal
public import proofs.«01_k».proof.Proof.Gen.KernelIdeal.Skeleton
public import proofs.«01_k».proof.Proof.Model
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! ## The rows written one token at a time

The log-sum-exp table of a row block is written in 128 stores of eight rows; each store's place, in closed form: -/

instance (k : Fin k0_t1_loop.trips) : ClosedOff (k0_off6 k 0#32) := ⟨![1024 * k.val + 0, 0], k0_off6_eq k 0⟩
instance (k : Fin k0_t1_loop.trips) : ClosedOff (k0_off6 k 8#32) := ⟨![1024 * k.val + 8, 0], k0_off6_eq k 1⟩
instance (k : Fin k0_t1_loop.trips) : ClosedOff (k0_off6 k 16#32) := ⟨![1024 * k.val + 16, 0], k0_off6_eq k 2⟩
instance (k : Fin k0_t1_loop.trips) : ClosedOff (k0_off6 k 24#32) := ⟨![1024 * k.val + 24, 0], k0_off6_eq k 3⟩
instance (k : Fin k0_t1_loop.trips) : ClosedOff (k0_off6 k 32#32) := ⟨![1024 * k.val + 32, 0], k0_off6_eq k 4⟩
instance (k : Fin k0_t1_loop.trips) : ClosedOff (k0_off6 k 40#32) := ⟨![1024 * k.val + 40, 0], k0_off6_eq k 5⟩
instance (k : Fin k0_t1_loop.trips) : ClosedOff (k0_off6 k 48#32) := ⟨![1024 * k.val + 48, 0], k0_off6_eq k 6⟩
instance (k : Fin k0_t1_loop.trips) : ClosedOff (k0_off6 k 56#32) := ⟨![1024 * k.val + 56, 0], k0_off6_eq k 7⟩
instance (k : Fin k0_t1_loop.trips) : ClosedOff (k0_off6 k 64#32) := ⟨![1024 * k.val + 64, 0], k0_off6_eq k 8⟩
instance (k : Fin k0_t1_loop.trips) : ClosedOff (k0_off6 k 72#32) := ⟨![1024 * k.val + 72, 0], k0_off6_eq k 9⟩
instance (k : Fin k0_t1_loop.trips) : ClosedOff (k0_off6 k 80#32) := ⟨![1024 * k.val + 80, 0], k0_off6_eq k 10⟩
instance (k : Fin k0_t1_loop.trips) : ClosedOff (k0_off6 k 88#32) := ⟨![1024 * k.val + 88, 0], k0_off6_eq k 11⟩
instance (k : Fin k0_t1_loop.trips) : ClosedOff (k0_off6 k 96#32) := ⟨![1024 * k.val + 96, 0], k0_off6_eq k 12⟩
instance (k : Fin k0_t1_loop.trips) : ClosedOff (k0_off6 k 104#32) := ⟨![1024 * k.val + 104, 0], k0_off6_eq k 13⟩
instance (k : Fin k0_t1_loop.trips) : ClosedOff (k0_off6 k 112#32) := ⟨![1024 * k.val + 112, 0], k0_off6_eq k 14⟩
instance (k : Fin k0_t1_loop.trips) : ClosedOff (k0_off6 k 120#32) := ⟨![1024 * k.val + 120, 0], k0_off6_eq k 15⟩
instance (k : Fin k0_t1_loop.trips) : ClosedOff (k0_off6 k 128#32) := ⟨![1024 * k.val + 128, 0], k0_off6_eq k 16⟩
instance (k : Fin k0_t1_loop.trips) : ClosedOff (k0_off6 k 136#32) := ⟨![1024 * k.val + 136, 0], k0_off6_eq k 17⟩
instance (k : Fin k0_t1_loop.trips) : ClosedOff (k0_off6 k 144#32) := ⟨![1024 * k.val + 144, 0], k0_off6_eq k 18⟩
instance (k : Fin k0_t1_loop.trips) : ClosedOff (k0_off6 k 152#32) := ⟨![1024 * k.val + 152, 0], k0_off6_eq k 19⟩
instance (k : Fin k0_t1_loop.trips) : ClosedOff (k0_off6 k 160#32) := ⟨![1024 * k.val + 160, 0], k0_off6_eq k 20⟩
instance (k : Fin k0_t1_loop.trips) : ClosedOff (k0_off6 k 168#32) := ⟨![1024 * k.val + 168, 0], k0_off6_eq k 21⟩
instance (k : Fin k0_t1_loop.trips) : ClosedOff (k0_off6 k 176#32) := ⟨![1024 * k.val + 176, 0], k0_off6_eq k 22⟩
instance (k : Fin k0_t1_loop.trips) : ClosedOff (k0_off6 k 184#32) := ⟨![1024 * k.val + 184, 0], k0_off6_eq k 23⟩
instance (k : Fin k0_t1_loop.trips) : ClosedOff (k0_off6 k 192#32) := ⟨![1024 * k.val + 192, 0], k0_off6_eq k 24⟩
instance (k : Fin k0_t1_loop.trips) : ClosedOff (k0_off6 k 200#32) := ⟨![1024 * k.val + 200, 0], k0_off6_eq k 25⟩
instance (k : Fin k0_t1_loop.trips) : ClosedOff (k0_off6 k 208#32) := ⟨![1024 * k.val + 208, 0], k0_off6_eq k 26⟩
instance (k : Fin k0_t1_loop.trips) : ClosedOff (k0_off6 k 216#32) := ⟨![1024 * k.val + 216, 0], k0_off6_eq k 27⟩
instance (k : Fin k0_t1_loop.trips) : ClosedOff (k0_off6 k 224#32) := ⟨![1024 * k.val + 224, 0], k0_off6_eq k 28⟩
instance (k : Fin k0_t1_loop.trips) : ClosedOff (k0_off6 k 232#32) := ⟨![1024 * k.val + 232, 0], k0_off6_eq k 29⟩
instance (k : Fin k0_t1_loop.trips) : ClosedOff (k0_off6 k 240#32) := ⟨![1024 * k.val + 240, 0], k0_off6_eq k 30⟩
instance (k : Fin k0_t1_loop.trips) : ClosedOff (k0_off6 k 248#32) := ⟨![1024 * k.val + 248, 0], k0_off6_eq k 31⟩
instance (k : Fin k0_t1_loop.trips) : ClosedOff (k0_off6 k 256#32) := ⟨![1024 * k.val + 256, 0], k0_off6_eq k 32⟩
instance (k : Fin k0_t1_loop.trips) : ClosedOff (k0_off6 k 264#32) := ⟨![1024 * k.val + 264, 0], k0_off6_eq k 33⟩
instance (k : Fin k0_t1_loop.trips) : ClosedOff (k0_off6 k 272#32) := ⟨![1024 * k.val + 272, 0], k0_off6_eq k 34⟩
instance (k : Fin k0_t1_loop.trips) : ClosedOff (k0_off6 k 280#32) := ⟨![1024 * k.val + 280, 0], k0_off6_eq k 35⟩
instance (k : Fin k0_t1_loop.trips) : ClosedOff (k0_off6 k 288#32) := ⟨![1024 * k.val + 288, 0], k0_off6_eq k 36⟩
instance (k : Fin k0_t1_loop.trips) : ClosedOff (k0_off6 k 296#32) := ⟨![1024 * k.val + 296, 0], k0_off6_eq k 37⟩
instance (k : Fin k0_t1_loop.trips) : ClosedOff (k0_off6 k 304#32) := ⟨![1024 * k.val + 304, 0], k0_off6_eq k 38⟩
instance (k : Fin k0_t1_loop.trips) : ClosedOff (k0_off6 k 312#32) := ⟨![1024 * k.val + 312, 0], k0_off6_eq k 39⟩
instance (k : Fin k0_t1_loop.trips) : ClosedOff (k0_off6 k 320#32) := ⟨![1024 * k.val + 320, 0], k0_off6_eq k 40⟩
instance (k : Fin k0_t1_loop.trips) : ClosedOff (k0_off6 k 328#32) := ⟨![1024 * k.val + 328, 0], k0_off6_eq k 41⟩
instance (k : Fin k0_t1_loop.trips) : ClosedOff (k0_off6 k 336#32) := ⟨![1024 * k.val + 336, 0], k0_off6_eq k 42⟩
instance (k : Fin k0_t1_loop.trips) : ClosedOff (k0_off6 k 344#32) := ⟨![1024 * k.val + 344, 0], k0_off6_eq k 43⟩
instance (k : Fin k0_t1_loop.trips) : ClosedOff (k0_off6 k 352#32) := ⟨![1024 * k.val + 352, 0], k0_off6_eq k 44⟩
instance (k : Fin k0_t1_loop.trips) : ClosedOff (k0_off6 k 360#32) := ⟨![1024 * k.val + 360, 0], k0_off6_eq k 45⟩
instance (k : Fin k0_t1_loop.trips) : ClosedOff (k0_off6 k 368#32) := ⟨![1024 * k.val + 368, 0], k0_off6_eq k 46⟩
instance (k : Fin k0_t1_loop.trips) : ClosedOff (k0_off6 k 376#32) := ⟨![1024 * k.val + 376, 0], k0_off6_eq k 47⟩
instance (k : Fin k0_t1_loop.trips) : ClosedOff (k0_off6 k 384#32) := ⟨![1024 * k.val + 384, 0], k0_off6_eq k 48⟩
instance (k : Fin k0_t1_loop.trips) : ClosedOff (k0_off6 k 392#32) := ⟨![1024 * k.val + 392, 0], k0_off6_eq k 49⟩
instance (k : Fin k0_t1_loop.trips) : ClosedOff (k0_off6 k 400#32) := ⟨![1024 * k.val + 400, 0], k0_off6_eq k 50⟩
instance (k : Fin k0_t1_loop.trips) : ClosedOff (k0_off6 k 408#32) := ⟨![1024 * k.val + 408, 0], k0_off6_eq k 51⟩
instance (k : Fin k0_t1_loop.trips) : ClosedOff (k0_off6 k 416#32) := ⟨![1024 * k.val + 416, 0], k0_off6_eq k 52⟩
instance (k : Fin k0_t1_loop.trips) : ClosedOff (k0_off6 k 424#32) := ⟨![1024 * k.val + 424, 0], k0_off6_eq k 53⟩
instance (k : Fin k0_t1_loop.trips) : ClosedOff (k0_off6 k 432#32) := ⟨![1024 * k.val + 432, 0], k0_off6_eq k 54⟩
instance (k : Fin k0_t1_loop.trips) : ClosedOff (k0_off6 k 440#32) := ⟨![1024 * k.val + 440, 0], k0_off6_eq k 55⟩
instance (k : Fin k0_t1_loop.trips) : ClosedOff (k0_off6 k 448#32) := ⟨![1024 * k.val + 448, 0], k0_off6_eq k 56⟩
instance (k : Fin k0_t1_loop.trips) : ClosedOff (k0_off6 k 456#32) := ⟨![1024 * k.val + 456, 0], k0_off6_eq k 57⟩
instance (k : Fin k0_t1_loop.trips) : ClosedOff (k0_off6 k 464#32) := ⟨![1024 * k.val + 464, 0], k0_off6_eq k 58⟩
instance (k : Fin k0_t1_loop.trips) : ClosedOff (k0_off6 k 472#32) := ⟨![1024 * k.val + 472, 0], k0_off6_eq k 59⟩
instance (k : Fin k0_t1_loop.trips) : ClosedOff (k0_off6 k 480#32) := ⟨![1024 * k.val + 480, 0], k0_off6_eq k 60⟩
instance (k : Fin k0_t1_loop.trips) : ClosedOff (k0_off6 k 488#32) := ⟨![1024 * k.val + 488, 0], k0_off6_eq k 61⟩
instance (k : Fin k0_t1_loop.trips) : ClosedOff (k0_off6 k 496#32) := ⟨![1024 * k.val + 496, 0], k0_off6_eq k 62⟩
instance (k : Fin k0_t1_loop.trips) : ClosedOff (k0_off6 k 504#32) := ⟨![1024 * k.val + 504, 0], k0_off6_eq k 63⟩
instance (k : Fin k0_t1_loop.trips) : ClosedOff (k0_off6 k 512#32) := ⟨![1024 * k.val + 512, 0], k0_off6_eq k 64⟩
instance (k : Fin k0_t1_loop.trips) : ClosedOff (k0_off6 k 520#32) := ⟨![1024 * k.val + 520, 0], k0_off6_eq k 65⟩
instance (k : Fin k0_t1_loop.trips) : ClosedOff (k0_off6 k 528#32) := ⟨![1024 * k.val + 528, 0], k0_off6_eq k 66⟩
instance (k : Fin k0_t1_loop.trips) : ClosedOff (k0_off6 k 536#32) := ⟨![1024 * k.val + 536, 0], k0_off6_eq k 67⟩
instance (k : Fin k0_t1_loop.trips) : ClosedOff (k0_off6 k 544#32) := ⟨![1024 * k.val + 544, 0], k0_off6_eq k 68⟩
instance (k : Fin k0_t1_loop.trips) : ClosedOff (k0_off6 k 552#32) := ⟨![1024 * k.val + 552, 0], k0_off6_eq k 69⟩
instance (k : Fin k0_t1_loop.trips) : ClosedOff (k0_off6 k 560#32) := ⟨![1024 * k.val + 560, 0], k0_off6_eq k 70⟩
instance (k : Fin k0_t1_loop.trips) : ClosedOff (k0_off6 k 568#32) := ⟨![1024 * k.val + 568, 0], k0_off6_eq k 71⟩
instance (k : Fin k0_t1_loop.trips) : ClosedOff (k0_off6 k 576#32) := ⟨![1024 * k.val + 576, 0], k0_off6_eq k 72⟩
instance (k : Fin k0_t1_loop.trips) : ClosedOff (k0_off6 k 584#32) := ⟨![1024 * k.val + 584, 0], k0_off6_eq k 73⟩
instance (k : Fin k0_t1_loop.trips) : ClosedOff (k0_off6 k 592#32) := ⟨![1024 * k.val + 592, 0], k0_off6_eq k 74⟩
instance (k : Fin k0_t1_loop.trips) : ClosedOff (k0_off6 k 600#32) := ⟨![1024 * k.val + 600, 0], k0_off6_eq k 75⟩
instance (k : Fin k0_t1_loop.trips) : ClosedOff (k0_off6 k 608#32) := ⟨![1024 * k.val + 608, 0], k0_off6_eq k 76⟩
instance (k : Fin k0_t1_loop.trips) : ClosedOff (k0_off6 k 616#32) := ⟨![1024 * k.val + 616, 0], k0_off6_eq k 77⟩
instance (k : Fin k0_t1_loop.trips) : ClosedOff (k0_off6 k 624#32) := ⟨![1024 * k.val + 624, 0], k0_off6_eq k 78⟩
instance (k : Fin k0_t1_loop.trips) : ClosedOff (k0_off6 k 632#32) := ⟨![1024 * k.val + 632, 0], k0_off6_eq k 79⟩
instance (k : Fin k0_t1_loop.trips) : ClosedOff (k0_off6 k 640#32) := ⟨![1024 * k.val + 640, 0], k0_off6_eq k 80⟩
instance (k : Fin k0_t1_loop.trips) : ClosedOff (k0_off6 k 648#32) := ⟨![1024 * k.val + 648, 0], k0_off6_eq k 81⟩
instance (k : Fin k0_t1_loop.trips) : ClosedOff (k0_off6 k 656#32) := ⟨![1024 * k.val + 656, 0], k0_off6_eq k 82⟩
instance (k : Fin k0_t1_loop.trips) : ClosedOff (k0_off6 k 664#32) := ⟨![1024 * k.val + 664, 0], k0_off6_eq k 83⟩
instance (k : Fin k0_t1_loop.trips) : ClosedOff (k0_off6 k 672#32) := ⟨![1024 * k.val + 672, 0], k0_off6_eq k 84⟩
instance (k : Fin k0_t1_loop.trips) : ClosedOff (k0_off6 k 680#32) := ⟨![1024 * k.val + 680, 0], k0_off6_eq k 85⟩
instance (k : Fin k0_t1_loop.trips) : ClosedOff (k0_off6 k 688#32) := ⟨![1024 * k.val + 688, 0], k0_off6_eq k 86⟩
instance (k : Fin k0_t1_loop.trips) : ClosedOff (k0_off6 k 696#32) := ⟨![1024 * k.val + 696, 0], k0_off6_eq k 87⟩
instance (k : Fin k0_t1_loop.trips) : ClosedOff (k0_off6 k 704#32) := ⟨![1024 * k.val + 704, 0], k0_off6_eq k 88⟩
instance (k : Fin k0_t1_loop.trips) : ClosedOff (k0_off6 k 712#32) := ⟨![1024 * k.val + 712, 0], k0_off6_eq k 89⟩
instance (k : Fin k0_t1_loop.trips) : ClosedOff (k0_off6 k 720#32) := ⟨![1024 * k.val + 720, 0], k0_off6_eq k 90⟩
instance (k : Fin k0_t1_loop.trips) : ClosedOff (k0_off6 k 728#32) := ⟨![1024 * k.val + 728, 0], k0_off6_eq k 91⟩
instance (k : Fin k0_t1_loop.trips) : ClosedOff (k0_off6 k 736#32) := ⟨![1024 * k.val + 736, 0], k0_off6_eq k 92⟩
instance (k : Fin k0_t1_loop.trips) : ClosedOff (k0_off6 k 744#32) := ⟨![1024 * k.val + 744, 0], k0_off6_eq k 93⟩
instance (k : Fin k0_t1_loop.trips) : ClosedOff (k0_off6 k 752#32) := ⟨![1024 * k.val + 752, 0], k0_off6_eq k 94⟩
instance (k : Fin k0_t1_loop.trips) : ClosedOff (k0_off6 k 760#32) := ⟨![1024 * k.val + 760, 0], k0_off6_eq k 95⟩
instance (k : Fin k0_t1_loop.trips) : ClosedOff (k0_off6 k 768#32) := ⟨![1024 * k.val + 768, 0], k0_off6_eq k 96⟩
instance (k : Fin k0_t1_loop.trips) : ClosedOff (k0_off6 k 776#32) := ⟨![1024 * k.val + 776, 0], k0_off6_eq k 97⟩
instance (k : Fin k0_t1_loop.trips) : ClosedOff (k0_off6 k 784#32) := ⟨![1024 * k.val + 784, 0], k0_off6_eq k 98⟩
instance (k : Fin k0_t1_loop.trips) : ClosedOff (k0_off6 k 792#32) := ⟨![1024 * k.val + 792, 0], k0_off6_eq k 99⟩
instance (k : Fin k0_t1_loop.trips) : ClosedOff (k0_off6 k 800#32) := ⟨![1024 * k.val + 800, 0], k0_off6_eq k 100⟩
instance (k : Fin k0_t1_loop.trips) : ClosedOff (k0_off6 k 808#32) := ⟨![1024 * k.val + 808, 0], k0_off6_eq k 101⟩
instance (k : Fin k0_t1_loop.trips) : ClosedOff (k0_off6 k 816#32) := ⟨![1024 * k.val + 816, 0], k0_off6_eq k 102⟩
instance (k : Fin k0_t1_loop.trips) : ClosedOff (k0_off6 k 824#32) := ⟨![1024 * k.val + 824, 0], k0_off6_eq k 103⟩
instance (k : Fin k0_t1_loop.trips) : ClosedOff (k0_off6 k 832#32) := ⟨![1024 * k.val + 832, 0], k0_off6_eq k 104⟩
instance (k : Fin k0_t1_loop.trips) : ClosedOff (k0_off6 k 840#32) := ⟨![1024 * k.val + 840, 0], k0_off6_eq k 105⟩
instance (k : Fin k0_t1_loop.trips) : ClosedOff (k0_off6 k 848#32) := ⟨![1024 * k.val + 848, 0], k0_off6_eq k 106⟩
instance (k : Fin k0_t1_loop.trips) : ClosedOff (k0_off6 k 856#32) := ⟨![1024 * k.val + 856, 0], k0_off6_eq k 107⟩
instance (k : Fin k0_t1_loop.trips) : ClosedOff (k0_off6 k 864#32) := ⟨![1024 * k.val + 864, 0], k0_off6_eq k 108⟩
instance (k : Fin k0_t1_loop.trips) : ClosedOff (k0_off6 k 872#32) := ⟨![1024 * k.val + 872, 0], k0_off6_eq k 109⟩
instance (k : Fin k0_t1_loop.trips) : ClosedOff (k0_off6 k 880#32) := ⟨![1024 * k.val + 880, 0], k0_off6_eq k 110⟩
instance (k : Fin k0_t1_loop.trips) : ClosedOff (k0_off6 k 888#32) := ⟨![1024 * k.val + 888, 0], k0_off6_eq k 111⟩
instance (k : Fin k0_t1_loop.trips) : ClosedOff (k0_off6 k 896#32) := ⟨![1024 * k.val + 896, 0], k0_off6_eq k 112⟩
instance (k : Fin k0_t1_loop.trips) : ClosedOff (k0_off6 k 904#32) := ⟨![1024 * k.val + 904, 0], k0_off6_eq k 113⟩
instance (k : Fin k0_t1_loop.trips) : ClosedOff (k0_off6 k 912#32) := ⟨![1024 * k.val + 912, 0], k0_off6_eq k 114⟩
instance (k : Fin k0_t1_loop.trips) : ClosedOff (k0_off6 k 920#32) := ⟨![1024 * k.val + 920, 0], k0_off6_eq k 115⟩
instance (k : Fin k0_t1_loop.trips) : ClosedOff (k0_off6 k 928#32) := ⟨![1024 * k.val + 928, 0], k0_off6_eq k 116⟩
instance (k : Fin k0_t1_loop.trips) : ClosedOff (k0_off6 k 936#32) := ⟨![1024 * k.val + 936, 0], k0_off6_eq k 117⟩
instance (k : Fin k0_t1_loop.trips) : ClosedOff (k0_off6 k 944#32) := ⟨![1024 * k.val + 944, 0], k0_off6_eq k 118⟩
instance (k : Fin k0_t1_loop.trips) : ClosedOff (k0_off6 k 952#32) := ⟨![1024 * k.val + 952, 0], k0_off6_eq k 119⟩
instance (k : Fin k0_t1_loop.trips) : ClosedOff (k0_off6 k 960#32) := ⟨![1024 * k.val + 960, 0], k0_off6_eq k 120⟩
instance (k : Fin k0_t1_loop.trips) : ClosedOff (k0_off6 k 968#32) := ⟨![1024 * k.val + 968, 0], k0_off6_eq k 121⟩
instance (k : Fin k0_t1_loop.trips) : ClosedOff (k0_off6 k 976#32) := ⟨![1024 * k.val + 976, 0], k0_off6_eq k 122⟩
instance (k : Fin k0_t1_loop.trips) : ClosedOff (k0_off6 k 984#32) := ⟨![1024 * k.val + 984, 0], k0_off6_eq k 123⟩
instance (k : Fin k0_t1_loop.trips) : ClosedOff (k0_off6 k 992#32) := ⟨![1024 * k.val + 992, 0], k0_off6_eq k 124⟩
instance (k : Fin k0_t1_loop.trips) : ClosedOff (k0_off6 k 1000#32) := ⟨![1024 * k.val + 1000, 0], k0_off6_eq k 125⟩
instance (k : Fin k0_t1_loop.trips) : ClosedOff (k0_off6 k 1008#32) := ⟨![1024 * k.val + 1008, 0], k0_off6_eq k 126⟩
instance (k : Fin k0_t1_loop.trips) : ClosedOff (k0_off6 k 1016#32) := ⟨![1024 * k.val + 1016, 0], k0_off6_eq k 127⟩

theorem slicesCol (n : Nat) (h : n < 128) : S8x128.Slices ![0, n] S8x1 := by
  refine ⟨rfl, fun a => ?_⟩
  match a with
  | ⟨0, _⟩ => exact Nat.le_refl 8
  | ⟨1, _⟩ => exact h

/-- The stores of the first `n` tokens, the last in front. -/
def tokenPieces (k : Fin k0_t1_loop.trips) (v : FVec F S8x128 .f32) : (n : Nat) → n ≤ 128 → List (View.Piece (Elt F) S16384x128 .f32)
  | 0, _ => []
  | n + 1, h => ⟨Rect.unit (s := S16384x128) (k0_off6 k (BitVec.ofNat 32 (8 * n))) S8x128.size (k0_off6_inb k ⟨n, h⟩),
      colRep v n (slicesCol n h)⟩ :: tokenPieces k v n (Nat.le_of_succ_le h)

theorem colRep_apply (v : FVec F S8x128 .f32) (r : Nat) (h) (hr : r < 128) (y : S8x128.Idx) :
    colRep v r h y = v (ix2 (y 0) ⟨r, hr⟩) := by
  unfold colRep
  rw [shapeCast_id, shapeCast_id]
  refine congrArg v (funext fun a => Fin.ext ?_)
  match a with
  | ⟨0, _⟩ => exact Nat.zero_add _
  | ⟨1, _⟩ => exact Nat.add_zero _

theorem tokenOff (k : Fin k0_t1_loop.trips) (n : Nat) (h : n < 128) :
    k0_off6 k (BitVec.ofNat 32 (8 * n)) = ![1024 * k.val + 8 * n, 0] := k0_off6_eq k ⟨n, h⟩

/-- Rows no store reaches stay. -/
theorem tokenRead_out (m : Memref sig .tc .vmem S16384x128 .f32) (f : BufTy.Contents (Elt F) m.view.ty) (k : Fin k0_t1_loop.trips)
    (v : FVec F S8x128 .f32) (z : S16384x128.Idx) : ∀ (n : Nat) (h : n ≤ 128),
    ((z 0).val < 1024 * k.val ∨ 1024 * k.val + 8 * n ≤ (z 0).val) →
    m.view.read (Elt F) (m.view.writes (Elt F) f (tokenPieces k v n h)) z = m.view.read (Elt F) f z
  | 0, _, _ => rfl
  | n + 1, h, hz => by
    refine Eq.trans ?_ (tokenRead_out m f k v z n (Nat.le_of_succ_le h) (by omega))
    refine View.read_slice_write_of_not_mem (v := m.view) (Rect.unit (s := S16384x128) _ S8x128.size (k0_off6_inb k ⟨n, h⟩)) _ _ Finset.univ ?_
    rw [Rect.map_emb_univ]
    intro hm
    obtain ⟨y, hy, e⟩ := (LoadRect.mem_set _).mp hm 0
    have hy' : y < 8 := hy
    have e' : (z 0).val = k0_off6 k (BitVec.ofNat 32 (8 * n)) 0 + 1 * y := e
    rw [tokenOff k n h] at e'
    have e'' : (z 0).val = 1024 * k.val + 8 * n + 1 * y := e'
    omega

/-- Token `r`'s rows hold its column. -/
theorem tokenRead_in (m : Memref sig .tc .vmem S16384x128 .f32) (f : BufTy.Contents (Elt F) m.view.ty) (k : Fin k0_t1_loop.trips)
    (v : FVec F S8x128 .f32) (z : S16384x128.Idx) (r : Fin 128) (s : Fin 8) (hz : (z 0).val = 1024 * k.val + 8 * r.val + s.val) :
    ∀ (n : Nat) (h : n ≤ 128), r.val < n →
    m.view.read (Elt F) (m.view.writes (Elt F) f (tokenPieces k v n h)) z = v (ix2 s r)
  | 0, _, hr => absurd hr (Nat.not_lt_zero _)
  | n + 1, h, hr => by
    by_cases e : r.val = n
    · have ez : z = (Rect.unit (s := S16384x128) (k0_off6 k (BitVec.ofNat 32 (8 * n))) S8x128.size (k0_off6_inb k ⟨n, h⟩)).emb
          (ix2 s (z 1)) := by
        funext a
        refine Fin.ext ?_
        match a with
        | ⟨0, _⟩ =>
          show (z 0).val = k0_off6 k (BitVec.ofNat 32 (8 * n)) 0 + 1 * s.val
          rw [tokenOff k n h]
          show _ = 1024 * k.val + 8 * n + 1 * s.val
          omega
        | ⟨1, _⟩ =>
          show (z 1).val = k0_off6 k (BitVec.ofNat 32 (8 * n)) 1 + 1 * (z 1).val
          rw [tokenOff k n h]
          show _ = 0 + 1 * (z 1).val
          omega
      rw [ez]
      refine (View.read_writes_cons_emb m.view f _ _ _ _).trans ?_
      rw [colRep_apply v n _ h]
      have er : r = ⟨n, h⟩ := Fin.ext e
      rw [er]
      rfl
    · refine Eq.trans ?_ (tokenRead_in m f k v z r s hz n (Nat.le_of_succ_le h) (by omega))
      refine View.read_slice_write_of_not_mem (v := m.view) (Rect.unit (s := S16384x128) _ S8x128.size (k0_off6_inb k ⟨n, h⟩)) _ _ Finset.univ ?_
      rw [Rect.map_emb_univ]
      intro hm
      obtain ⟨y, hy, e⟩ := (LoadRect.mem_set _).mp hm 0
      have hy' : y < 8 := hy
      have e' : (z 0).val = k0_off6 k (BitVec.ofNat 32 (8 * n)) 0 + 1 * y := e
      rw [tokenOff k n h] at e'
      have e'' : (z 0).val = 1024 * k.val + 8 * n + 1 * y := e'
      have := s.isLt
      omega

/-- The whole row block after its 128 stores. -/
theorem tokenRows (I : In F) (m : Memref sig .tc .vmem S16384x128 .f32) (f : BufTy.Contents (Elt F) m.view.ty) (k : Fin k0_t1_loop.trips)
    (r : Fin 16) (hr : r.val = k.val) (h : RowsAt (lseB I) k.val (m.view.read (Elt F) f)) :
    RowsAt (lseB I) (k.val + 1) (m.view.read (Elt F) (m.view.writes (Elt F) f (tokenPieces k (k0_pay5 (blkL I.lse r)) 128 (Nat.le_refl _)))) := by
  intro j hj
  by_cases e : j = r
  · subst e
    funext y
    have hy : (y 0).val < 1024 := (y 0).isLt
    refine tokenRead_in m f k _ _ ⟨(y 0).val / 8, Nat.div_lt_of_lt_mul hy⟩ ⟨(y 0).val % 8, Nat.mod_lt _ (by decide)⟩ ?_ 128 _ (Nat.div_lt_of_lt_mul hy)
    show 1024 * j.val + 1 * (y 0).val = 1024 * k.val + 8 * ((y 0).val / 8) + (y 0).val % 8
    omega
  · rw [← h j (by have : j.val ≠ r.val := fun h => e (Fin.ext h)
                  omega)]
    funext y
    have hy : (y 0).val < 1024 := (y 0).isLt
    refine tokenRead_out m f k _ _ 128 _ (.inl ?_)
    show 1024 * j.val + 1 * (y 0).val < 1024 * k.val
    have : j.val ≠ r.val := fun h => e (Fin.ext h)
    omega

end Cert.Proof.KernelIdeal
-- ==== Proof.PrepRun.lean ====
module

public import proofs.«01_k».proof.Proof.Gen.KernelIdeal
public import proofs.«01_k».proof.Proof.Gen.KernelIdeal.Skeleton
public import proofs.«01_k».proof.Proof.Prep
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 40000000 in
/-- One trip of the loop that fills the per-row tables: what it writes. -/
theorem prepRun (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (X2 : BufTy.Contents (Elt F) arg2.view.ty) (X3 : BufTy.Contents (Elt F) arg3.view.ty) (X9 : BufTy.Contents (Elt F) arg9.view.ty) (X10 : BufTy.Contents (Elt F) arg10.view.ty) (f18 : BufTy.Contents (Elt F) arg18.view.ty) (f19 : BufTy.Contents (Elt F) arg19.view.ty) (f20 : BufTy.Contents (Elt F) arg20.view.ty) (k : Fin k0_t1_loop.trips) :
  (iprop((arg2.view.loc (c : Thread nD τ) ↦[arg2.view.set]{fullShare} X2) ∗ (arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)) : sProp 𝕄G) ⊢
  wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k PUnit.unit)
   (fun _ => iprop((arg2.view.loc (c : Thread nD τ) ↦[arg2.view.set]{fullShare} X2) ∗ (arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ ∃ g18 g19 g20, (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗
    ⌜g18 = arg18.view.writes (Elt F) f18 (tokenPieces k (k0_pay5 (arg10.view.readAt (Elt F) (Rect.unit (s := S1x8x2048) (k0_off5 k) S1x8x128.size (k0_off5_inb k)).toLoadRect X10)) 128 (Nat.le_refl _)) ∧
     g19 = arg19.view.writes (Elt F) f19 [⟨Rect.unit (s := S16384x128) (k0_off3 k) S1024x128.size (k0_off3_inb k),
       k0_pay3 (arg2.view.readAt (Elt F) (Rect.unit (s := S1x16384x96) (k0_off1 k) S1x1024x96.size (k0_off1_inb k)).toLoadRect X2) (arg3.view.readAt (Elt F) (Rect.unit (s := S1x16384x1) (k0_off2 k) S1x1024x1.size (k0_off2_inb k)).toLoadRect X3) (arg9.view.readAt (Elt F) (Rect.unit (s := S1x16384x96) (k0_off1 k) S1x1024x96.size (k0_off1_inb k)).toLoadRect X9)⟩] ∧
     g20 = arg20.view.writes (Elt F) f20 [⟨Rect.unit (s := S96x16384) (k0_off4 k) S96x1024.size (k0_off4_inb k), k0_pay4⟩]⌝)) := by
  have hk : k.val < 16 := Nat.lt_of_lt_of_le k.isLt k0_t1_abs.2.1
  unfold k0_t1_body
  iintro ⟨H2, H3, H9, H10, H18, H19, H20⟩
  sl_exec_parts
  sl_step
  iframe H2 H3 H9 H10
  iexists _, _, _
  isplitl [H18]
  · iexact H18
  isplitl [H19]
  · iexact H19
  isplitl [H20]
  · iexact H20
  ipureintro
  refine ⟨?_, ?_, ?_⟩
  · rfl
  · rfl
  · rfl

end Cert.Proof.KernelIdeal
-- ==== Proof.Loop1.lean ====
module

public import proofs.«01_k».proof.Proof.Gen.KernelIdeal
public import proofs.«01_k».proof.Proof.Gen.KernelIdeal.Skeleton
public import proofs.«01_k».proof.Proof.PrepRun
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The first `n` row blocks of the `dq` accumulator are cleared. -/
def ZeroAt (n : Nat) (a : Vec F S96x16384 .f32) : Prop := ∀ i : Fin 16, i.val < n → blkQ a i = k0_pay4

theorem ZeroAt.start {I : In F} {a : Vec F S96x16384 .f32} (h : ZeroAt 16 a) : DqAt I 0 0 a := by
  intro i
  rw [h i i.isLt, show seen 0 0 i.val = 0 from Nat.min_eq_right (Nat.zero_le _)]
  rfl

/-- The loop that fills the per-row tables. -/
@[reducible] def loop1 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
  LoopInv (M := 𝕄G) frame (wpE (defs₀ (F := F)) Variants.none (c : Thread nD τ) none) Set.univ
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) where
  inv k _ := iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ ∃ f18 f19 f20, (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗
    ⌜RowsAt (lseB (inOf arg1 arg2 arg3 arg4 arg5 arg6 arg7 arg8 arg9 arg10 arg11 arg12 arg13 arg14 X1 X2 X3 X4 X5 X6 X7 X8 X9 X10 X11 X12 X13 X14)) k (arg18.view.read (Elt F) f18) ∧ RowsAt (deltaB (inOf arg1 arg2 arg3 arg4 arg5 arg6 arg7 arg8 arg9 arg10 arg11 arg12 arg13 arg14 X1 X2 X3 X4 X5 X6 X7 X8 X9 X10 X11 X12 X13 X14)) k (arg19.view.read (Elt F) f19) ∧
     ZeroAt k (arg20.view.read (Elt F) f20)⌝)
  step k _ := by
    have hk : k.val < 16 := Nat.lt_of_lt_of_le k.isLt k0_t1_abs.2.1
    iintro ⟨⟨H1, H2, H3, H4, H5, H6, H7, H8, H9, H10, H11, H12, H13, H14⟩, %f18, %f19, %f20, H18, H19, H20, %hh⟩
    iapply (wp_wand _ _ _) $$ [H2 H3 H9 H10 H18 H19 H20]
    · iapply (prepRun c i _ harg1 _ harg2 _ harg3 _ harg4 _ harg5 _ harg6 _ harg7 _ harg8 _ harg9 _ harg10 _ harg11 _ harg12 _ harg13 _ harg14 _ harg15 _ harg16 _ harg17 _ harg18 _ harg19 _ harg20 X2 X3 X9 X10 f18 f19 f20 k)
      iframe
    iintro %u ⟨H2, H3, H9, H10, %g18, %g19, %g20, H18, H19, H20, %hg⟩
    isplitl [H1 H2 H3 H4 H5 H6 H7 H8 H9 H10 H11 H12 H13 H14]
    · iframe
    iexists _, _, _
    isplitl [H18]
    · iexact H18
    isplitl [H19]
    · iexact H19
    isplitl [H20]
    · iexact H20
    ipureintro
    obtain ⟨h18, h19, h20⟩ := hh
    obtain ⟨e18, e19, e20⟩ := hg
    subst e18 e19 e20
    have o (n : Nat) : 1024 * k.val = 1024 * (⟨k.val, hk⟩ : Fin 16).val := rfl
    refine ⟨?_, ?_, ?_⟩
    · rw [rdL arg10 X10 ⟨k.val, hk⟩ (k0_off5_eq k)]
      exact tokenRows (inOf arg1 arg2 arg3 arg4 arg5 arg6 arg7 arg8 arg9 arg10 arg11 arg12 arg13 arg14 X1 X2 X3 X4 X5 X6 X7 X8 X9 X10 X11 X12 X13 X14) arg18 f18 k ⟨k.val, hk⟩ rfl h18
    · refine RowsAt.step (i := ⟨k.val, hk⟩) (L := []) h19 _ ?_ (k0_off3_eq k) _
      rw [rdD arg2 X2 ⟨k.val, hk⟩ (k0_off1_eq k), rdC arg3 X3 ⟨k.val, hk⟩ (k0_off2_eq k), rdD arg9 X9 ⟨k.val, hk⟩ (k0_off1_eq k)]
      rfl
    · intro j hj
      by_cases e : j = ⟨k.val, hk⟩
      · subst e
        exact wrQ_same arg20 f20 ⟨k.val, hk⟩ (k0_off4_eq k) _ _ []
      · have hne : j.val ≠ k.val := fun h => e (Fin.ext h)
        refine (wrQ_ne arg20 f20 ⟨k.val, hk⟩ j e (k0_off4_eq k) _ _ []).trans ?_
        exact h20 j (by omega)

end Cert.Proof.KernelIdeal
-- ==== Proof.Loop9.lean ====
module

public import proofs.«01_k».proof.Proof.Gen.KernelIdeal
public import proofs.«01_k».proof.Proof.Gen.KernelIdeal.Skeleton
public import proofs.«01_k».proof.Proof.Model
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The first `n` row blocks of the returned `dq` are written. -/
def OutAt (I : In F) (n : Nat) (a : Vec F S1x16384x96 .bf16) : Prop := ∀ i : Fin 16, i.val < n → blkD a i = dqOut I i

/-- The loop that writes `dq`. -/
@[reducible] def loop9 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X20 : BufTy.Contents (Elt F) arg20.view.ty) (h20 : ∀ j, blkQ (arg20.view.read (Elt F) X20) j = dqSum (inOf arg1 arg2 arg3 arg4 arg5 arg6 arg7 arg8 arg9 arg10 arg11 arg12 arg13 arg14 X1 X2 X3 X4 X5 X6 X7 X8 X9 X10 X11 X12 X13 X14) j (j.val / 2 + 1)) :
  LoopInv (M := 𝕄G) frame (wpE (defs₀ (F := F)) Variants.none (c : Thread nD τ) none) Set.univ
    k0_t9_loop.lb k0_t9_loop.ub k0_t9_loop.st k0_t9_ok () (k0_t9_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) where
  inv k _ := iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg20.view.loc (c : Thread nD τ) ↦[arg20.view.set]{fullShare} X20)) ∗ ∃ f15, (arg15.view.loc (c : Thread nD τ) ↦[arg15.view.set]{fullShare} f15) ∗ ⌜OutAt (inOf arg1 arg2 arg3 arg4 arg5 arg6 arg7 arg8 arg9 arg10 arg11 arg12 arg13 arg14 X1 X2 X3 X4 X5 X6 X7 X8 X9 X10 X11 X12 X13 X14) k (arg15.view.read (Elt F) f15)⌝)
  step k _ := by
    have hk : k.val < 16 := Nat.lt_of_lt_of_le k.isLt k0_t9_abs.2.1
    unfold k0_t9_body
    iintro ⟨⟨H1, H2, H3, H4, H5, H6, H7, H8, H9, H10, H11, H12, H13, H14, H20⟩, %f15, H15, %hh⟩
    sl_exec
    sl_step
    isplitl [H1 H2 H3 H4 H5 H6 H7 H8 H9 H10 H11 H12 H13 H14 H20]
    · iframe
    iexists _
    isplitl [H15]
    · iexact H15
    ipureintro
    intro j hj
    by_cases e : j = ⟨k.val, hk⟩
    · subst e
      refine (wrD_same arg15 f15 ⟨k.val, hk⟩ (k0_off51_eq k) _ _ []).trans ?_
      rw [rdQ arg20 X20 ⟨k.val, hk⟩ (k0_off49_eq k), rdR arg14 X14 ⟨k.val, hk⟩ (k0_off50_eq k), h20]
      rfl
    · have hne : j.val ≠ k.val := fun h => e (Fin.ext h)
      refine (wrD_ne arg15 f15 ⟨k.val, hk⟩ j e (k0_off51_eq k) _ _ []).trans ?_
      exact hh j (by omega)

end Cert.Proof.KernelIdeal
-- ==== Proof.Use1.lean ====
module

public import proofs.«01_k».proof.Proof.Gen.KernelIdeal
public import proofs.«01_k».proof.Proof.Gen.KernelIdeal.Skeleton
public import proofs.«01_k».proof.Proof.Loops
public import proofs.«01_k».proof.Proof.Loop1
public import proofs.«01_k».proof.Proof.Loop9
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- The loop `loop1`, then the rest. -/
theorem useLoop1 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)

  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ ∃ f18 f19 f20, (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ ⌜True⌝) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ ∃ f18 f19 f20, (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ ⌜(∀ j, blkS (arg18.view.read (Elt F) f18) j = lseB (inOf arg1 arg2 arg3 arg4 arg5 arg6 arg7 arg8 arg9 arg10 arg11 arg12 arg13 arg14 X1 X2 X3 X4 X5 X6 X7 X8 X9 X10 X11 X12 X13 X14) j) ∧ (∀ j, blkS (arg19.view.read (Elt F) f19) j = deltaB (inOf arg1 arg2 arg3 arg4 arg5 arg6 arg7 arg8 arg9 arg10 arg11 arg12 arg13 arg14 X1 X2 X3 X4 X5 X6 X7 X8 X9 X10 X11 X12 X13 X14) j) ∧
     DqAt (inOf arg1 arg2 arg3 arg4 arg5 arg6 arg7 arg8 arg9 arg10 arg11 arg12 arg13 arg14 X1 X2 X3 X4 X5 X6 X7 X8 X9 X10 X11 X12 X13 X14) 0 0 (arg20.view.read (Elt F) f20)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t1_loop k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) >>= kk) Q) := by
  have ht : Scf.trips k0_t1_loop.lb k0_t1_loop.ub k0_t1_loop.st = 16 := by decide +kernel
  have hpost : ∀ u, (loop1 c i _ harg1 _ harg2 _ harg3 _ harg4 _ harg5 _ harg6 _ harg7 _ harg8 _ harg9 _ harg10 _ harg11 _ harg12 _ harg13 _ harg14 _ harg15 _ harg16 _ harg17 _ harg18 _ harg19 _ harg20  X1 X2 X3 X4 X5 X6 X7 X8 X9 X10 X11 X12 X13 X14 ).inv (Scf.trips k0_t1_loop.lb k0_t1_loop.ub k0_t1_loop.st) u ⊢
      iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ ∃ f18 f19 f20, (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ ⌜(∀ j, blkS (arg18.view.read (Elt F) f18) j = lseB (inOf arg1 arg2 arg3 arg4 arg5 arg6 arg7 arg8 arg9 arg10 arg11 arg12 arg13 arg14 X1 X2 X3 X4 X5 X6 X7 X8 X9 X10 X11 X12 X13 X14) j) ∧ (∀ j, blkS (arg19.view.read (Elt F) f19) j = deltaB (inOf arg1 arg2 arg3 arg4 arg5 arg6 arg7 arg8 arg9 arg10 arg11 arg12 arg13 arg14 X1 X2 X3 X4 X5 X6 X7 X8 X9 X10 X11 X12 X13 X14) j) ∧
     DqAt (inOf arg1 arg2 arg3 arg4 arg5 arg6 arg7 arg8 arg9 arg10 arg11 arg12 arg13 arg14 X1 X2 X3 X4 X5 X6 X7 X8 X9 X10 X11 X12 X13 X14) 0 0 (arg20.view.read (Elt F) f20)⌝) := by
    intro u
    rw [ht]
    show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ ∃ f18 f19 f20, (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ ⌜RowsAt (lseB (inOf arg1 arg2 arg3 arg4 arg5 arg6 arg7 arg8 arg9 arg10 arg11 arg12 arg13 arg14 X1 X2 X3 X4 X5 X6 X7 X8 X9 X10 X11 X12 X13 X14)) 16 (arg18.view.read (Elt F) f18) ∧ RowsAt (deltaB (inOf arg1 arg2 arg3 arg4 arg5 arg6 arg7 arg8 arg9 arg10 arg11 arg12 arg13 arg14 X1 X2 X3 X4 X5 X6 X7 X8 X9 X10 X11 X12 X13 X14)) 16 (arg19.view.read (Elt F) f19) ∧ ZeroAt 16 (arg20.view.read (Elt F) f20)⌝) : sProp 𝕄G) ⊢ _
    iintro ⟨HI, %f18, %f19, %f20, H18, H19, H20, %hh⟩
    isplitl [HI]
    · iexact HI
    iexists f18, f19, f20
    iframe
    ipureintro
    exact ⟨fun j => hh.1 j j.isLt, fun j => hh.2.1 j j.isLt, ZeroAt.start hh.2.2⟩
  iintro HP HK
  iapply (exec_loop frame (wpE (defs₀ (F := F)) Variants.none (c : Thread nD τ) none) Set.univ _ _ _ _ _ _
    (loop1 c i _ harg1 _ harg2 _ harg3 _ harg4 _ harg5 _ harg6 _ harg7 _ harg8 _ harg9 _ harg10 _ harg11 _ harg12 _ harg13 _ harg14 _ harg15 _ harg16 _ harg17 _ harg18 _ harg19 _ harg20  X1 X2 X3 X4 X5 X6 X7 X8 X9 X10 X11 X12 X13 X14 )) $$ [HP]
  · iapply (show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ ∃ f18 f19 f20, (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ ⌜RowsAt (lseB (inOf arg1 arg2 arg3 arg4 arg5 arg6 arg7 arg8 arg9 arg10 arg11 arg12 arg13 arg14 X1 X2 X3 X4 X5 X6 X7 X8 X9 X10 X11 X12 X13 X14)) 0 (arg18.view.read (Elt F) f18) ∧ RowsAt (deltaB (inOf arg1 arg2 arg3 arg4 arg5 arg6 arg7 arg8 arg9 arg10 arg11 arg12 arg13 arg14 X1 X2 X3 X4 X5 X6 X7 X8 X9 X10 X11 X12 X13 X14)) 0 (arg19.view.read (Elt F) f19) ∧ ZeroAt 0 (arg20.view.read (Elt F) f20)⌝) : sProp 𝕄G) ⊢ (loop1 c i _ harg1 _ harg2 _ harg3 _ harg4 _ harg5 _ harg6 _ harg7 _ harg8 _ harg9 _ harg10 _ harg11 _ harg12 _ harg13 _ harg14 _ harg15 _ harg16 _ harg17 _ harg18 _ harg19 _ harg20  X1 X2 X3 X4 X5 X6 X7 X8 X9 X10 X11 X12 X13 X14 ).inv 0 () from .rfl)
    icases HP with ⟨HI, %f18, %f19, %f20, H18, H19, H20, %hh⟩
    isplitl [HI]
    · iexact HI
    iexists f18, f19, f20
    iframe
    ipureintro
    exact ⟨fun j hj => absurd hj (Nat.not_lt_zero _), fun j hj => absurd hj (Nat.not_lt_zero _), fun j hj => absurd hj (Nat.not_lt_zero _)⟩
  iintro %u HI
  iapply HK
  iapply (hpost u)
  iexact HI

set_option maxHeartbeats 4000000 in
/-- The loop `loop9`, then the rest. -/
theorem useLoop9 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)

  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X20 : BufTy.Contents (Elt F) arg20.view.ty) (h20 : ∀ j, blkQ (arg20.view.read (Elt F) X20) j = dqSum (inOf arg1 arg2 arg3 arg4 arg5 arg6 arg7 arg8 arg9 arg10 arg11 arg12 arg13 arg14 X1 X2 X3 X4 X5 X6 X7 X8 X9 X10 X11 X12 X13 X14) j (j.val / 2 + 1))
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg20.view.loc (c : Thread nD τ) ↦[arg20.view.set]{fullShare} X20)) ∗ ∃ f15, (arg15.view.loc (c : Thread nD τ) ↦[arg15.view.set]{fullShare} f15) ∗ ⌜True⌝) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg20.view.loc (c : Thread nD τ) ↦[arg20.view.set]{fullShare} X20)) ∗ ∃ f15, (arg15.view.loc (c : Thread nD τ) ↦[arg15.view.set]{fullShare} f15) ∗ ⌜OutAt (inOf arg1 arg2 arg3 arg4 arg5 arg6 arg7 arg8 arg9 arg10 arg11 arg12 arg13 arg14 X1 X2 X3 X4 X5 X6 X7 X8 X9 X10 X11 X12 X13 X14) 16 (arg15.view.read (Elt F) f15)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t9_loop k0_t9_ok () (k0_t9_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) >>= kk) Q) := by
  have ht : Scf.trips k0_t9_loop.lb k0_t9_loop.ub k0_t9_loop.st = 16 := by decide +kernel
  have hpost : ∀ u, (loop9 c i _ harg1 _ harg2 _ harg3 _ harg4 _ harg5 _ harg6 _ harg7 _ harg8 _ harg9 _ harg10 _ harg11 _ harg12 _ harg13 _ harg14 _ harg15 _ harg16 _ harg17 _ harg18 _ harg19 _ harg20  X1 X2 X3 X4 X5 X6 X7 X8 X9 X10 X11 X12 X13 X14 X20 h20).inv (Scf.trips k0_t9_loop.lb k0_t9_loop.ub k0_t9_loop.st) u ⊢
      iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg20.view.loc (c : Thread nD τ) ↦[arg20.view.set]{fullShare} X20)) ∗ ∃ f15, (arg15.view.loc (c : Thread nD τ) ↦[arg15.view.set]{fullShare} f15) ∗ ⌜OutAt (inOf arg1 arg2 arg3 arg4 arg5 arg6 arg7 arg8 arg9 arg10 arg11 arg12 arg13 arg14 X1 X2 X3 X4 X5 X6 X7 X8 X9 X10 X11 X12 X13 X14) 16 (arg15.view.read (Elt F) f15)⌝) := by
    intro u
    rw [ht]
    show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg20.view.loc (c : Thread nD τ) ↦[arg20.view.set]{fullShare} X20)) ∗ ∃ f15, (arg15.view.loc (c : Thread nD τ) ↦[arg15.view.set]{fullShare} f15) ∗ ⌜OutAt (inOf arg1 arg2 arg3 arg4 arg5 arg6 arg7 arg8 arg9 arg10 arg11 arg12 arg13 arg14 X1 X2 X3 X4 X5 X6 X7 X8 X9 X10 X11 X12 X13 X14) 16 (arg15.view.read (Elt F) f15)⌝) : sProp 𝕄G) ⊢ _
    iintro ⟨HI, %f15, H15, %hh⟩
    isplitl [HI]
    · iexact HI
    iexists f15
    iframe
    ipureintro
    exact hh
  iintro HP HK
  iapply (exec_loop frame (wpE (defs₀ (F := F)) Variants.none (c : Thread nD τ) none) Set.univ _ _ _ _ _ _
    (loop9 c i _ harg1 _ harg2 _ harg3 _ harg4 _ harg5 _ harg6 _ harg7 _ harg8 _ harg9 _ harg10 _ harg11 _ harg12 _ harg13 _ harg14 _ harg15 _ harg16 _ harg17 _ harg18 _ harg19 _ harg20  X1 X2 X3 X4 X5 X6 X7 X8 X9 X10 X11 X12 X13 X14 X20 h20)) $$ [HP]
  · iapply (show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg20.view.loc (c : Thread nD τ) ↦[arg20.view.set]{fullShare} X20)) ∗ ∃ f15, (arg15.view.loc (c : Thread nD τ) ↦[arg15.view.set]{fullShare} f15) ∗ ⌜OutAt (inOf arg1 arg2 arg3 arg4 arg5 arg6 arg7 arg8 arg9 arg10 arg11 arg12 arg13 arg14 X1 X2 X3 X4 X5 X6 X7 X8 X9 X10 X11 X12 X13 X14) 0 (arg15.view.read (Elt F) f15)⌝) : sProp 𝕄G) ⊢ (loop9 c i _ harg1 _ harg2 _ harg3 _ harg4 _ harg5 _ harg6 _ harg7 _ harg8 _ harg9 _ harg10 _ harg11 _ harg12 _ harg13 _ harg14 _ harg15 _ harg16 _ harg17 _ harg18 _ harg19 _ harg20  X1 X2 X3 X4 X5 X6 X7 X8 X9 X10 X11 X12 X13 X14 X20 h20).inv 0 () from .rfl)
    icases HP with ⟨HI, %f15, H15, %hh⟩
    isplitl [HI]
    · iexact HI
    iexists f15
    iframe
    ipureintro
    exact fun j hj => absurd hj (Nat.not_lt_zero _)
  iintro %u HI
  iapply HK
  iapply (hpost u)
  iexact HI

end Cert.Proof.KernelIdeal
-- ==== Proof.UseA.lean ====
module

public import proofs.«01_k».proof.Proof.Gen.KernelIdeal
public import proofs.«01_k».proof.Proof.Gen.KernelIdeal.Skeleton
public import proofs.«01_k».proof.Proof.Loops
public import proofs.«01_k».proof.Proof.Loop1
public import proofs.«01_k».proof.Proof.Loop9
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- The loop `loop2`, then the rest. -/
theorem useLoop2 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v58 : FVec F S96x256 .f32) (v66 : FVec F S96x256 .f32) (v120 : FVec F S1024x256 .bf16) (v128 : FVec F S96x256 .f32) (v136 : FVec F S96x256 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨0, by decide⟩ 0 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨0, by decide⟩ 0 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 0 2 (arg20.view.read (Elt F) f20)⌝) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 1 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 1 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 1 2 (arg20.view.read (Elt F) f20)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t2_loop k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v58 v66 v120 v128 v136) >>= kk) Q) := by
  have ht : Scf.trips k0_t2_loop.lb k0_t2_loop.ub k0_t2_loop.st = 14 := by decide +kernel
  have hpost : ∀ u, (loop2 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v58 v66 v120 v128 v136 X1 X2 X3 X4 X5 X6 X7 X8 X9 X10 X11 X12 X13 X14 X18 X19 hv5 h18 h19).inv (Scf.trips k0_t2_loop.lb k0_t2_loop.ub k0_t2_loop.st) u ⊢
      iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 1 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 1 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 1 2 (arg20.view.read (Elt F) f20)⌝) := by
    intro u
    rw [ht]
    show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨0, by decide⟩ 14 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨0, by decide⟩ 14 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 0 (14 + 2) (arg20.view.read (Elt F) f20)⌝) : sProp 𝕄G) ⊢ _
    iintro ⟨HI, %f16, %f17, %f20, H16, H17, H20, %hh⟩
    isplitl [HI]
    · iexact HI
    iexists f16, f17, f20
    iframe
    ipureintro
    exact ⟨KvAt.below hh.1, KvAt.below hh.2.1, DqAt.next hh.2.2⟩
  iintro HP HK
  iapply (exec_loop frame (wpE (defs₀ (F := F)) Variants.none (c : Thread nD τ) none) Set.univ _ _ _ _ _ _
    (loop2 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v58 v66 v120 v128 v136 X1 X2 X3 X4 X5 X6 X7 X8 X9 X10 X11 X12 X13 X14 X18 X19 hv5 h18 h19)) $$ [HP]
  · iexact HP
  iintro %u HI
  iapply HK
  iapply (hpost u)
  iexact HI

set_option maxHeartbeats 4000000 in
/-- The loop `loop3`, then the rest. -/
theorem useLoop3 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v207 : FVec F S96x256 .f32) (v215 : FVec F S96x256 .f32) (v268 : FVec F S1024x256 .bf16) (v269 : FVec F S1024x256 .bf16) (v272 : FVec F S96x1024 .bf16) (v273 : Vec F S1x1x1024 .bf16)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨1, by decide⟩ 0 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨1, by decide⟩ 0 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 1 4 (arg20.view.read (Elt F) f20)⌝) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 2 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 2 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 2 4 (arg20.view.read (Elt F) f20)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t3_loop k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v207 v215 v268 v269 v272 v273) >>= kk) Q) := by
  have ht : Scf.trips k0_t3_loop.lb k0_t3_loop.ub k0_t3_loop.st = 12 := by decide +kernel
  have hpost : ∀ u, (loop3 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v207 v215 v268 v269 v272 v273 X1 X2 X3 X4 X5 X6 X7 X8 X9 X10 X11 X12 X13 X14 X18 X19 hv5 h18 h19).inv (Scf.trips k0_t3_loop.lb k0_t3_loop.ub k0_t3_loop.st) u ⊢
      iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 2 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 2 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 2 4 (arg20.view.read (Elt F) f20)⌝) := by
    intro u
    rw [ht]
    show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨1, by decide⟩ 12 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨1, by decide⟩ 12 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 1 (12 + 4) (arg20.view.read (Elt F) f20)⌝) : sProp 𝕄G) ⊢ _
    iintro ⟨HI, %f16, %f17, %f20, H16, H17, H20, %hh⟩
    isplitl [HI]
    · iexact HI
    iexists f16, f17, f20
    iframe
    ipureintro
    exact ⟨KvAt.below hh.1, KvAt.below hh.2.1, DqAt.next hh.2.2⟩
  iintro HP HK
  iapply (exec_loop frame (wpE (defs₀ (F := F)) Variants.none (c : Thread nD τ) none) Set.univ _ _ _ _ _ _
    (loop3 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v207 v215 v268 v269 v272 v273 X1 X2 X3 X4 X5 X6 X7 X8 X9 X10 X11 X12 X13 X14 X18 X19 hv5 h18 h19)) $$ [HP]
  · iexact HP
  iintro %u HI
  iapply HK
  iapply (hpost u)
  iexact HI

set_option maxHeartbeats 4000000 in
/-- The loop `loop4`, then the rest. -/
theorem useLoop4 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v356 : FVec F S96x256 .f32) (v364 : FVec F S96x256 .f32) (v426 : FVec F S96x256 .f32) (v434 : FVec F S96x256 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨2, by decide⟩ 0 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨2, by decide⟩ 0 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 2 6 (arg20.view.read (Elt F) f20)⌝) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 3 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 3 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 3 6 (arg20.view.read (Elt F) f20)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t4_loop k0_t4_ok () (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v356 v364 v426 v434) >>= kk) Q) := by
  have ht : Scf.trips k0_t4_loop.lb k0_t4_loop.ub k0_t4_loop.st = 10 := by decide +kernel
  have hpost : ∀ u, (loop4 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v356 v364 v426 v434 X1 X2 X3 X4 X5 X6 X7 X8 X9 X10 X11 X12 X13 X14 X18 X19 hv5 h18 h19).inv (Scf.trips k0_t4_loop.lb k0_t4_loop.ub k0_t4_loop.st) u ⊢
      iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 3 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 3 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 3 6 (arg20.view.read (Elt F) f20)⌝) := by
    intro u
    rw [ht]
    show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨2, by decide⟩ 10 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨2, by decide⟩ 10 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 2 (10 + 6) (arg20.view.read (Elt F) f20)⌝) : sProp 𝕄G) ⊢ _
    iintro ⟨HI, %f16, %f17, %f20, H16, H17, H20, %hh⟩
    isplitl [HI]
    · iexact HI
    iexists f16, f17, f20
    iframe
    ipureintro
    exact ⟨KvAt.below hh.1, KvAt.below hh.2.1, DqAt.next hh.2.2⟩
  iintro HP HK
  iapply (exec_loop frame (wpE (defs₀ (F := F)) Variants.none (c : Thread nD τ) none) Set.univ _ _ _ _ _ _
    (loop4 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v356 v364 v426 v434 X1 X2 X3 X4 X5 X6 X7 X8 X9 X10 X11 X12 X13 X14 X18 X19 hv5 h18 h19)) $$ [HP]
  · iexact HP
  iintro %u HI
  iapply HK
  iapply (hpost u)
  iexact HI

end Cert.Proof.KernelIdeal
-- ==== Proof.UseB.lean ====
module

public import proofs.«01_k».proof.Proof.Gen.KernelIdeal
public import proofs.«01_k».proof.Proof.Gen.KernelIdeal.Skeleton
public import proofs.«01_k».proof.Proof.Loops
public import proofs.«01_k».proof.Proof.Loop1
public import proofs.«01_k».proof.Proof.Loop9
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- The loop `loop5`, then the rest. -/
theorem useLoop5 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v505 : FVec F S96x256 .f32) (v513 : FVec F S96x256 .f32) (v567 : FVec F S1024x256 .bf16) (v575 : FVec F S96x256 .f32) (v578 : FVec F S96x1024 .bf16) (v580 : FVec F S1x1024 .bf16)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨3, by decide⟩ 0 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨3, by decide⟩ 0 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 3 8 (arg20.view.read (Elt F) f20)⌝) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 4 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 4 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 4 8 (arg20.view.read (Elt F) f20)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t5_loop k0_t5_ok () (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v505 v513 v567 v575 v578 v580) >>= kk) Q) := by
  have ht : Scf.trips k0_t5_loop.lb k0_t5_loop.ub k0_t5_loop.st = 8 := by decide +kernel
  have hpost : ∀ u, (loop5 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v505 v513 v567 v575 v578 v580 X1 X2 X3 X4 X5 X6 X7 X8 X9 X10 X11 X12 X13 X14 X18 X19 hv5 h18 h19).inv (Scf.trips k0_t5_loop.lb k0_t5_loop.ub k0_t5_loop.st) u ⊢
      iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 4 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 4 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 4 8 (arg20.view.read (Elt F) f20)⌝) := by
    intro u
    rw [ht]
    show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨3, by decide⟩ 8 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨3, by decide⟩ 8 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 3 (8 + 8) (arg20.view.read (Elt F) f20)⌝) : sProp 𝕄G) ⊢ _
    iintro ⟨HI, %f16, %f17, %f20, H16, H17, H20, %hh⟩
    isplitl [HI]
    · iexact HI
    iexists f16, f17, f20
    iframe
    ipureintro
    exact ⟨KvAt.below hh.1, KvAt.below hh.2.1, DqAt.next hh.2.2⟩
  iintro HP HK
  iapply (exec_loop frame (wpE (defs₀ (F := F)) Variants.none (c : Thread nD τ) none) Set.univ _ _ _ _ _ _
    (loop5 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v505 v513 v567 v575 v578 v580 X1 X2 X3 X4 X5 X6 X7 X8 X9 X10 X11 X12 X13 X14 X18 X19 hv5 h18 h19)) $$ [HP]
  · iexact HP
  iintro %u HI
  iapply HK
  iapply (hpost u)
  iexact HI

set_option maxHeartbeats 4000000 in
/-- The loop `loop6`, then the rest. -/
theorem useLoop6 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨4, by decide⟩ 0 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨4, by decide⟩ 0 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 4 10 (arg20.view.read (Elt F) f20)⌝) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 5 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 5 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 5 10 (arg20.view.read (Elt F) f20)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t6_loop k0_t6_ok () (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5) >>= kk) Q) := by
  have ht : Scf.trips k0_t6_loop.lb k0_t6_loop.ub k0_t6_loop.st = 6 := by decide +kernel
  have hpost : ∀ u, (loop6 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 X1 X2 X3 X4 X5 X6 X7 X8 X9 X10 X11 X12 X13 X14 X18 X19 hv5 h18 h19).inv (Scf.trips k0_t6_loop.lb k0_t6_loop.ub k0_t6_loop.st) u ⊢
      iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 5 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 5 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 5 10 (arg20.view.read (Elt F) f20)⌝) := by
    intro u
    rw [ht]
    show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨4, by decide⟩ 6 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨4, by decide⟩ 6 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 4 (6 + 10) (arg20.view.read (Elt F) f20)⌝) : sProp 𝕄G) ⊢ _
    iintro ⟨HI, %f16, %f17, %f20, H16, H17, H20, %hh⟩
    isplitl [HI]
    · iexact HI
    iexists f16, f17, f20
    iframe
    ipureintro
    exact ⟨KvAt.below hh.1, KvAt.below hh.2.1, DqAt.next hh.2.2⟩
  iintro HP HK
  iapply (exec_loop frame (wpE (defs₀ (F := F)) Variants.none (c : Thread nD τ) none) Set.univ _ _ _ _ _ _
    (loop6 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 X1 X2 X3 X4 X5 X6 X7 X8 X9 X10 X11 X12 X13 X14 X18 X19 hv5 h18 h19)) $$ [HP]
  · iexact HP
  iintro %u HI
  iapply HK
  iapply (hpost u)
  iexact HI

set_option maxHeartbeats 4000000 in
/-- The loop `loop7`, then the rest. -/
theorem useLoop7 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v803 : FVec F S96x256 .f32) (v811 : FVec F S96x256 .f32) (v873 : FVec F S96x256 .f32) (v881 : FVec F S96x256 .f32) (v887 : FVec F S96x1024 .f32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨5, by decide⟩ 0 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨5, by decide⟩ 0 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 5 12 (arg20.view.read (Elt F) f20)⌝) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 6 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 6 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 6 12 (arg20.view.read (Elt F) f20)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t7_loop k0_t7_ok () (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v803 v811 v873 v881 v887) >>= kk) Q) := by
  have ht : Scf.trips k0_t7_loop.lb k0_t7_loop.ub k0_t7_loop.st = 4 := by decide +kernel
  have hpost : ∀ u, (loop7 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v803 v811 v873 v881 v887 X1 X2 X3 X4 X5 X6 X7 X8 X9 X10 X11 X12 X13 X14 X18 X19 hv5 h18 h19).inv (Scf.trips k0_t7_loop.lb k0_t7_loop.ub k0_t7_loop.st) u ⊢
      iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 6 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 6 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 6 12 (arg20.view.read (Elt F) f20)⌝) := by
    intro u
    rw [ht]
    show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨5, by decide⟩ 4 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨5, by decide⟩ 4 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 5 (4 + 12) (arg20.view.read (Elt F) f20)⌝) : sProp 𝕄G) ⊢ _
    iintro ⟨HI, %f16, %f17, %f20, H16, H17, H20, %hh⟩
    isplitl [HI]
    · iexact HI
    iexists f16, f17, f20
    iframe
    ipureintro
    exact ⟨KvAt.below hh.1, KvAt.below hh.2.1, DqAt.next hh.2.2⟩
  iintro HP HK
  iapply (exec_loop frame (wpE (defs₀ (F := F)) Variants.none (c : Thread nD τ) none) Set.univ _ _ _ _ _ _
    (loop7 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v803 v811 v873 v881 v887 X1 X2 X3 X4 X5 X6 X7 X8 X9 X10 X11 X12 X13 X14 X18 X19 hv5 h18 h19)) $$ [HP]
  · iexact HP
  iintro %u HI
  iapply HK
  iapply (hpost u)
  iexact HI

set_option maxHeartbeats 4000000 in
/-- The loop `loop8`, then the rest. -/
theorem useLoop8 (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (v5 : FVec F S8x256 .f32) (v952 : FVec F S96x256 .f32) (v960 : FVec F S96x256 .f32) (v1014 : FVec F S1024x256 .bf16) (v1022 : FVec F S96x256 .f32) (v1024 : FVec F S96x1024 .fp8e4m3)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X18 : BufTy.Contents (Elt F) arg18.view.ty) (X19 : BufTy.Contents (Elt F) arg19.view.ty) (hv5 : v5 = scaleRow (inOf arg1 arg2 arg3 arg4 arg5 arg6 arg7 arg8 arg9 arg10 arg11 arg12 arg13 arg14 X1 X2 X3 X4 X5 X6 X7 X8 X9 X10 X11 X12 X13 X14))
  (h18 : ∀ j, blkS (arg18.view.read (Elt F) X18) j = lseB (inOf arg1 arg2 arg3 arg4 arg5 arg6 arg7 arg8 arg9 arg10 arg11 arg12 arg13 arg14 X1 X2 X3 X4 X5 X6 X7 X8 X9 X10 X11 X12 X13 X14) j)
  (h19 : ∀ j, blkS (arg19.view.read (Elt F) X19) j = deltaB (inOf arg1 arg2 arg3 arg4 arg5 arg6 arg7 arg8 arg9 arg10 arg11 arg12 arg13 arg14 X1 X2 X3 X4 X5 X6 X7 X8 X9 X10 X11 X12 X13 X14) j)
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨6, by decide⟩ 0 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨6, by decide⟩ 0 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 6 14 (arg20.view.read (Elt F) f20)⌝) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 7 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 7 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 7 14 (arg20.view.read (Elt F) f20)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t8_loop k0_t8_ok () (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v952 v960 v1014 v1022 v1024) >>= kk) Q) := by
  have ht : Scf.trips k0_t8_loop.lb k0_t8_loop.ub k0_t8_loop.st = 2 := by decide +kernel
  have hpost : ∀ u, (loop8 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v952 v960 v1014 v1022 v1024 X1 X2 X3 X4 X5 X6 X7 X8 X9 X10 X11 X12 X13 X14 X18 X19 hv5 h18 h19).inv (Scf.trips k0_t8_loop.lb k0_t8_loop.ub k0_t8_loop.st) u ⊢
      iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvBelow (dkSum (inOf arg1 arg2 arg3 arg4 arg5 arg6 arg7 arg8 arg9 arg10 arg11 arg12 arg13 arg14 X1 X2 X3 X4 X5 X6 X7 X8 X9 X10 X11 X12 X13 X14)) 7 (arg16.view.read (Elt F) f16) ∧
     KvBelow (dvSum (inOf arg1 arg2 arg3 arg4 arg5 arg6 arg7 arg8 arg9 arg10 arg11 arg12 arg13 arg14 X1 X2 X3 X4 X5 X6 X7 X8 X9 X10 X11 X12 X13 X14)) 7 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 7 14 (arg20.view.read (Elt F) f20)⌝) := by
    intro u
    rw [ht]
    show (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg19.view.loc (c : Thread nD τ) ↦[arg19.view.set]{fullShare} X19)) ∗ ∃ f16 f17 f20, (arg16.view.loc (c : Thread nD τ) ↦[arg16.view.set]{fullShare} f16) ∗ (arg17.view.loc (c : Thread nD τ) ↦[arg17.view.set]{fullShare} f17) ∗ (arg20.view.loc (c : Thread nD τ) ↦[arg20.view.set]{fullShare} f20) ∗ ⌜KvAt (dkSum (inOf arg1 arg2 arg3 arg4 arg5 arg6 arg7 arg8 arg9 arg10 arg11 arg12 arg13 arg14 X1 X2 X3 X4 X5 X6 X7 X8 X9 X10 X11 X12 X13 X14)) ⟨6, by decide⟩ 2 (arg16.view.read (Elt F) f16) ∧
     KvAt (dvSum (inOf arg1 arg2 arg3 arg4 arg5 arg6 arg7 arg8 arg9 arg10 arg11 arg12 arg13 arg14 X1 X2 X3 X4 X5 X6 X7 X8 X9 X10 X11 X12 X13 X14)) ⟨6, by decide⟩ 2 (arg17.view.read (Elt F) f17) ∧
     DqAt (inOf arg1 arg2 arg3 arg4 arg5 arg6 arg7 arg8 arg9 arg10 arg11 arg12 arg13 arg14 X1 X2 X3 X4 X5 X6 X7 X8 X9 X10 X11 X12 X13 X14) 6 (2 + 14) (arg20.view.read (Elt F) f20)⌝) : sProp 𝕄G) ⊢ _
    iintro ⟨HI, %f16, %f17, %f20, H16, H17, H20, %hh⟩
    isplitl [HI]
    · iexact HI
    iexists f16, f17, f20
    iframe
    ipureintro
    exact ⟨KvAt.below hh.1, KvAt.below hh.2.1, DqAt.next hh.2.2⟩
  iintro HP HK
  iapply (exec_loop frame (wpE (defs₀ (F := F)) Variants.none (c : Thread nD τ) none) Set.univ _ _ _ _ _ _
    (loop8 c i _ harg1 _ harg2 _ harg3 _ harg4 _ harg5 _ harg6 _ harg7 _ harg8 _ harg9 _ harg10 _ harg11 _ harg12 _ harg13 _ harg14 _ harg15 _ harg16 _ harg17 _ harg18 _ harg19 _ harg20 v5 v952 v960 v1014 v1022 v1024 X1 X2 X3 X4 X5 X6 X7 X8 X9 X10 X11 X12 X13 X14 X18 X19 hv5 h18 h19)) $$ [HP]
  · iexact HP
  iintro %u HI
  iapply HK
  iapply (hpost u)
  iexact HI

end Cert.Proof.KernelIdeal
-- ==== Proof.Body.lean ====
module

public import proofs.«01_k».proof.Proof.Gen.KernelIdeal
public import proofs.«01_k».proof.Proof.Gen.KernelIdeal.Skeleton
public import proofs.«01_k».proof.Proof.Use1
public import proofs.«01_k».proof.Proof.UseA
public import proofs.«01_k».proof.Proof.UseB
public import Idealize.ShloMosaic.Lib.Exec
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- A value nothing reads. -/
def junk (s : Shape) (f : FTy) : FVec F s f := fun _ => Scalar.ofBits f 0

theorem dkSum_start (I : In F) (kt : Fin 8) (r0 r1 : Fin 16) (h0 : r0.val = 2 * kt.val) (h1 : r1.val = 2 * kt.val + 1) :
    dkSum I kt 0 = pairSum (dkOf I (probDiag I kt r0) kt r0) (dkOf I (probDiag I kt r1) kt r1) := by
  have e0 : blkNo (2 * kt.val) = r0 := Fin.ext (by rw [blkNo_of_lt (by rw [← h0]; exact r0.isLt)]; exact h0.symm)
  have e1 : blkNo (2 * kt.val + 1) = r1 := Fin.ext (by rw [blkNo_of_lt (by rw [← h1]; exact r1.isLt)]; exact h1.symm)
  rw [← e0, ← e1]
  rfl

theorem dvSum_start (I : In F) (kt : Fin 8) (r0 r1 : Fin 16) (h0 : r0.val = 2 * kt.val) (h1 : r1.val = 2 * kt.val + 1) :
    dvSum I kt 0 = pairSum (dvOf I (probDiag I kt r0) r0) (dvOf I (probDiag I kt r1) r1) := by
  have e0 : blkNo (2 * kt.val) = r0 := Fin.ext (by rw [blkNo_of_lt (by rw [← h0]; exact r0.isLt)]; exact h0.symm)
  have e1 : blkNo (2 * kt.val + 1) = r1 := Fin.ext (by rw [blkNo_of_lt (by rw [← h1]; exact r1.isLt)]; exact h1.symm)
  rw [← e0, ← e1]
  rfl

set_option maxHeartbeats 4000000 in
/-- The loop that writes `dq`, after the last key block. -/
theorem useLoop9' (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
  {β : Type} {kk : Unit → Prog (TpuEff nD τ sig (Elt F) Λ₀ .tc) β} {Q : β → sProp 𝕄G} :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ (∃ f20, (arg20.view.loc (c : Thread nD τ) ↦[arg20.view.set]{fullShare} f20) ∗ ⌜DqAt (inOf arg1 arg2 arg3 arg4 arg5 arg6 arg7 arg8 arg9 arg10 arg11 arg12 arg13 arg14 X1 X2 X3 X4 X5 X6 X7 X8 X9 X10 X11 X12 X13 X14) 7 16 (arg20.view.read (Elt F) f20)⌝) ∗ ∃ f15, (arg15.view.loc (c : Thread nD τ) ↦[arg15.view.set]{fullShare} f15)) : sProp 𝕄G) ⊢
  iprop((∀ u, (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ (∃ f20, (arg20.view.loc (c : Thread nD τ) ↦[arg20.view.set]{fullShare} f20)) ∗ ∃ f15, (arg15.view.loc (c : Thread nD τ) ↦[arg15.view.set]{fullShare} f15) ∗ ⌜OutAt (inOf arg1 arg2 arg3 arg4 arg5 arg6 arg7 arg8 arg9 arg10 arg11 arg12 arg13 arg14 X1 X2 X3 X4 X5 X6 X7 X8 X9 X10 X11 X12 X13 X14) 16 (arg15.view.read (Elt F) f15)⌝) -∗
      wp frame (wpE (defs₀ (F := F)) Variants.none (c : Thread nD τ) none) Set.univ (kk u) Q) -∗
    wp frame (wpE (defs₀ (F := F)) Variants.none (c : Thread nD τ) none) Set.univ
      (Scf.Loop.for k0_t9_loop k0_t9_ok () (k0_t9_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) >>= kk) Q) := by
  iintro ⟨⟨H1, H2, H3, H4, H5, H6, H7, H8, H9, H10, H11, H12, H13, H14⟩, ⟨%X20, H20, %h⟩, %f15, H15⟩ HK
  iapply (useLoop9 c i _ harg1 _ harg2 _ harg3 _ harg4 _ harg5 _ harg6 _ harg7 _ harg8 _ harg9 _ harg10 _ harg11 _ harg12 _ harg13 _ harg14 _ harg15 _ harg16 _ harg17 _ harg18 _ harg19 _ harg20 X1 X2 X3 X4 X5 X6 X7 X8 X9 X10 X11 X12 X13 X14 X20 (fun j => DqAt.done h j)) $$ [H1 H2 H3 H4 H5 H6 H7 H8 H9 H10 H11 H12 H13 H14 H20 H15]
  · isplitl [H1 H2 H3 H4 H5 H6 H7 H8 H9 H10 H11 H12 H13 H14 H20]
    · iframe
    iexists f15
    isplitl [H15]
    · iexact H15
    ipureintro
    trivial
  iintro %u ⟨⟨H1, H2, H3, H4, H5, H6, H7, H8, H9, H10, H11, H12, H13, H14, H20⟩, HO⟩
  iapply HK
  isplitl [H1 H2 H3 H4 H5 H6 H7 H8 H9 H10 H11 H12 H13 H14]
  · iframe
  isplitl [H20]
  · iexists X20
    iexact H20
  iexact HO

set_option maxHeartbeats 400000000 in
/-- One grid point. -/
theorem bodyRun (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
  (iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)) : sProp 𝕄G) ⊢
  wp frame (wpE (defs₀ (F := F)) Variants.none (c : Thread nD τ) none) Set.univ (cc0_attn_bwd_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
   (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ ∃ g15 g16 g17 g18 g19 g20, (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗
     ⌜OutAt (inOf arg1 arg2 arg3 arg4 arg5 arg6 arg7 arg8 arg9 arg10 arg11 arg12 arg13 arg14 X1 X2 X3 X4 X5 X6 X7 X8 X9 X10 X11 X12 X13 X14) 16 (arg15.view.read (Elt F) g15) ∧ KvBelow (dkSum (inOf arg1 arg2 arg3 arg4 arg5 arg6 arg7 arg8 arg9 arg10 arg11 arg12 arg13 arg14 X1 X2 X3 X4 X5 X6 X7 X8 X9 X10 X11 X12 X13 X14)) 8 (arg16.view.read (Elt F) g16) ∧
      KvBelow (dvSum (inOf arg1 arg2 arg3 arg4 arg5 arg6 arg7 arg8 arg9 arg10 arg11 arg12 arg13 arg14 X1 X2 X3 X4 X5 X6 X7 X8 X9 X10 X11 X12 X13 X14)) 8 (arg17.view.read (Elt F) g17)⌝)) := by
  iintro ⟨⟨H1, H2, H3, H4, H5, H6, H7, H8, H9, H10, H11, H12, H13, H14⟩, H15, H16, H17, H18, H19, H20⟩
  unfold cc0_attn_bwd_skel
  sl_exec
  iapply (useLoop1 c i _ harg1 _ harg2 _ harg3 _ harg4 _ harg5 _ harg6 _ harg7 _ harg8 _ harg9 _ harg10 _ harg11 _ harg12 _ harg13 _ harg14 _ harg15 _ harg16 _ harg17 _ harg18 _ harg19 _ harg20 X1 X2 X3 X4 X5 X6 X7 X8 X9 X10 X11 X12 X13 X14) $$ [H1 H2 H3 H4 H5 H6 H7 H8 H9 H10 H11 H12 H13 H14 H18 H19 H20]
  · isplitl [H1 H2 H3 H4 H5 H6 H7 H8 H9 H10 H11 H12 H13 H14]
    · iframe
    iexists f18, f19, f20
    iframe
  iintro %u1 ⟨⟨H1, H2, H3, H4, H5, H6, H7, H8, H9, H10, H11, H12, H13, H14⟩, %e18, %e19, %a1, H18, H19, H20, %hh⟩
  obtain ⟨h18, h19, hq1⟩ := hh
  sl_exec
  iapply (useLoop2 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ _ _ _ _ _ X1 X2 X3 X4 X5 X6 X7 X8 X9 X10 X11 X12 X13 X14 e18 e19 ?hv2 h18 h19) $$ [H1 H2 H3 H4 H5 H6 H7 H8 H9 H10 H11 H12 H13 H14 H18 H19 H16 H17 H20]
  all_goals try exact junk _ _
  · rw [scaleRow, show (inOf arg1 arg2 arg3 arg4 arg5 arg6 arg7 arg8 arg9 arg10 arg11 arg12 arg13 arg14 X1 X2 X3 X4 X5 X6 X7 X8 X9 X10 X11 X12 X13 X14).sc = _ from (rdSc arg1 X1 (by decide)).symm]
    rfl
  · isplitl [H1 H2 H3 H4 H5 H6 H7 H8 H9 H10 H11 H12 H13 H14 H18 H19]
    · iframe
    iexists _, _, _
    isplitl [H16]
    · iexact H16
    isplitl [H17]
    · iexact H17
    isplitl [H20]
    · iexact H20
    ipureintro
    have eqr0 : blkD (inOf arg1 arg2 arg3 arg4 arg5 arg6 arg7 arg8 arg9 arg10 arg11 arg12 arg13 arg14 X1 X2 X3 X4 X5 X6 X7 X8 X9 X10 X11 X12 X13 X14).qr (⟨0, by decide⟩ : Fin 16) = _ := (rdD arg8 X8 (⟨0, by decide⟩ : Fin 16) rfl (by decide)).symm
    have edo0 : blkD (inOf arg1 arg2 arg3 arg4 arg5 arg6 arg7 arg8 arg9 arg10 arg11 arg12 arg13 arg14 X1 X2 X3 X4 X5 X6 X7 X8 X9 X10 X11 X12 X13 X14).dor (⟨0, by decide⟩ : Fin 16) = _ := (rdD arg2 X2 (⟨0, by decide⟩ : Fin 16) rfl (by decide)).symm
    have eds0 : blkC (inOf arg1 arg2 arg3 arg4 arg5 arg6 arg7 arg8 arg9 arg10 arg11 arg12 arg13 arg14 X1 X2 X3 X4 X5 X6 X7 X8 X9 X10 X11 X12 X13 X14).dos (⟨0, by decide⟩ : Fin 16) = _ := (rdC arg3 X3 (⟨0, by decide⟩ : Fin 16) rfl (by decide)).symm
    have eqt0 : blkT (inOf arg1 arg2 arg3 arg4 arg5 arg6 arg7 arg8 arg9 arg10 arg11 arg12 arg13 arg14 X1 X2 X3 X4 X5 X6 X7 X8 X9 X10 X11 X12 X13 X14).qt (⟨0, by decide⟩ : Fin 16) = _ := (rdT arg4 X4 (⟨0, by decide⟩ : Fin 16) rfl (by decide)).symm
    have eqs0 : blkR (inOf arg1 arg2 arg3 arg4 arg5 arg6 arg7 arg8 arg9 arg10 arg11 arg12 arg13 arg14 X1 X2 X3 X4 X5 X6 X7 X8 X9 X10 X11 X12 X13 X14).qs (⟨0, by decide⟩ : Fin 16) = _ := (rdR arg5 X5 (⟨0, by decide⟩ : Fin 16) rfl (by decide)).symm
    have edt0 : blkT (inOf arg1 arg2 arg3 arg4 arg5 arg6 arg7 arg8 arg9 arg10 arg11 arg12 arg13 arg14 X1 X2 X3 X4 X5 X6 X7 X8 X9 X10 X11 X12 X13 X14).dot (⟨0, by decide⟩ : Fin 16) = _ := (rdT arg6 X6 (⟨0, by decide⟩ : Fin 16) rfl (by decide)).symm
    have ett0 : blkR (inOf arg1 arg2 arg3 arg4 arg5 arg6 arg7 arg8 arg9 arg10 arg11 arg12 arg13 arg14 X1 X2 X3 X4 X5 X6 X7 X8 X9 X10 X11 X12 X13 X14).dost (⟨0, by decide⟩ : Fin 16) = _ := (rdR arg7 X7 (⟨0, by decide⟩ : Fin 16) rfl (by decide)).symm
    have el0 : lseB (inOf arg1 arg2 arg3 arg4 arg5 arg6 arg7 arg8 arg9 arg10 arg11 arg12 arg13 arg14 X1 X2 X3 X4 X5 X6 X7 X8 X9 X10 X11 X12 X13 X14) (⟨0, by decide⟩ : Fin 16) = _ := (h18 _).symm.trans (rdS arg18 e18 (⟨0, by decide⟩ : Fin 16) rfl (by decide)).symm
    have ed0 : deltaB (inOf arg1 arg2 arg3 arg4 arg5 arg6 arg7 arg8 arg9 arg10 arg11 arg12 arg13 arg14 X1 X2 X3 X4 X5 X6 X7 X8 X9 X10 X11 X12 X13 X14) (⟨0, by decide⟩ : Fin 16) = _ := (h19 _).symm.trans (rdS arg19 e19 (⟨0, by decide⟩ : Fin 16) rfl (by decide)).symm
    have eqr1 : blkD (inOf arg1 arg2 arg3 arg4 arg5 arg6 arg7 arg8 arg9 arg10 arg11 arg12 arg13 arg14 X1 X2 X3 X4 X5 X6 X7 X8 X9 X10 X11 X12 X13 X14).qr (⟨1, by decide⟩ : Fin 16) = _ := (rdD arg8 X8 (⟨1, by decide⟩ : Fin 16) rfl (by decide)).symm
    have edo1 : blkD (inOf arg1 arg2 arg3 arg4 arg5 arg6 arg7 arg8 arg9 arg10 arg11 arg12 arg13 arg14 X1 X2 X3 X4 X5 X6 X7 X8 X9 X10 X11 X12 X13 X14).dor (⟨1, by decide⟩ : Fin 16) = _ := (rdD arg2 X2 (⟨1, by decide⟩ : Fin 16) rfl (by decide)).symm
    have eds1 : blkC (inOf arg1 arg2 arg3 arg4 arg5 arg6 arg7 arg8 arg9 arg10 arg11 arg12 arg13 arg14 X1 X2 X3 X4 X5 X6 X7 X8 X9 X10 X11 X12 X13 X14).dos (⟨1, by decide⟩ : Fin 16) = _ := (rdC arg3 X3 (⟨1, by decide⟩ : Fin 16) rfl (by decide)).symm
    have eqt1 : blkT (inOf arg1 arg2 arg3 arg4 arg5 arg6 arg7 arg8 arg9 arg10 arg11 arg12 arg13 arg14 X1 X2 X3 X4 X5 X6 X7 X8 X9 X10 X11 X12 X13 X14).qt (⟨1, by decide⟩ : Fin 16) = _ := (rdT arg4 X4 (⟨1, by decide⟩ : Fin 16) rfl (by decide)).symm
    have eqs1 : blkR (inOf arg1 arg2 arg3 arg4 arg5 arg6 arg7 arg8 arg9 arg10 arg11 arg12 arg13 arg14 X1 X2 X3 X4 X5 X6 X7 X8 X9 X10 X11 X12 X13 X14).qs (⟨1, by decide⟩ : Fin 16) = _ := (rdR arg5 X5 (⟨1, by decide⟩ : Fin 16) rfl (by decide)).symm
    have edt1 : blkT (inOf arg1 arg2 arg3 arg4 arg5 arg6 arg7 arg8 arg9 arg10 arg11 arg12 arg13 arg14 X1 X2 X3 X4 X5 X6 X7 X8 X9 X10 X11 X12 X13 X14).dot (⟨1, by decide⟩ : Fin 16) = _ := (rdT arg6 X6 (⟨1, by decide⟩ : Fin 16) rfl (by decide)).symm
    have ett1 : blkR (inOf arg1 arg2 arg3 arg4 arg5 arg6 arg7 arg8 arg9 arg10 arg11 arg12 arg13 arg14 X1 X2 X3 X4 X5 X6 X7 X8 X9 X10 X11 X12 X13 X14).dost (⟨1, by decide⟩ : Fin 16) = _ := (rdR arg7 X7 (⟨1, by decide⟩ : Fin 16) rfl (by decide)).symm
    have el1 : lseB (inOf arg1 arg2 arg3 arg4 arg5 arg6 arg7 arg8 arg9 arg10 arg11 arg12 arg13 arg14 X1 X2 X3 X4 X5 X6 X7 X8 X9 X10 X11 X12 X13 X14) (⟨1, by decide⟩ : Fin 16) = _ := (h18 _).symm.trans (rdS arg18 e18 (⟨1, by decide⟩ : Fin 16) rfl (by decide)).symm
    have ed1 : deltaB (inOf arg1 arg2 arg3 arg4 arg5 arg6 arg7 arg8 arg9 arg10 arg11 arg12 arg13 arg14 X1 X2 X3 X4 X5 X6 X7 X8 X9 X10 X11 X12 X13 X14) (⟨1, by decide⟩ : Fin 16) = _ := (h19 _).symm.trans (rdS arg19 e19 (⟨1, by decide⟩ : Fin 16) rfl (by decide)).symm
    have ek : blkK (inOf arg1 arg2 arg3 arg4 arg5 arg6 arg7 arg8 arg9 arg10 arg11 arg12 arg13 arg14 X1 X2 X3 X4 X5 X6 X7 X8 X9 X10 X11 X12 X13 X14).kt (⟨0, by decide⟩ : Fin 8) = _ := (rdK arg11 X11 (⟨0, by decide⟩ : Fin 8) rfl (by decide)).symm
    have ev : blkK (inOf arg1 arg2 arg3 arg4 arg5 arg6 arg7 arg8 arg9 arg10 arg11 arg12 arg13 arg14 X1 X2 X3 X4 X5 X6 X7 X8 X9 X10 X11 X12 X13 X14).vt (⟨0, by decide⟩ : Fin 8) = _ := (rdK arg12 X12 (⟨0, by decide⟩ : Fin 8) rfl (by decide)).symm
    have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
    have esc : (inOf arg1 arg2 arg3 arg4 arg5 arg6 arg7 arg8 arg9 arg10 arg11 arg12 arg13 arg14 X1 X2 X3 X4 X5 X6 X7 X8 X9 X10 X11 X12 X13 X14).sc = _ := (rdSc arg1 X1 (by decide)).symm
    refine ⟨KvAt.start (kt := (⟨0, by decide⟩ : Fin 8)) (L := []) KvBelow.zero _ ?_ rfl _, KvAt.start (kt := (⟨0, by decide⟩ : Fin 8)) (L := []) KvBelow.zero _ ?_ rfl _, ?_⟩
    · rw [dkSum_start _ _ (⟨0, by decide⟩ : Fin 16) (⟨1, by decide⟩ : Fin 16) rfl rfl]
      simp only [dkOf, probDiag, scores, scaleRow]
      rw [esc, eqr0, edo0, eds0, eqt0, eqs0, el0, ed0, eqr1, edo1, eds1, eqt1, eqs1, el1, ed1, ek, ev, evs]
      rfl
    · rw [dvSum_start _ _ (⟨0, by decide⟩ : Fin 16) (⟨1, by decide⟩ : Fin 16) rfl rfl]
      simp only [dvOf, probDiag, scores, scaleRow]
      rw [esc, eqr0, edt0, ett0, el0, eqr1, edt1, ett1, el1, ek]
      rfl
    · refine DqAt.step (kt := 0) (i := (⟨1, by decide⟩ : Fin 16)) (L := [_]) (by decide) (by decide)
        (DqAt.step (kt := 0) (i := (⟨0, by decide⟩ : Fin 16)) (L := []) (by decide) (by decide) hq1 _ ?_ rfl _) _ ?_ rfl _
      · rw [prob_diag _ _ _ (by decide)]
        simp only [dqStep, dsOf, probDiag, scores, scaleRow]
        rw [esc, eqr0, edo0, eds0, ek, ev, evs, el0, ed0, ← rdQ arg20 _ (⟨0, by decide⟩ : Fin 16) rfl (by decide)]
        rfl
      · rw [prob_diag _ _ _ (by decide)]
        simp only [dqStep, dsOf, probDiag, scores, scaleRow]
        rw [wrQ_ne arg20 _ (⟨0, by decide⟩ : Fin 16) (⟨1, by decide⟩ : Fin 16) (by decide) rfl, show blkQ (arg20.view.read (Elt F) (arg20.view.writes (Elt F) a1 [])) (⟨1, by decide⟩ : Fin 16) = _ from (rdQ arg20 a1 (⟨1, by decide⟩ : Fin 16) rfl (by decide)).symm]
        rw [esc, eqr1, edo1, eds1, ek, ev, evs, el1, ed1]
        rfl
  iintro %u2 ⟨⟨H1, H2, H3, H4, H5, H6, H7, H8, H9, H10, H11, H12, H13, H14, H18, H19⟩, %b1, %c1, %a2, H16, H17, H20, %hh⟩
  obtain ⟨hb1, hc1, hq2⟩ := hh
  sl_exec
  iapply (useLoop3 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ _ _ _ _ _ _ X1 X2 X3 X4 X5 X6 X7 X8 X9 X10 X11 X12 X13 X14 e18 e19 ?hv3 h18 h19) $$ [H1 H2 H3 H4 H5 H6 H7 H8 H9 H10 H11 H12 H13 H14 H18 H19 H16 H17 H20]
  all_goals try exact junk _ _
  · rw [scaleRow, show (inOf arg1 arg2 arg3 arg4 arg5 arg6 arg7 arg8 arg9 arg10 arg11 arg12 arg13 arg14 X1 X2 X3 X4 X5 X6 X7 X8 X9 X10 X11 X12 X13 X14).sc = _ from (rdSc arg1 X1 (by decide)).symm]
    rfl
  · isplitl [H1 H2 H3 H4 H5 H6 H7 H8 H9 H10 H11 H12 H13 H14 H18 H19]
    · iframe
    iexists _, _, _
    isplitl [H16]
    · iexact H16
    isplitl [H17]
    · iexact H17
    isplitl [H20]
    · iexact H20
    ipureintro
    have eqr0 : blkD (inOf arg1 arg2 arg3 arg4 arg5 arg6 arg7 arg8 arg9 arg10 arg11 arg12 arg13 arg14 X1 X2 X3 X4 X5 X6 X7 X8 X9 X10 X11 X12 X13 X14).qr (⟨2, by decide⟩ : Fin 16) = _ := (rdD arg8 X8 (⟨2, by decide⟩ : Fin 16) rfl (by decide)).symm
    have edo0 : blkD (inOf arg1 arg2 arg3 arg4 arg5 arg6 arg7 arg8 arg9 arg10 arg11 arg12 arg13 arg14 X1 X2 X3 X4 X5 X6 X7 X8 X9 X10 X11 X12 X13 X14).dor (⟨2, by decide⟩ : Fin 16) = _ := (rdD arg2 X2 (⟨2, by decide⟩ : Fin 16) rfl (by decide)).symm
    have eds0 : blkC (inOf arg1 arg2 arg3 arg4 arg5 arg6 arg7 arg8 arg9 arg10 arg11 arg12 arg13 arg14 X1 X2 X3 X4 X5 X6 X7 X8 X9 X10 X11 X12 X13 X14).dos (⟨2, by decide⟩ : Fin 16) = _ := (rdC arg3 X3 (⟨2, by decide⟩ : Fin 16) rfl (by decide)).symm
    have eqt0 : blkT (inOf arg1 arg2 arg3 arg4 arg5 arg6 arg7 arg8 arg9 arg10 arg11 arg12 arg13 arg14 X1 X2 X3 X4 X5 X6 X7 X8 X9 X10 X11 X12 X13 X14).qt (⟨2, by decide⟩ : Fin 16) = _ := (rdT arg4 X4 (⟨2, by decide⟩ : Fin 16) rfl (by decide)).symm
    have eqs0 : blkR (inOf arg1 arg2 arg3 arg4 arg5 arg6 arg7 arg8 arg9 arg10 arg11 arg12 arg13 arg14 X1 X2 X3 X4 X5 X6 X7 X8 X9 X10 X11 X12 X13 X14).qs (⟨2, by decide⟩ : Fin 16) = _ := (rdR arg5 X5 (⟨2, by decide⟩ : Fin 16) rfl (by decide)).symm
    have edt0 : blkT (inOf arg1 arg2 arg3 arg4 arg5 arg6 arg7 arg8 arg9 arg10 arg11 arg12 arg13 arg14 X1 X2 X3 X4 X5 X6 X7 X8 X9 X10 X11 X12 X13 X14).dot (⟨2, by decide⟩ : Fin 16) = _ := (rdT arg6 X6 (⟨2, by decide⟩ : Fin 16) rfl (by decide)).symm
    have ett0 : blkR (inOf arg1 arg2 arg3 arg4 arg5 arg6 arg7 arg8 arg9 arg10 arg11 arg12 arg13 arg14 X1 X2 X3 X4 X5 X6 X7 X8 X9 X10 X11 X12 X13 X14).dost (⟨2, by decide⟩ : Fin 16) = _ := (rdR arg7 X7 (⟨2, by decide⟩ : Fin 16) rfl (by decide)).symm
    have el0 : lseB (inOf arg1 arg2 arg3 arg4 arg5 arg6 arg7 arg8 arg9 arg10 arg11 arg12 arg13 arg14 X1 X2 X3 X4 X5 X6 X7 X8 X9 X10 X11 X12 X13 X14) (⟨2, by decide⟩ : Fin 16) = _ := (h18 _).symm.trans (rdS arg18 e18 (⟨2, by decide⟩ : Fin 16) rfl (by decide)).symm
    have ed0 : deltaB (inOf arg1 arg2 arg3 arg4 arg5 arg6 arg7 arg8 arg9 arg10 arg11 arg12 arg13 arg14 X1 X2 X3 X4 X5 X6 X7 X8 X9 X10 X11 X12 X13 X14) (⟨2, by decide⟩ : Fin 16) = _ := (h19 _).symm.trans (rdS arg19 e19 (⟨2, by decide⟩ : Fin 16) rfl (by decide)).symm
    have eqr1 : blkD (inOf arg1 arg2 arg3 arg4 arg5 arg6 arg7 arg8 arg9 arg10 arg11 arg12 arg13 arg14 X1 X2 X3 X4 X5 X6 X7 X8 X9 X10 X11 X12 X13 X14).qr (⟨3, by decide⟩ : Fin 16) = _ := (rdD arg8 X8 (⟨3, by decide⟩ : Fin 16) rfl (by decide)).symm
    have edo1 : blkD (inOf arg1 arg2 arg3 arg4 arg5 arg6 arg7 arg8 arg9 arg10 arg11 arg12 arg13 arg14 X1 X2 X3 X4 X5 X6 X7 X8 X9 X10 X11 X12 X13 X14).dor (⟨3, by decide⟩ : Fin 16) = _ := (rdD arg2 X2 (⟨3, by decide⟩ : Fin 16) rfl (by decide)).symm
    have eds1 : blkC (inOf arg1 arg2 arg3 arg4 arg5 arg6 arg7 arg8 arg9 arg10 arg11 arg12 arg13 arg14 X1 X2 X3 X4 X5 X6 X7 X8 X9 X10 X11 X12 X13 X14).dos (⟨3, by decide⟩ : Fin 16) = _ := (rdC arg3 X3 (⟨3, by decide⟩ : Fin 16) rfl (by decide)).symm
    have eqt1 : blkT (inOf arg1 arg2 arg3 arg4 arg5 arg6 arg7 arg8 arg9 arg10 arg11 arg12 arg13 arg14 X1 X2 X3 X4 X5 X6 X7 X8 X9 X10 X11 X12 X13 X14).qt (⟨3, by decide⟩ : Fin 16) = _ := (rdT arg4 X4 (⟨3, by decide⟩ : Fin 16) rfl (by decide)).symm
    have eqs1 : blkR (inOf arg1 arg2 arg3 arg4 arg5 arg6 arg7 arg8 arg9 arg10 arg11 arg12 arg13 arg14 X1 X2 X3 X4 X5 X6 X7 X8 X9 X10 X11 X12 X13 X14).qs (⟨3, by decide⟩ : Fin 16) = _ := (rdR arg5 X5 (⟨3, by decide⟩ : Fin 16) rfl (by decide)).symm
    have edt1 : blkT (inOf arg1 arg2 arg3 arg4 arg5 arg6 arg7 arg8 arg9 arg10 arg11 arg12 arg13 arg14 X1 X2 X3 X4 X5 X6 X7 X8 X9 X10 X11 X12 X13 X14).dot (⟨3, by decide⟩ : Fin 16) = _ := (rdT arg6 X6 (⟨3, by decide⟩ : Fin 16) rfl (by decide)).symm
    have ett1 : blkR (inOf arg1 arg2 arg3 arg4 arg5 arg6 arg7 arg8 arg9 arg10 arg11 arg12 arg13 arg14 X1 X2 X3 X4 X5 X6 X7 X8 X9 X10 X11 X12 X13 X14).dost (⟨3, by decide⟩ : Fin 16) = _ := (rdR arg7 X7 (⟨3, by decide⟩ : Fin 16) rfl (by decide)).symm
    have el1 : lseB (inOf arg1 arg2 arg3 arg4 arg5 arg6 arg7 arg8 arg9 arg10 arg11 arg12 arg13 arg14 X1 X2 X3 X4 X5 X6 X7 X8 X9 X10 X11 X12 X13 X14) (⟨3, by decide⟩ : Fin 16) = _ := (h18 _).symm.trans (rdS arg18 e18 (⟨3, by decide⟩ : Fin 16) rfl (by decide)).symm
    have ed1 : deltaB (inOf arg1 arg2 arg3 arg4 arg5 arg6 arg7 arg8 arg9 arg10 arg11 arg12 arg13 arg14 X1 X2 X3 X4 X5 X6 X7 X8 X9 X10 X11 X12 X13 X14) (⟨3, by decide⟩ : Fin 16) = _ := (h19 _).symm.trans (rdS arg19 e19 (⟨3, by decide⟩ : Fin 16) rfl (by decide)).symm
    have ek : blkK (inOf arg1 arg2 arg3 arg4 arg5 arg6 arg7 arg8 arg9 arg10 arg11 arg12 arg13 arg14 X1 X2 X3 X4 X5 X6 X7 X8 X9 X10 X11 X12 X13 X14).kt (⟨1, by decide⟩ : Fin 8) = _ := (rdK arg11 X11 (⟨1, by decide⟩ : Fin 8) rfl (by decide)).symm
    have ev : blkK (inOf arg1 arg2 arg3 arg4 arg5 arg6 arg7 arg8 arg9 arg10 arg11 arg12 arg13 arg14 X1 X2 X3 X4 X5 X6 X7 X8 X9 X10 X11 X12 X13 X14).vt (⟨1, by decide⟩ : Fin 8) = _ := (rdK arg12 X12 (⟨1, by decide⟩ : Fin 8) rfl (by decide)).symm
    have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
    have esc : (inOf arg1 arg2 arg3 arg4 arg5 arg6 arg7 arg8 arg9 arg10 arg11 arg12 arg13 arg14 X1 X2 X3 X4 X5 X6 X7 X8 X9 X10 X11 X12 X13 X14).sc = _ := (rdSc arg1 X1 (by decide)).symm
    refine ⟨KvAt.start (kt := (⟨1, by decide⟩ : Fin 8)) (L := []) hb1 _ ?_ rfl _, KvAt.start (kt := (⟨1, by decide⟩ : Fin 8)) (L := []) hc1 _ ?_ rfl _, ?_⟩
    · rw [dkSum_start _ _ (⟨2, by decide⟩ : Fin 16) (⟨3, by decide⟩ : Fin 16) rfl rfl]
      simp only [dkOf, probDiag, scores, scaleRow]
      rw [esc, eqr0, edo0, eds0, eqt0, eqs0, el0, ed0, eqr1, edo1, eds1, eqt1, eqs1, el1, ed1, ek, ev, evs]
      rfl
    · rw [dvSum_start _ _ (⟨2, by decide⟩ : Fin 16) (⟨3, by decide⟩ : Fin 16) rfl rfl]
      simp only [dvOf, probDiag, scores, scaleRow]
      rw [esc, eqr0, edt0, ett0, el0, eqr1, edt1, ett1, el1, ek]
      rfl
    · refine DqAt.step (kt := 1) (i := (⟨3, by decide⟩ : Fin 16)) (L := [_]) (by decide) (by decide)
        (DqAt.step (kt := 1) (i := (⟨2, by decide⟩ : Fin 16)) (L := []) (by decide) (by decide) hq2 _ ?_ rfl _) _ ?_ rfl _
      · rw [prob_diag _ _ _ (by decide)]
        simp only [dqStep, dsOf, probDiag, scores, scaleRow]
        rw [esc, eqr0, edo0, eds0, ek, ev, evs, el0, ed0, ← rdQ arg20 _ (⟨2, by decide⟩ : Fin 16) rfl (by decide)]
        rfl
      · rw [prob_diag _ _ _ (by decide)]
        simp only [dqStep, dsOf, probDiag, scores, scaleRow]
        rw [wrQ_ne arg20 _ (⟨2, by decide⟩ : Fin 16) (⟨3, by decide⟩ : Fin 16) (by decide) rfl, show blkQ (arg20.view.read (Elt F) (arg20.view.writes (Elt F) a2 [])) (⟨3, by decide⟩ : Fin 16) = _ from (rdQ arg20 a2 (⟨3, by decide⟩ : Fin 16) rfl (by decide)).symm]
        rw [esc, eqr1, edo1, eds1, ek, ev, evs, el1, ed1]
        rfl
  iintro %u3 ⟨⟨H1, H2, H3, H4, H5, H6, H7, H8, H9, H10, H11, H12, H13, H14, H18, H19⟩, %b2, %c2, %a3, H16, H17, H20, %hh⟩
  obtain ⟨hb2, hc2, hq3⟩ := hh
  sl_exec
  iapply (useLoop4 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ _ _ _ _ X1 X2 X3 X4 X5 X6 X7 X8 X9 X10 X11 X12 X13 X14 e18 e19 ?hv4 h18 h19) $$ [H1 H2 H3 H4 H5 H6 H7 H8 H9 H10 H11 H12 H13 H14 H18 H19 H16 H17 H20]
  all_goals try exact junk _ _
  · rw [scaleRow, show (inOf arg1 arg2 arg3 arg4 arg5 arg6 arg7 arg8 arg9 arg10 arg11 arg12 arg13 arg14 X1 X2 X3 X4 X5 X6 X7 X8 X9 X10 X11 X12 X13 X14).sc = _ from (rdSc arg1 X1 (by decide)).symm]
    rfl
  · isplitl [H1 H2 H3 H4 H5 H6 H7 H8 H9 H10 H11 H12 H13 H14 H18 H19]
    · iframe
    iexists _, _, _
    isplitl [H16]
    · iexact H16
    isplitl [H17]
    · iexact H17
    isplitl [H20]
    · iexact H20
    ipureintro
    have eqr0 : blkD (inOf arg1 arg2 arg3 arg4 arg5 arg6 arg7 arg8 arg9 arg10 arg11 arg12 arg13 arg14 X1 X2 X3 X4 X5 X6 X7 X8 X9 X10 X11 X12 X13 X14).qr (⟨4, by decide⟩ : Fin 16) = _ := (rdD arg8 X8 (⟨4, by decide⟩ : Fin 16) rfl (by decide)).symm
    have edo0 : blkD (inOf arg1 arg2 arg3 arg4 arg5 arg6 arg7 arg8 arg9 arg10 arg11 arg12 arg13 arg14 X1 X2 X3 X4 X5 X6 X7 X8 X9 X10 X11 X12 X13 X14).dor (⟨4, by decide⟩ : Fin 16) = _ := (rdD arg2 X2 (⟨4, by decide⟩ : Fin 16) rfl (by decide)).symm
    have eds0 : blkC (inOf arg1 arg2 arg3 arg4 arg5 arg6 arg7 arg8 arg9 arg10 arg11 arg12 arg13 arg14 X1 X2 X3 X4 X5 X6 X7 X8 X9 X10 X11 X12 X13 X14).dos (⟨4, by decide⟩ : Fin 16) = _ := (rdC arg3 X3 (⟨4, by decide⟩ : Fin 16) rfl (by decide)).symm
    have eqt0 : blkT (inOf arg1 arg2 arg3 arg4 arg5 arg6 arg7 arg8 arg9 arg10 arg11 arg12 arg13 arg14 X1 X2 X3 X4 X5 X6 X7 X8 X9 X10 X11 X12 X13 X14).qt (⟨4, by decide⟩ : Fin 16) = _ := (rdT arg4 X4 (⟨4, by decide⟩ : Fin 16) rfl (by decide)).symm
    have eqs0 : blkR (inOf arg1 arg2 arg3 arg4 arg5 arg6 arg7 arg8 arg9 arg10 arg11 arg12 arg13 arg14 X1 X2 X3 X4 X5 X6 X7 X8 X9 X10 X11 X12 X13 X14).qs (⟨4, by decide⟩ : Fin 16) = _ := (rdR arg5 X5 (⟨4, by decide⟩ : Fin 16) rfl (by decide)).symm
    have edt0 : blkT (inOf arg1 arg2 arg3 arg4 arg5 arg6 arg7 arg8 arg9 arg10 arg11 arg12 arg13 arg14 X1 X2 X3 X4 X5 X6 X7 X8 X9 X10 X11 X12 X13 X14).dot (⟨4, by decide⟩ : Fin 16) = _ := (rdT arg6 X6 (⟨4, by decide⟩ : Fin 16) rfl (by decide)).symm
    have ett0 : blkR (inOf arg1 arg2 arg3 arg4 arg5 arg6 arg7 arg8 arg9 arg10 arg11 arg12 arg13 arg14 X1 X2 X3 X4 X5 X6 X7 X8 X9 X10 X11 X12 X13 X14).dost (⟨4, by decide⟩ : Fin 16) = _ := (rdR arg7 X7 (⟨4, by decide⟩ : Fin 16) rfl (by decide)).symm
    have el0 : lseB (inOf arg1 arg2 arg3 arg4 arg5 arg6 arg7 arg8 arg9 arg10 arg11 arg12 arg13 arg14 X1 X2 X3 X4 X5 X6 X7 X8 X9 X10 X11 X12 X13 X14) (⟨4, by decide⟩ : Fin 16) = _ := (h18 _).symm.trans (rdS arg18 e18 (⟨4, by decide⟩ : Fin 16) rfl (by decide)).symm
    have ed0 : deltaB (inOf arg1 arg2 arg3 arg4 arg5 arg6 arg7 arg8 arg9 arg10 arg11 arg12 arg13 arg14 X1 X2 X3 X4 X5 X6 X7 X8 X9 X10 X11 X12 X13 X14) (⟨4, by decide⟩ : Fin 16) = _ := (h19 _).symm.trans (rdS arg19 e19 (⟨4, by decide⟩ : Fin 16) rfl (by decide)).symm
    have eqr1 : blkD (inOf arg1 arg2 arg3 arg4 arg5 arg6 arg7 arg8 arg9 arg10 arg11 arg12 arg13 arg14 X1 X2 X3 X4 X5 X6 X7 X8 X9 X10 X11 X12 X13 X14).qr (⟨5, by decide⟩ : Fin 16) = _ := (rdD arg8 X8 (⟨5, by decide⟩ : Fin 16) rfl (by decide)).symm
    have edo1 : blkD (inOf arg1 arg2 arg3 arg4 arg5 arg6 arg7 arg8 arg9 arg10 arg11 arg12 arg13 arg14 X1 X2 X3 X4 X5 X6 X7 X8 X9 X10 X11 X12 X13 X14).dor (⟨5, by decide⟩ : Fin 16) = _ := (rdD arg2 X2 (⟨5, by decide⟩ : Fin 16) rfl (by decide)).symm
    have eds1 : blkC (inOf arg1 arg2 arg3 arg4 arg5 arg6 arg7 arg8 arg9 arg10 arg11 arg12 arg13 arg14 X1 X2 X3 X4 X5 X6 X7 X8 X9 X10 X11 X12 X13 X14).dos (⟨5, by decide⟩ : Fin 16) = _ := (rdC arg3 X3 (⟨5, by decide⟩ : Fin 16) rfl (by decide)).symm
    have eqt1 : blkT (inOf arg1 arg2 arg3 arg4 arg5 arg6 arg7 arg8 arg9 arg10 arg11 arg12 arg13 arg14 X1 X2 X3 X4 X5 X6 X7 X8 X9 X10 X11 X12 X13 X14).qt (⟨5, by decide⟩ : Fin 16) = _ := (rdT arg4 X4 (⟨5, by decide⟩ : Fin 16) rfl (by decide)).symm
    have eqs1 : blkR (inOf arg1 arg2 arg3 arg4 arg5 arg6 arg7 arg8 arg9 arg10 arg11 arg12 arg13 arg14 X1 X2 X3 X4 X5 X6 X7 X8 X9 X10 X11 X12 X13 X14).qs (⟨5, by decide⟩ : Fin 16) = _ := (rdR arg5 X5 (⟨5, by decide⟩ : Fin 16) rfl (by decide)).symm
    have edt1 : blkT (inOf arg1 arg2 arg3 arg4 arg5 arg6 arg7 arg8 arg9 arg10 arg11 arg12 arg13 arg14 X1 X2 X3 X4 X5 X6 X7 X8 X9 X10 X11 X12 X13 X14).dot (⟨5, by decide⟩ : Fin 16) = _ := (rdT arg6 X6 (⟨5, by decide⟩ : Fin 16) rfl (by decide)).symm
    have ett1 : blkR (inOf arg1 arg2 arg3 arg4 arg5 arg6 arg7 arg8 arg9 arg10 arg11 arg12 arg13 arg14 X1 X2 X3 X4 X5 X6 X7 X8 X9 X10 X11 X12 X13 X14).dost (⟨5, by decide⟩ : Fin 16) = _ := (rdR arg7 X7 (⟨5, by decide⟩ : Fin 16) rfl (by decide)).symm
    have el1 : lseB (inOf arg1 arg2 arg3 arg4 arg5 arg6 arg7 arg8 arg9 arg10 arg11 arg12 arg13 arg14 X1 X2 X3 X4 X5 X6 X7 X8 X9 X10 X11 X12 X13 X14) (⟨5, by decide⟩ : Fin 16) = _ := (h18 _).symm.trans (rdS arg18 e18 (⟨5, by decide⟩ : Fin 16) rfl (by decide)).symm
    have ed1 : deltaB (inOf arg1 arg2 arg3 arg4 arg5 arg6 arg7 arg8 arg9 arg10 arg11 arg12 arg13 arg14 X1 X2 X3 X4 X5 X6 X7 X8 X9 X10 X11 X12 X13 X14) (⟨5, by decide⟩ : Fin 16) = _ := (h19 _).symm.trans (rdS arg19 e19 (⟨5, by decide⟩ : Fin 16) rfl (by decide)).symm
    have ek : blkK (inOf arg1 arg2 arg3 arg4 arg5 arg6 arg7 arg8 arg9 arg10 arg11 arg12 arg13 arg14 X1 X2 X3 X4 X5 X6 X7 X8 X9 X10 X11 X12 X13 X14).kt (⟨2, by decide⟩ : Fin 8) = _ := (rdK arg11 X11 (⟨2, by decide⟩ : Fin 8) rfl (by decide)).symm
    have ev : blkK (inOf arg1 arg2 arg3 arg4 arg5 arg6 arg7 arg8 arg9 arg10 arg11 arg12 arg13 arg14 X1 X2 X3 X4 X5 X6 X7 X8 X9 X10 X11 X12 X13 X14).vt (⟨2, by decide⟩ : Fin 8) = _ := (rdK arg12 X12 (⟨2, by decide⟩ : Fin 8) rfl (by decide)).symm
    have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
    have esc : (inOf arg1 arg2 arg3 arg4 arg5 arg6 arg7 arg8 arg9 arg10 arg11 arg12 arg13 arg14 X1 X2 X3 X4 X5 X6 X7 X8 X9 X10 X11 X12 X13 X14).sc = _ := (rdSc arg1 X1 (by decide)).symm
    refine ⟨KvAt.start (kt := (⟨2, by decide⟩ : Fin 8)) (L := []) hb2 _ ?_ rfl _, KvAt.start (kt := (⟨2, by decide⟩ : Fin 8)) (L := []) hc2 _ ?_ rfl _, ?_⟩
    · rw [dkSum_start _ _ (⟨4, by decide⟩ : Fin 16) (⟨5, by decide⟩ : Fin 16) rfl rfl]
      simp only [dkOf, probDiag, scores, scaleRow]
      rw [esc, eqr0, edo0, eds0, eqt0, eqs0, el0, ed0, eqr1, edo1, eds1, eqt1, eqs1, el1, ed1, ek, ev, evs]
      rfl
    · rw [dvSum_start _ _ (⟨4, by decide⟩ : Fin 16) (⟨5, by decide⟩ : Fin 16) rfl rfl]
      simp only [dvOf, probDiag, scores, scaleRow]
      rw [esc, eqr0, edt0, ett0, el0, eqr1, edt1, ett1, el1, ek]
      rfl
    · refine DqAt.step (kt := 2) (i := (⟨5, by decide⟩ : Fin 16)) (L := [_]) (by decide) (by decide)
        (DqAt.step (kt := 2) (i := (⟨4, by decide⟩ : Fin 16)) (L := []) (by decide) (by decide) hq3 _ ?_ rfl _) _ ?_ rfl _
      · rw [prob_diag _ _ _ (by decide)]
        simp only [dqStep, dsOf, probDiag, scores, scaleRow]
        rw [esc, eqr0, edo0, eds0, ek, ev, evs, el0, ed0, ← rdQ arg20 _ (⟨4, by decide⟩ : Fin 16) rfl (by decide)]
        rfl
      · rw [prob_diag _ _ _ (by decide)]
        simp only [dqStep, dsOf, probDiag, scores, scaleRow]
        rw [wrQ_ne arg20 _ (⟨4, by decide⟩ : Fin 16) (⟨5, by decide⟩ : Fin 16) (by decide) rfl, show blkQ (arg20.view.read (Elt F) (arg20.view.writes (Elt F) a3 [])) (⟨5, by decide⟩ : Fin 16) = _ from (rdQ arg20 a3 (⟨5, by decide⟩ : Fin 16) rfl (by decide)).symm]
        rw [esc, eqr1, edo1, eds1, ek, ev, evs, el1, ed1]
        rfl
  iintro %u4 ⟨⟨H1, H2, H3, H4, H5, H6, H7, H8, H9, H10, H11, H12, H13, H14, H18, H19⟩, %b3, %c3, %a4, H16, H17, H20, %hh⟩
  obtain ⟨hb3, hc3, hq4⟩ := hh
  sl_exec
  iapply (useLoop5 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ _ _ _ _ _ _ X1 X2 X3 X4 X5 X6 X7 X8 X9 X10 X11 X12 X13 X14 e18 e19 ?hv5 h18 h19) $$ [H1 H2 H3 H4 H5 H6 H7 H8 H9 H10 H11 H12 H13 H14 H18 H19 H16 H17 H20]
  all_goals try exact junk _ _
  · rw [scaleRow, show (inOf arg1 arg2 arg3 arg4 arg5 arg6 arg7 arg8 arg9 arg10 arg11 arg12 arg13 arg14 X1 X2 X3 X4 X5 X6 X7 X8 X9 X10 X11 X12 X13 X14).sc = _ from (rdSc arg1 X1 (by decide)).symm]
    rfl
  · isplitl [H1 H2 H3 H4 H5 H6 H7 H8 H9 H10 H11 H12 H13 H14 H18 H19]
    · iframe
    iexists _, _, _
    isplitl [H16]
    · iexact H16
    isplitl [H17]
    · iexact H17
    isplitl [H20]
    · iexact H20
    ipureintro
    have eqr0 : blkD (inOf arg1 arg2 arg3 arg4 arg5 arg6 arg7 arg8 arg9 arg10 arg11 arg12 arg13 arg14 X1 X2 X3 X4 X5 X6 X7 X8 X9 X10 X11 X12 X13 X14).qr (⟨6, by decide⟩ : Fin 16) = _ := (rdD arg8 X8 (⟨6, by decide⟩ : Fin 16) rfl (by decide)).symm
    have edo0 : blkD (inOf arg1 arg2 arg3 arg4 arg5 arg6 arg7 arg8 arg9 arg10 arg11 arg12 arg13 arg14 X1 X2 X3 X4 X5 X6 X7 X8 X9 X10 X11 X12 X13 X14).dor (⟨6, by decide⟩ : Fin 16) = _ := (rdD arg2 X2 (⟨6, by decide⟩ : Fin 16) rfl (by decide)).symm
    have eds0 : blkC (inOf arg1 arg2 arg3 arg4 arg5 arg6 arg7 arg8 arg9 arg10 arg11 arg12 arg13 arg14 X1 X2 X3 X4 X5 X6 X7 X8 X9 X10 X11 X12 X13 X14).dos (⟨6, by decide⟩ : Fin 16) = _ := (rdC arg3 X3 (⟨6, by decide⟩ : Fin 16) rfl (by decide)).symm
    have eqt0 : blkT (inOf arg1 arg2 arg3 arg4 arg5 arg6 arg7 arg8 arg9 arg10 arg11 arg12 arg13 arg14 X1 X2 X3 X4 X5 X6 X7 X8 X9 X10 X11 X12 X13 X14).qt (⟨6, by decide⟩ : Fin 16) = _ := (rdT arg4 X4 (⟨6, by decide⟩ : Fin 16) rfl (by decide)).symm
    have eqs0 : blkR (inOf arg1 arg2 arg3 arg4 arg5 arg6 arg7 arg8 arg9 arg10 arg11 arg12 arg13 arg14 X1 X2 X3 X4 X5 X6 X7 X8 X9 X10 X11 X12 X13 X14).qs (⟨6, by decide⟩ : Fin 16) = _ := (rdR arg5 X5 (⟨6, by decide⟩ : Fin 16) rfl (by decide)).symm
    have edt0 : blkT (inOf arg1 arg2 arg3 arg4 arg5 arg6 arg7 arg8 arg9 arg10 arg11 arg12 arg13 arg14 X1 X2 X3 X4 X5 X6 X7 X8 X9 X10 X11 X12 X13 X14).dot (⟨6, by decide⟩ : Fin 16) = _ := (rdT arg6 X6 (⟨6, by decide⟩ : Fin 16) rfl (by decide)).symm
    have ett0 : blkR (inOf arg1 arg2 arg3 arg4 arg5 arg6 arg7 arg8 arg9 arg10 arg11 arg12 arg13 arg14 X1 X2 X3 X4 X5 X6 X7 X8 X9 X10 X11 X12 X13 X14).dost (⟨6, by decide⟩ : Fin 16) = _ := (rdR arg7 X7 (⟨6, by decide⟩ : Fin 16) rfl (by decide)).symm
    have el0 : lseB (inOf arg1 arg2 arg3 arg4 arg5 arg6 arg7 arg8 arg9 arg10 arg11 arg12 arg13 arg14 X1 X2 X3 X4 X5 X6 X7 X8 X9 X10 X11 X12 X13 X14) (⟨6, by decide⟩ : Fin 16) = _ := (h18 _).symm.trans (rdS arg18 e18 (⟨6, by decide⟩ : Fin 16) rfl (by decide)).symm
    have ed0 : deltaB (inOf arg1 arg2 arg3 arg4 arg5 arg6 arg7 arg8 arg9 arg10 arg11 arg12 arg13 arg14 X1 X2 X3 X4 X5 X6 X7 X8 X9 X10 X11 X12 X13 X14) (⟨6, by decide⟩ : Fin 16) = _ := (h19 _).symm.trans (rdS arg19 e19 (⟨6, by decide⟩ : Fin 16) rfl (by decide)).symm
    have eqr1 : blkD (inOf arg1 arg2 arg3 arg4 arg5 arg6 arg7 arg8 arg9 arg10 arg11 arg12 arg13 arg14 X1 X2 X3 X4 X5 X6 X7 X8 X9 X10 X11 X12 X13 X14).qr (⟨7, by decide⟩ : Fin 16) = _ := (rdD arg8 X8 (⟨7, by decide⟩ : Fin 16) rfl (by decide)).symm
    have edo1 : blkD (inOf arg1 arg2 arg3 arg4 arg5 arg6 arg7 arg8 arg9 arg10 arg11 arg12 arg13 arg14 X1 X2 X3 X4 X5 X6 X7 X8 X9 X10 X11 X12 X13 X14).dor (⟨7, by decide⟩ : Fin 16) = _ := (rdD arg2 X2 (⟨7, by decide⟩ : Fin 16) rfl (by decide)).symm
    have eds1 : blkC (inOf arg1 arg2 arg3 arg4 arg5 arg6 arg7 arg8 arg9 arg10 arg11 arg12 arg13 arg14 X1 X2 X3 X4 X5 X6 X7 X8 X9 X10 X11 X12 X13 X14).dos (⟨7, by decide⟩ : Fin 16) = _ := (rdC arg3 X3 (⟨7, by decide⟩ : Fin 16) rfl (by decide)).symm
    have eqt1 : blkT (inOf arg1 arg2 arg3 arg4 arg5 arg6 arg7 arg8 arg9 arg10 arg11 arg12 arg13 arg14 X1 X2 X3 X4 X5 X6 X7 X8 X9 X10 X11 X12 X13 X14).qt (⟨7, by decide⟩ : Fin 16) = _ := (rdT arg4 X4 (⟨7, by decide⟩ : Fin 16) rfl (by decide)).symm
    have eqs1 : blkR (inOf arg1 arg2 arg3 arg4 arg5 arg6 arg7 arg8 arg9 arg10 arg11 arg12 arg13 arg14 X1 X2 X3 X4 X5 X6 X7 X8 X9 X10 X11 X12 X13 X14).qs (⟨7, by decide⟩ : Fin 16) = _ := (rdR arg5 X5 (⟨7, by decide⟩ : Fin 16) rfl (by decide)).symm
    have edt1 : blkT (inOf arg1 arg2 arg3 arg4 arg5 arg6 arg7 arg8 arg9 arg10 arg11 arg12 arg13 arg14 X1 X2 X3 X4 X5 X6 X7 X8 X9 X10 X11 X12 X13 X14).dot (⟨7, by decide⟩ : Fin 16) = _ := (rdT arg6 X6 (⟨7, by decide⟩ : Fin 16) rfl (by decide)).symm
    have ett1 : blkR (inOf arg1 arg2 arg3 arg4 arg5 arg6 arg7 arg8 arg9 arg10 arg11 arg12 arg13 arg14 X1 X2 X3 X4 X5 X6 X7 X8 X9 X10 X11 X12 X13 X14).dost (⟨7, by decide⟩ : Fin 16) = _ := (rdR arg7 X7 (⟨7, by decide⟩ : Fin 16) rfl (by decide)).symm
    have el1 : lseB (inOf arg1 arg2 arg3 arg4 arg5 arg6 arg7 arg8 arg9 arg10 arg11 arg12 arg13 arg14 X1 X2 X3 X4 X5 X6 X7 X8 X9 X10 X11 X12 X13 X14) (⟨7, by decide⟩ : Fin 16) = _ := (h18 _).symm.trans (rdS arg18 e18 (⟨7, by decide⟩ : Fin 16) rfl (by decide)).symm
    have ed1 : deltaB (inOf arg1 arg2 arg3 arg4 arg5 arg6 arg7 arg8 arg9 arg10 arg11 arg12 arg13 arg14 X1 X2 X3 X4 X5 X6 X7 X8 X9 X10 X11 X12 X13 X14) (⟨7, by decide⟩ : Fin 16) = _ := (h19 _).symm.trans (rdS arg19 e19 (⟨7, by decide⟩ : Fin 16) rfl (by decide)).symm
    have ek : blkK (inOf arg1 arg2 arg3 arg4 arg5 arg6 arg7 arg8 arg9 arg10 arg11 arg12 arg13 arg14 X1 X2 X3 X4 X5 X6 X7 X8 X9 X10 X11 X12 X13 X14).kt (⟨3, by decide⟩ : Fin 8) = _ := (rdK arg11 X11 (⟨3, by decide⟩ : Fin 8) rfl (by decide)).symm
    have ev : blkK (inOf arg1 arg2 arg3 arg4 arg5 arg6 arg7 arg8 arg9 arg10 arg11 arg12 arg13 arg14 X1 X2 X3 X4 X5 X6 X7 X8 X9 X10 X11 X12 X13 X14).vt (⟨3, by decide⟩ : Fin 8) = _ := (rdK arg12 X12 (⟨3, by decide⟩ : Fin 8) rfl (by decide)).symm
    have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
    have esc : (inOf arg1 arg2 arg3 arg4 arg5 arg6 arg7 arg8 arg9 arg10 arg11 arg12 arg13 arg14 X1 X2 X3 X4 X5 X6 X7 X8 X9 X10 X11 X12 X13 X14).sc = _ := (rdSc arg1 X1 (by decide)).symm
    refine ⟨KvAt.start (kt := (⟨3, by decide⟩ : Fin 8)) (L := []) hb3 _ ?_ rfl _, KvAt.start (kt := (⟨3, by decide⟩ : Fin 8)) (L := []) hc3 _ ?_ rfl _, ?_⟩
    · rw [dkSum_start _ _ (⟨6, by decide⟩ : Fin 16) (⟨7, by decide⟩ : Fin 16) rfl rfl]
      simp only [dkOf, probDiag, scores, scaleRow]
      rw [esc, eqr0, edo0, eds0, eqt0, eqs0, el0, ed0, eqr1, edo1, eds1, eqt1, eqs1, el1, ed1, ek, ev, evs]
      rfl
    · rw [dvSum_start _ _ (⟨6, by decide⟩ : Fin 16) (⟨7, by decide⟩ : Fin 16) rfl rfl]
      simp only [dvOf, probDiag, scores, scaleRow]
      rw [esc, eqr0, edt0, ett0, el0, eqr1, edt1, ett1, el1, ek]
      rfl
    · refine DqAt.step (kt := 3) (i := (⟨7, by decide⟩ : Fin 16)) (L := [_]) (by decide) (by decide)
        (DqAt.step (kt := 3) (i := (⟨6, by decide⟩ : Fin 16)) (L := []) (by decide) (by decide) hq4 _ ?_ rfl _) _ ?_ rfl _
      · rw [prob_diag _ _ _ (by decide)]
        simp only [dqStep, dsOf, probDiag, scores, scaleRow]
        rw [esc, eqr0, edo0, eds0, ek, ev, evs, el0, ed0, ← rdQ arg20 _ (⟨6, by decide⟩ : Fin 16) rfl (by decide)]
        rfl
      · rw [prob_diag _ _ _ (by decide)]
        simp only [dqStep, dsOf, probDiag, scores, scaleRow]
        rw [wrQ_ne arg20 _ (⟨6, by decide⟩ : Fin 16) (⟨7, by decide⟩ : Fin 16) (by decide) rfl, show blkQ (arg20.view.read (Elt F) (arg20.view.writes (Elt F) a4 [])) (⟨7, by decide⟩ : Fin 16) = _ from (rdQ arg20 a4 (⟨7, by decide⟩ : Fin 16) rfl (by decide)).symm]
        rw [esc, eqr1, edo1, eds1, ek, ev, evs, el1, ed1]
        rfl
  iintro %u5 ⟨⟨H1, H2, H3, H4, H5, H6, H7, H8, H9, H10, H11, H12, H13, H14, H18, H19⟩, %b4, %c4, %a5, H16, H17, H20, %hh⟩
  obtain ⟨hb4, hc4, hq5⟩ := hh
  sl_exec
  iapply (useLoop6 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ X1 X2 X3 X4 X5 X6 X7 X8 X9 X10 X11 X12 X13 X14 e18 e19 ?hv6 h18 h19) $$ [H1 H2 H3 H4 H5 H6 H7 H8 H9 H10 H11 H12 H13 H14 H18 H19 H16 H17 H20]
  all_goals try exact junk _ _
  · rw [scaleRow, show (inOf arg1 arg2 arg3 arg4 arg5 arg6 arg7 arg8 arg9 arg10 arg11 arg12 arg13 arg14 X1 X2 X3 X4 X5 X6 X7 X8 X9 X10 X11 X12 X13 X14).sc = _ from (rdSc arg1 X1 (by decide)).symm]
    rfl
  · isplitl [H1 H2 H3 H4 H5 H6 H7 H8 H9 H10 H11 H12 H13 H14 H18 H19]
    · iframe
    iexists _, _, _
    isplitl [H16]
    · iexact H16
    isplitl [H17]
    · iexact H17
    isplitl [H20]
    · iexact H20
    ipureintro
    have eqr0 : blkD (inOf arg1 arg2 arg3 arg4 arg5 arg6 arg7 arg8 arg9 arg10 arg11 arg12 arg13 arg14 X1 X2 X3 X4 X5 X6 X7 X8 X9 X10 X11 X12 X13 X14).qr (⟨8, by decide⟩ : Fin 16) = _ := (rdD arg8 X8 (⟨8, by decide⟩ : Fin 16) rfl (by decide)).symm
    have edo0 : blkD (inOf arg1 arg2 arg3 arg4 arg5 arg6 arg7 arg8 arg9 arg10 arg11 arg12 arg13 arg14 X1 X2 X3 X4 X5 X6 X7 X8 X9 X10 X11 X12 X13 X14).dor (⟨8, by decide⟩ : Fin 16) = _ := (rdD arg2 X2 (⟨8, by decide⟩ : Fin 16) rfl (by decide)).symm
    have eds0 : blkC (inOf arg1 arg2 arg3 arg4 arg5 arg6 arg7 arg8 arg9 arg10 arg11 arg12 arg13 arg14 X1 X2 X3 X4 X5 X6 X7 X8 X9 X10 X11 X12 X13 X14).dos (⟨8, by decide⟩ : Fin 16) = _ := (rdC arg3 X3 (⟨8, by decide⟩ : Fin 16) rfl (by decide)).symm
    have eqt0 : blkT (inOf arg1 arg2 arg3 arg4 arg5 arg6 arg7 arg8 arg9 arg10 arg11 arg12 arg13 arg14 X1 X2 X3 X4 X5 X6 X7 X8 X9 X10 X11 X12 X13 X14).qt (⟨8, by decide⟩ : Fin 16) = _ := (rdT arg4 X4 (⟨8, by decide⟩ : Fin 16) rfl (by decide)).symm
    have eqs0 : blkR (inOf arg1 arg2 arg3 arg4 arg5 arg6 arg7 arg8 arg9 arg10 arg11 arg12 arg13 arg14 X1 X2 X3 X4 X5 X6 X7 X8 X9 X10 X11 X12 X13 X14).qs (⟨8, by decide⟩ : Fin 16) = _ := (rdR arg5 X5 (⟨8, by decide⟩ : Fin 16) rfl (by decide)).symm
    have edt0 : blkT (inOf arg1 arg2 arg3 arg4 arg5 arg6 arg7 arg8 arg9 arg10 arg11 arg12 arg13 arg14 X1 X2 X3 X4 X5 X6 X7 X8 X9 X10 X11 X12 X13 X14).dot (⟨8, by decide⟩ : Fin 16) = _ := (rdT arg6 X6 (⟨8, by decide⟩ : Fin 16) rfl (by decide)).symm
    have ett0 : blkR (inOf arg1 arg2 arg3 arg4 arg5 arg6 arg7 arg8 arg9 arg10 arg11 arg12 arg13 arg14 X1 X2 X3 X4 X5 X6 X7 X8 X9 X10 X11 X12 X13 X14).dost (⟨8, by decide⟩ : Fin 16) = _ := (rdR arg7 X7 (⟨8, by decide⟩ : Fin 16) rfl (by decide)).symm
    have el0 : lseB (inOf arg1 arg2 arg3 arg4 arg5 arg6 arg7 arg8 arg9 arg10 arg11 arg12 arg13 arg14 X1 X2 X3 X4 X5 X6 X7 X8 X9 X10 X11 X12 X13 X14) (⟨8, by decide⟩ : Fin 16) = _ := (h18 _).symm.trans (rdS arg18 e18 (⟨8, by decide⟩ : Fin 16) rfl (by decide)).symm
    have ed0 : deltaB (inOf arg1 arg2 arg3 arg4 arg5 arg6 arg7 arg8 arg9 arg10 arg11 arg12 arg13 arg14 X1 X2 X3 X4 X5 X6 X7 X8 X9 X10 X11 X12 X13 X14) (⟨8, by decide⟩ : Fin 16) = _ := (h19 _).symm.trans (rdS arg19 e19 (⟨8, by decide⟩ : Fin 16) rfl (by decide)).symm
    have eqr1 : blkD (inOf arg1 arg2 arg3 arg4 arg5 arg6 arg7 arg8 arg9 arg10 arg11 arg12 arg13 arg14 X1 X2 X3 X4 X5 X6 X7 X8 X9 X10 X11 X12 X13 X14).qr (⟨9, by decide⟩ : Fin 16) = _ := (rdD arg8 X8 (⟨9, by decide⟩ : Fin 16) rfl (by decide)).symm
    have edo1 : blkD (inOf arg1 arg2 arg3 arg4 arg5 arg6 arg7 arg8 arg9 arg10 arg11 arg12 arg13 arg14 X1 X2 X3 X4 X5 X6 X7 X8 X9 X10 X11 X12 X13 X14).dor (⟨9, by decide⟩ : Fin 16) = _ := (rdD arg2 X2 (⟨9, by decide⟩ : Fin 16) rfl (by decide)).symm
    have eds1 : blkC (inOf arg1 arg2 arg3 arg4 arg5 arg6 arg7 arg8 arg9 arg10 arg11 arg12 arg13 arg14 X1 X2 X3 X4 X5 X6 X7 X8 X9 X10 X11 X12 X13 X14).dos (⟨9, by decide⟩ : Fin 16) = _ := (rdC arg3 X3 (⟨9, by decide⟩ : Fin 16) rfl (by decide)).symm
    have eqt1 : blkT (inOf arg1 arg2 arg3 arg4 arg5 arg6 arg7 arg8 arg9 arg10 arg11 arg12 arg13 arg14 X1 X2 X3 X4 X5 X6 X7 X8 X9 X10 X11 X12 X13 X14).qt (⟨9, by decide⟩ : Fin 16) = _ := (rdT arg4 X4 (⟨9, by decide⟩ : Fin 16) rfl (by decide)).symm
    have eqs1 : blkR (inOf arg1 arg2 arg3 arg4 arg5 arg6 arg7 arg8 arg9 arg10 arg11 arg12 arg13 arg14 X1 X2 X3 X4 X5 X6 X7 X8 X9 X10 X11 X12 X13 X14).qs (⟨9, by decide⟩ : Fin 16) = _ := (rdR arg5 X5 (⟨9, by decide⟩ : Fin 16) rfl (by decide)).symm
    have edt1 : blkT (inOf arg1 arg2 arg3 arg4 arg5 arg6 arg7 arg8 arg9 arg10 arg11 arg12 arg13 arg14 X1 X2 X3 X4 X5 X6 X7 X8 X9 X10 X11 X12 X13 X14).dot (⟨9, by decide⟩ : Fin 16) = _ := (rdT arg6 X6 (⟨9, by decide⟩ : Fin 16) rfl (by decide)).symm
    have ett1 : blkR (inOf arg1 arg2 arg3 arg4 arg5 arg6 arg7 arg8 arg9 arg10 arg11 arg12 arg13 arg14 X1 X2 X3 X4 X5 X6 X7 X8 X9 X10 X11 X12 X13 X14).dost (⟨9, by decide⟩ : Fin 16) = _ := (rdR arg7 X7 (⟨9, by decide⟩ : Fin 16) rfl (by decide)).symm
    have el1 : lseB (inOf arg1 arg2 arg3 arg4 arg5 arg6 arg7 arg8 arg9 arg10 arg11 arg12 arg13 arg14 X1 X2 X3 X4 X5 X6 X7 X8 X9 X10 X11 X12 X13 X14) (⟨9, by decide⟩ : Fin 16) = _ := (h18 _).symm.trans (rdS arg18 e18 (⟨9, by decide⟩ : Fin 16) rfl (by decide)).symm
    have ed1 : deltaB (inOf arg1 arg2 arg3 arg4 arg5 arg6 arg7 arg8 arg9 arg10 arg11 arg12 arg13 arg14 X1 X2 X3 X4 X5 X6 X7 X8 X9 X10 X11 X12 X13 X14) (⟨9, by decide⟩ : Fin 16) = _ := (h19 _).symm.trans (rdS arg19 e19 (⟨9, by decide⟩ : Fin 16) rfl (by decide)).symm
    have ek : blkK (inOf arg1 arg2 arg3 arg4 arg5 arg6 arg7 arg8 arg9 arg10 arg11 arg12 arg13 arg14 X1 X2 X3 X4 X5 X6 X7 X8 X9 X10 X11 X12 X13 X14).kt (⟨4, by decide⟩ : Fin 8) = _ := (rdK arg11 X11 (⟨4, by decide⟩ : Fin 8) rfl (by decide)).symm
    have ev : blkK (inOf arg1 arg2 arg3 arg4 arg5 arg6 arg7 arg8 arg9 arg10 arg11 arg12 arg13 arg14 X1 X2 X3 X4 X5 X6 X7 X8 X9 X10 X11 X12 X13 X14).vt (⟨4, by decide⟩ : Fin 8) = _ := (rdK arg12 X12 (⟨4, by decide⟩ : Fin 8) rfl (by decide)).symm
    have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
    have esc : (inOf arg1 arg2 arg3 arg4 arg5 arg6 arg7 arg8 arg9 arg10 arg11 arg12 arg13 arg14 X1 X2 X3 X4 X5 X6 X7 X8 X9 X10 X11 X12 X13 X14).sc = _ := (rdSc arg1 X1 (by decide)).symm
    refine ⟨KvAt.start (kt := (⟨4, by decide⟩ : Fin 8)) (L := []) hb4 _ ?_ rfl _, KvAt.start (kt := (⟨4, by decide⟩ : Fin 8)) (L := []) hc4 _ ?_ rfl _, ?_⟩
    · rw [dkSum_start _ _ (⟨8, by decide⟩ : Fin 16) (⟨9, by decide⟩ : Fin 16) rfl rfl]
      simp only [dkOf, probDiag, scores, scaleRow]
      rw [esc, eqr0, edo0, eds0, eqt0, eqs0, el0, ed0, eqr1, edo1, eds1, eqt1, eqs1, el1, ed1, ek, ev, evs]
      rfl
    · rw [dvSum_start _ _ (⟨8, by decide⟩ : Fin 16) (⟨9, by decide⟩ : Fin 16) rfl rfl]
      simp only [dvOf, probDiag, scores, scaleRow]
      rw [esc, eqr0, edt0, ett0, el0, eqr1, edt1, ett1, el1, ek]
      rfl
    · refine DqAt.step (kt := 4) (i := (⟨9, by decide⟩ : Fin 16)) (L := [_]) (by decide) (by decide)
        (DqAt.step (kt := 4) (i := (⟨8, by decide⟩ : Fin 16)) (L := []) (by decide) (by decide) hq5 _ ?_ rfl _) _ ?_ rfl _
      · rw [prob_diag _ _ _ (by decide)]
        simp only [dqStep, dsOf, probDiag, scores, scaleRow]
        rw [esc, eqr0, edo0, eds0, ek, ev, evs, el0, ed0, ← rdQ arg20 _ (⟨8, by decide⟩ : Fin 16) rfl (by decide)]
        rfl
      · rw [prob_diag _ _ _ (by decide)]
        simp only [dqStep, dsOf, probDiag, scores, scaleRow]
        rw [wrQ_ne arg20 _ (⟨8, by decide⟩ : Fin 16) (⟨9, by decide⟩ : Fin 16) (by decide) rfl, show blkQ (arg20.view.read (Elt F) (arg20.view.writes (Elt F) a5 [])) (⟨9, by decide⟩ : Fin 16) = _ from (rdQ arg20 a5 (⟨9, by decide⟩ : Fin 16) rfl (by decide)).symm]
        rw [esc, eqr1, edo1, eds1, ek, ev, evs, el1, ed1]
        rfl
  iintro %u6 ⟨⟨H1, H2, H3, H4, H5, H6, H7, H8, H9, H10, H11, H12, H13, H14, H18, H19⟩, %b5, %c5, %a6, H16, H17, H20, %hh⟩
  obtain ⟨hb5, hc5, hq6⟩ := hh
  sl_exec
  iapply (useLoop7 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ _ _ _ _ _ X1 X2 X3 X4 X5 X6 X7 X8 X9 X10 X11 X12 X13 X14 e18 e19 ?hv7 h18 h19) $$ [H1 H2 H3 H4 H5 H6 H7 H8 H9 H10 H11 H12 H13 H14 H18 H19 H16 H17 H20]
  all_goals try exact junk _ _
  · rw [scaleRow, show (inOf arg1 arg2 arg3 arg4 arg5 arg6 arg7 arg8 arg9 arg10 arg11 arg12 arg13 arg14 X1 X2 X3 X4 X5 X6 X7 X8 X9 X10 X11 X12 X13 X14).sc = _ from (rdSc arg1 X1 (by decide)).symm]
    rfl
  · isplitl [H1 H2 H3 H4 H5 H6 H7 H8 H9 H10 H11 H12 H13 H14 H18 H19]
    · iframe
    iexists _, _, _
    isplitl [H16]
    · iexact H16
    isplitl [H17]
    · iexact H17
    isplitl [H20]
    · iexact H20
    ipureintro
    have eqr0 : blkD (inOf arg1 arg2 arg3 arg4 arg5 arg6 arg7 arg8 arg9 arg10 arg11 arg12 arg13 arg14 X1 X2 X3 X4 X5 X6 X7 X8 X9 X10 X11 X12 X13 X14).qr (⟨10, by decide⟩ : Fin 16) = _ := (rdD arg8 X8 (⟨10, by decide⟩ : Fin 16) rfl (by decide)).symm
    have edo0 : blkD (inOf arg1 arg2 arg3 arg4 arg5 arg6 arg7 arg8 arg9 arg10 arg11 arg12 arg13 arg14 X1 X2 X3 X4 X5 X6 X7 X8 X9 X10 X11 X12 X13 X14).dor (⟨10, by decide⟩ : Fin 16) = _ := (rdD arg2 X2 (⟨10, by decide⟩ : Fin 16) rfl (by decide)).symm
    have eds0 : blkC (inOf arg1 arg2 arg3 arg4 arg5 arg6 arg7 arg8 arg9 arg10 arg11 arg12 arg13 arg14 X1 X2 X3 X4 X5 X6 X7 X8 X9 X10 X11 X12 X13 X14).dos (⟨10, by decide⟩ : Fin 16) = _ := (rdC arg3 X3 (⟨10, by decide⟩ : Fin 16) rfl (by decide)).symm
    have eqt0 : blkT (inOf arg1 arg2 arg3 arg4 arg5 arg6 arg7 arg8 arg9 arg10 arg11 arg12 arg13 arg14 X1 X2 X3 X4 X5 X6 X7 X8 X9 X10 X11 X12 X13 X14).qt (⟨10, by decide⟩ : Fin 16) = _ := (rdT arg4 X4 (⟨10, by decide⟩ : Fin 16) rfl (by decide)).symm
    have eqs0 : blkR (inOf arg1 arg2 arg3 arg4 arg5 arg6 arg7 arg8 arg9 arg10 arg11 arg12 arg13 arg14 X1 X2 X3 X4 X5 X6 X7 X8 X9 X10 X11 X12 X13 X14).qs (⟨10, by decide⟩ : Fin 16) = _ := (rdR arg5 X5 (⟨10, by decide⟩ : Fin 16) rfl (by decide)).symm
    have edt0 : blkT (inOf arg1 arg2 arg3 arg4 arg5 arg6 arg7 arg8 arg9 arg10 arg11 arg12 arg13 arg14 X1 X2 X3 X4 X5 X6 X7 X8 X9 X10 X11 X12 X13 X14).dot (⟨10, by decide⟩ : Fin 16) = _ := (rdT arg6 X6 (⟨10, by decide⟩ : Fin 16) rfl (by decide)).symm
    have ett0 : blkR (inOf arg1 arg2 arg3 arg4 arg5 arg6 arg7 arg8 arg9 arg10 arg11 arg12 arg13 arg14 X1 X2 X3 X4 X5 X6 X7 X8 X9 X10 X11 X12 X13 X14).dost (⟨10, by decide⟩ : Fin 16) = _ := (rdR arg7 X7 (⟨10, by decide⟩ : Fin 16) rfl (by decide)).symm
    have el0 : lseB (inOf arg1 arg2 arg3 arg4 arg5 arg6 arg7 arg8 arg9 arg10 arg11 arg12 arg13 arg14 X1 X2 X3 X4 X5 X6 X7 X8 X9 X10 X11 X12 X13 X14) (⟨10, by decide⟩ : Fin 16) = _ := (h18 _).symm.trans (rdS arg18 e18 (⟨10, by decide⟩ : Fin 16) rfl (by decide)).symm
    have ed0 : deltaB (inOf arg1 arg2 arg3 arg4 arg5 arg6 arg7 arg8 arg9 arg10 arg11 arg12 arg13 arg14 X1 X2 X3 X4 X5 X6 X7 X8 X9 X10 X11 X12 X13 X14) (⟨10, by decide⟩ : Fin 16) = _ := (h19 _).symm.trans (rdS arg19 e19 (⟨10, by decide⟩ : Fin 16) rfl (by decide)).symm
    have eqr1 : blkD (inOf arg1 arg2 arg3 arg4 arg5 arg6 arg7 arg8 arg9 arg10 arg11 arg12 arg13 arg14 X1 X2 X3 X4 X5 X6 X7 X8 X9 X10 X11 X12 X13 X14).qr (⟨11, by decide⟩ : Fin 16) = _ := (rdD arg8 X8 (⟨11, by decide⟩ : Fin 16) rfl (by decide)).symm
    have edo1 : blkD (inOf arg1 arg2 arg3 arg4 arg5 arg6 arg7 arg8 arg9 arg10 arg11 arg12 arg13 arg14 X1 X2 X3 X4 X5 X6 X7 X8 X9 X10 X11 X12 X13 X14).dor (⟨11, by decide⟩ : Fin 16) = _ := (rdD arg2 X2 (⟨11, by decide⟩ : Fin 16) rfl (by decide)).symm
    have eds1 : blkC (inOf arg1 arg2 arg3 arg4 arg5 arg6 arg7 arg8 arg9 arg10 arg11 arg12 arg13 arg14 X1 X2 X3 X4 X5 X6 X7 X8 X9 X10 X11 X12 X13 X14).dos (⟨11, by decide⟩ : Fin 16) = _ := (rdC arg3 X3 (⟨11, by decide⟩ : Fin 16) rfl (by decide)).symm
    have eqt1 : blkT (inOf arg1 arg2 arg3 arg4 arg5 arg6 arg7 arg8 arg9 arg10 arg11 arg12 arg13 arg14 X1 X2 X3 X4 X5 X6 X7 X8 X9 X10 X11 X12 X13 X14).qt (⟨11, by decide⟩ : Fin 16) = _ := (rdT arg4 X4 (⟨11, by decide⟩ : Fin 16) rfl (by decide)).symm
    have eqs1 : blkR (inOf arg1 arg2 arg3 arg4 arg5 arg6 arg7 arg8 arg9 arg10 arg11 arg12 arg13 arg14 X1 X2 X3 X4 X5 X6 X7 X8 X9 X10 X11 X12 X13 X14).qs (⟨11, by decide⟩ : Fin 16) = _ := (rdR arg5 X5 (⟨11, by decide⟩ : Fin 16) rfl (by decide)).symm
    have edt1 : blkT (inOf arg1 arg2 arg3 arg4 arg5 arg6 arg7 arg8 arg9 arg10 arg11 arg12 arg13 arg14 X1 X2 X3 X4 X5 X6 X7 X8 X9 X10 X11 X12 X13 X14).dot (⟨11, by decide⟩ : Fin 16) = _ := (rdT arg6 X6 (⟨11, by decide⟩ : Fin 16) rfl (by decide)).symm
    have ett1 : blkR (inOf arg1 arg2 arg3 arg4 arg5 arg6 arg7 arg8 arg9 arg10 arg11 arg12 arg13 arg14 X1 X2 X3 X4 X5 X6 X7 X8 X9 X10 X11 X12 X13 X14).dost (⟨11, by decide⟩ : Fin 16) = _ := (rdR arg7 X7 (⟨11, by decide⟩ : Fin 16) rfl (by decide)).symm
    have el1 : lseB (inOf arg1 arg2 arg3 arg4 arg5 arg6 arg7 arg8 arg9 arg10 arg11 arg12 arg13 arg14 X1 X2 X3 X4 X5 X6 X7 X8 X9 X10 X11 X12 X13 X14) (⟨11, by decide⟩ : Fin 16) = _ := (h18 _).symm.trans (rdS arg18 e18 (⟨11, by decide⟩ : Fin 16) rfl (by decide)).symm
    have ed1 : deltaB (inOf arg1 arg2 arg3 arg4 arg5 arg6 arg7 arg8 arg9 arg10 arg11 arg12 arg13 arg14 X1 X2 X3 X4 X5 X6 X7 X8 X9 X10 X11 X12 X13 X14) (⟨11, by decide⟩ : Fin 16) = _ := (h19 _).symm.trans (rdS arg19 e19 (⟨11, by decide⟩ : Fin 16) rfl (by decide)).symm
    have ek : blkK (inOf arg1 arg2 arg3 arg4 arg5 arg6 arg7 arg8 arg9 arg10 arg11 arg12 arg13 arg14 X1 X2 X3 X4 X5 X6 X7 X8 X9 X10 X11 X12 X13 X14).kt (⟨5, by decide⟩ : Fin 8) = _ := (rdK arg11 X11 (⟨5, by decide⟩ : Fin 8) rfl (by decide)).symm
    have ev : blkK (inOf arg1 arg2 arg3 arg4 arg5 arg6 arg7 arg8 arg9 arg10 arg11 arg12 arg13 arg14 X1 X2 X3 X4 X5 X6 X7 X8 X9 X10 X11 X12 X13 X14).vt (⟨5, by decide⟩ : Fin 8) = _ := (rdK arg12 X12 (⟨5, by decide⟩ : Fin 8) rfl (by decide)).symm
    have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
    have esc : (inOf arg1 arg2 arg3 arg4 arg5 arg6 arg7 arg8 arg9 arg10 arg11 arg12 arg13 arg14 X1 X2 X3 X4 X5 X6 X7 X8 X9 X10 X11 X12 X13 X14).sc = _ := (rdSc arg1 X1 (by decide)).symm
    refine ⟨KvAt.start (kt := (⟨5, by decide⟩ : Fin 8)) (L := []) hb5 _ ?_ rfl _, KvAt.start (kt := (⟨5, by decide⟩ : Fin 8)) (L := []) hc5 _ ?_ rfl _, ?_⟩
    · rw [dkSum_start _ _ (⟨10, by decide⟩ : Fin 16) (⟨11, by decide⟩ : Fin 16) rfl rfl]
      simp only [dkOf, probDiag, scores, scaleRow]
      rw [esc, eqr0, edo0, eds0, eqt0, eqs0, el0, ed0, eqr1, edo1, eds1, eqt1, eqs1, el1, ed1, ek, ev, evs]
      rfl
    · rw [dvSum_start _ _ (⟨10, by decide⟩ : Fin 16) (⟨11, by decide⟩ : Fin 16) rfl rfl]
      simp only [dvOf, probDiag, scores, scaleRow]
      rw [esc, eqr0, edt0, ett0, el0, eqr1, edt1, ett1, el1, ek]
      rfl
    · refine DqAt.step (kt := 5) (i := (⟨11, by decide⟩ : Fin 16)) (L := [_]) (by decide) (by decide)
        (DqAt.step (kt := 5) (i := (⟨10, by decide⟩ : Fin 16)) (L := []) (by decide) (by decide) hq6 _ ?_ rfl _) _ ?_ rfl _
      · rw [prob_diag _ _ _ (by decide)]
        simp only [dqStep, dsOf, probDiag, scores, scaleRow]
        rw [esc, eqr0, edo0, eds0, ek, ev, evs, el0, ed0, ← rdQ arg20 _ (⟨10, by decide⟩ : Fin 16) rfl (by decide)]
        rfl
      · rw [prob_diag _ _ _ (by decide)]
        simp only [dqStep, dsOf, probDiag, scores, scaleRow]
        rw [wrQ_ne arg20 _ (⟨10, by decide⟩ : Fin 16) (⟨11, by decide⟩ : Fin 16) (by decide) rfl, show blkQ (arg20.view.read (Elt F) (arg20.view.writes (Elt F) a6 [])) (⟨11, by decide⟩ : Fin 16) = _ from (rdQ arg20 a6 (⟨11, by decide⟩ : Fin 16) rfl (by decide)).symm]
        rw [esc, eqr1, edo1, eds1, ek, ev, evs, el1, ed1]
        rfl
  iintro %u7 ⟨⟨H1, H2, H3, H4, H5, H6, H7, H8, H9, H10, H11, H12, H13, H14, H18, H19⟩, %b6, %c6, %a7, H16, H17, H20, %hh⟩
  obtain ⟨hb6, hc6, hq7⟩ := hh
  sl_exec
  iapply (useLoop8 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ _ _ _ _ _ X1 X2 X3 X4 X5 X6 X7 X8 X9 X10 X11 X12 X13 X14 e18 e19 ?hv8 h18 h19) $$ [H1 H2 H3 H4 H5 H6 H7 H8 H9 H10 H11 H12 H13 H14 H18 H19 H16 H17 H20]
  all_goals try exact junk _ _
  · rw [scaleRow, show (inOf arg1 arg2 arg3 arg4 arg5 arg6 arg7 arg8 arg9 arg10 arg11 arg12 arg13 arg14 X1 X2 X3 X4 X5 X6 X7 X8 X9 X10 X11 X12 X13 X14).sc = _ from (rdSc arg1 X1 (by decide)).symm]
    rfl
  · isplitl [H1 H2 H3 H4 H5 H6 H7 H8 H9 H10 H11 H12 H13 H14 H18 H19]
    · iframe
    iexists _, _, _
    isplitl [H16]
    · iexact H16
    isplitl [H17]
    · iexact H17
    isplitl [H20]
    · iexact H20
    ipureintro
    have eqr0 : blkD (inOf arg1 arg2 arg3 arg4 arg5 arg6 arg7 arg8 arg9 arg10 arg11 arg12 arg13 arg14 X1 X2 X3 X4 X5 X6 X7 X8 X9 X10 X11 X12 X13 X14).qr (⟨12, by decide⟩ : Fin 16) = _ := (rdD arg8 X8 (⟨12, by decide⟩ : Fin 16) rfl (by decide)).symm
    have edo0 : blkD (inOf arg1 arg2 arg3 arg4 arg5 arg6 arg7 arg8 arg9 arg10 arg11 arg12 arg13 arg14 X1 X2 X3 X4 X5 X6 X7 X8 X9 X10 X11 X12 X13 X14).dor (⟨12, by decide⟩ : Fin 16) = _ := (rdD arg2 X2 (⟨12, by decide⟩ : Fin 16) rfl (by decide)).symm
    have eds0 : blkC (inOf arg1 arg2 arg3 arg4 arg5 arg6 arg7 arg8 arg9 arg10 arg11 arg12 arg13 arg14 X1 X2 X3 X4 X5 X6 X7 X8 X9 X10 X11 X12 X13 X14).dos (⟨12, by decide⟩ : Fin 16) = _ := (rdC arg3 X3 (⟨12, by decide⟩ : Fin 16) rfl (by decide)).symm
    have eqt0 : blkT (inOf arg1 arg2 arg3 arg4 arg5 arg6 arg7 arg8 arg9 arg10 arg11 arg12 arg13 arg14 X1 X2 X3 X4 X5 X6 X7 X8 X9 X10 X11 X12 X13 X14).qt (⟨12, by decide⟩ : Fin 16) = _ := (rdT arg4 X4 (⟨12, by decide⟩ : Fin 16) rfl (by decide)).symm
    have eqs0 : blkR (inOf arg1 arg2 arg3 arg4 arg5 arg6 arg7 arg8 arg9 arg10 arg11 arg12 arg13 arg14 X1 X2 X3 X4 X5 X6 X7 X8 X9 X10 X11 X12 X13 X14).qs (⟨12, by decide⟩ : Fin 16) = _ := (rdR arg5 X5 (⟨12, by decide⟩ : Fin 16) rfl (by decide)).symm
    have edt0 : blkT (inOf arg1 arg2 arg3 arg4 arg5 arg6 arg7 arg8 arg9 arg10 arg11 arg12 arg13 arg14 X1 X2 X3 X4 X5 X6 X7 X8 X9 X10 X11 X12 X13 X14).dot (⟨12, by decide⟩ : Fin 16) = _ := (rdT arg6 X6 (⟨12, by decide⟩ : Fin 16) rfl (by decide)).symm
    have ett0 : blkR (inOf arg1 arg2 arg3 arg4 arg5 arg6 arg7 arg8 arg9 arg10 arg11 arg12 arg13 arg14 X1 X2 X3 X4 X5 X6 X7 X8 X9 X10 X11 X12 X13 X14).dost (⟨12, by decide⟩ : Fin 16) = _ := (rdR arg7 X7 (⟨12, by decide⟩ : Fin 16) rfl (by decide)).symm
    have el0 : lseB (inOf arg1 arg2 arg3 arg4 arg5 arg6 arg7 arg8 arg9 arg10 arg11 arg12 arg13 arg14 X1 X2 X3 X4 X5 X6 X7 X8 X9 X10 X11 X12 X13 X14) (⟨12, by decide⟩ : Fin 16) = _ := (h18 _).symm.trans (rdS arg18 e18 (⟨12, by decide⟩ : Fin 16) rfl (by decide)).symm
    have ed0 : deltaB (inOf arg1 arg2 arg3 arg4 arg5 arg6 arg7 arg8 arg9 arg10 arg11 arg12 arg13 arg14 X1 X2 X3 X4 X5 X6 X7 X8 X9 X10 X11 X12 X13 X14) (⟨12, by decide⟩ : Fin 16) = _ := (h19 _).symm.trans (rdS arg19 e19 (⟨12, by decide⟩ : Fin 16) rfl (by decide)).symm
    have eqr1 : blkD (inOf arg1 arg2 arg3 arg4 arg5 arg6 arg7 arg8 arg9 arg10 arg11 arg12 arg13 arg14 X1 X2 X3 X4 X5 X6 X7 X8 X9 X10 X11 X12 X13 X14).qr (⟨13, by decide⟩ : Fin 16) = _ := (rdD arg8 X8 (⟨13, by decide⟩ : Fin 16) rfl (by decide)).symm
    have edo1 : blkD (inOf arg1 arg2 arg3 arg4 arg5 arg6 arg7 arg8 arg9 arg10 arg11 arg12 arg13 arg14 X1 X2 X3 X4 X5 X6 X7 X8 X9 X10 X11 X12 X13 X14).dor (⟨13, by decide⟩ : Fin 16) = _ := (rdD arg2 X2 (⟨13, by decide⟩ : Fin 16) rfl (by decide)).symm
    have eds1 : blkC (inOf arg1 arg2 arg3 arg4 arg5 arg6 arg7 arg8 arg9 arg10 arg11 arg12 arg13 arg14 X1 X2 X3 X4 X5 X6 X7 X8 X9 X10 X11 X12 X13 X14).dos (⟨13, by decide⟩ : Fin 16) = _ := (rdC arg3 X3 (⟨13, by decide⟩ : Fin 16) rfl (by decide)).symm
    have eqt1 : blkT (inOf arg1 arg2 arg3 arg4 arg5 arg6 arg7 arg8 arg9 arg10 arg11 arg12 arg13 arg14 X1 X2 X3 X4 X5 X6 X7 X8 X9 X10 X11 X12 X13 X14).qt (⟨13, by decide⟩ : Fin 16) = _ := (rdT arg4 X4 (⟨13, by decide⟩ : Fin 16) rfl (by decide)).symm
    have eqs1 : blkR (inOf arg1 arg2 arg3 arg4 arg5 arg6 arg7 arg8 arg9 arg10 arg11 arg12 arg13 arg14 X1 X2 X3 X4 X5 X6 X7 X8 X9 X10 X11 X12 X13 X14).qs (⟨13, by decide⟩ : Fin 16) = _ := (rdR arg5 X5 (⟨13, by decide⟩ : Fin 16) rfl (by decide)).symm
    have edt1 : blkT (inOf arg1 arg2 arg3 arg4 arg5 arg6 arg7 arg8 arg9 arg10 arg11 arg12 arg13 arg14 X1 X2 X3 X4 X5 X6 X7 X8 X9 X10 X11 X12 X13 X14).dot (⟨13, by decide⟩ : Fin 16) = _ := (rdT arg6 X6 (⟨13, by decide⟩ : Fin 16) rfl (by decide)).symm
    have ett1 : blkR (inOf arg1 arg2 arg3 arg4 arg5 arg6 arg7 arg8 arg9 arg10 arg11 arg12 arg13 arg14 X1 X2 X3 X4 X5 X6 X7 X8 X9 X10 X11 X12 X13 X14).dost (⟨13, by decide⟩ : Fin 16) = _ := (rdR arg7 X7 (⟨13, by decide⟩ : Fin 16) rfl (by decide)).symm
    have el1 : lseB (inOf arg1 arg2 arg3 arg4 arg5 arg6 arg7 arg8 arg9 arg10 arg11 arg12 arg13 arg14 X1 X2 X3 X4 X5 X6 X7 X8 X9 X10 X11 X12 X13 X14) (⟨13, by decide⟩ : Fin 16) = _ := (h18 _).symm.trans (rdS arg18 e18 (⟨13, by decide⟩ : Fin 16) rfl (by decide)).symm
    have ed1 : deltaB (inOf arg1 arg2 arg3 arg4 arg5 arg6 arg7 arg8 arg9 arg10 arg11 arg12 arg13 arg14 X1 X2 X3 X4 X5 X6 X7 X8 X9 X10 X11 X12 X13 X14) (⟨13, by decide⟩ : Fin 16) = _ := (h19 _).symm.trans (rdS arg19 e19 (⟨13, by decide⟩ : Fin 16) rfl (by decide)).symm
    have ek : blkK (inOf arg1 arg2 arg3 arg4 arg5 arg6 arg7 arg8 arg9 arg10 arg11 arg12 arg13 arg14 X1 X2 X3 X4 X5 X6 X7 X8 X9 X10 X11 X12 X13 X14).kt (⟨6, by decide⟩ : Fin 8) = _ := (rdK arg11 X11 (⟨6, by decide⟩ : Fin 8) rfl (by decide)).symm
    have ev : blkK (inOf arg1 arg2 arg3 arg4 arg5 arg6 arg7 arg8 arg9 arg10 arg11 arg12 arg13 arg14 X1 X2 X3 X4 X5 X6 X7 X8 X9 X10 X11 X12 X13 X14).vt (⟨6, by decide⟩ : Fin 8) = _ := (rdK arg12 X12 (⟨6, by decide⟩ : Fin 8) rfl (by decide)).symm
    have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
    have esc : (inOf arg1 arg2 arg3 arg4 arg5 arg6 arg7 arg8 arg9 arg10 arg11 arg12 arg13 arg14 X1 X2 X3 X4 X5 X6 X7 X8 X9 X10 X11 X12 X13 X14).sc = _ := (rdSc arg1 X1 (by decide)).symm
    refine ⟨KvAt.start (kt := (⟨6, by decide⟩ : Fin 8)) (L := []) hb6 _ ?_ rfl _, KvAt.start (kt := (⟨6, by decide⟩ : Fin 8)) (L := []) hc6 _ ?_ rfl _, ?_⟩
    · rw [dkSum_start _ _ (⟨12, by decide⟩ : Fin 16) (⟨13, by decide⟩ : Fin 16) rfl rfl]
      simp only [dkOf, probDiag, scores, scaleRow]
      rw [esc, eqr0, edo0, eds0, eqt0, eqs0, el0, ed0, eqr1, edo1, eds1, eqt1, eqs1, el1, ed1, ek, ev, evs]
      rfl
    · rw [dvSum_start _ _ (⟨12, by decide⟩ : Fin 16) (⟨13, by decide⟩ : Fin 16) rfl rfl]
      simp only [dvOf, probDiag, scores, scaleRow]
      rw [esc, eqr0, edt0, ett0, el0, eqr1, edt1, ett1, el1, ek]
      rfl
    · refine DqAt.step (kt := 6) (i := (⟨13, by decide⟩ : Fin 16)) (L := [_]) (by decide) (by decide)
        (DqAt.step (kt := 6) (i := (⟨12, by decide⟩ : Fin 16)) (L := []) (by decide) (by decide) hq7 _ ?_ rfl _) _ ?_ rfl _
      · rw [prob_diag _ _ _ (by decide)]
        simp only [dqStep, dsOf, probDiag, scores, scaleRow]
        rw [esc, eqr0, edo0, eds0, ek, ev, evs, el0, ed0, ← rdQ arg20 _ (⟨12, by decide⟩ : Fin 16) rfl (by decide)]
        rfl
      · rw [prob_diag _ _ _ (by decide)]
        simp only [dqStep, dsOf, probDiag, scores, scaleRow]
        rw [wrQ_ne arg20 _ (⟨12, by decide⟩ : Fin 16) (⟨13, by decide⟩ : Fin 16) (by decide) rfl, show blkQ (arg20.view.read (Elt F) (arg20.view.writes (Elt F) a7 [])) (⟨13, by decide⟩ : Fin 16) = _ from (rdQ arg20 a7 (⟨13, by decide⟩ : Fin 16) rfl (by decide)).symm]
        rw [esc, eqr1, edo1, eds1, ek, ev, evs, el1, ed1]
        rfl
  iintro %u8 ⟨⟨H1, H2, H3, H4, H5, H6, H7, H8, H9, H10, H11, H12, H13, H14, H18, H19⟩, %b7, %c7, %a8, H16, H17, H20, %hh⟩
  obtain ⟨hb7, hc7, hq8⟩ := hh
  sl_exec
  iapply (useLoop9' c i _ harg1 _ harg2 _ harg3 _ harg4 _ harg5 _ harg6 _ harg7 _ harg8 _ harg9 _ harg10 _ harg11 _ harg12 _ harg13 _ harg14 _ harg15 _ harg16 _ harg17 _ harg18 _ harg19 _ harg20 X1 X2 X3 X4 X5 X6 X7 X8 X9 X10 X11 X12 X13 X14) $$ [H1 H2 H3 H4 H5 H6 H7 H8 H9 H10 H11 H12 H13 H14 H20 H15]
  · isplitl [H1 H2 H3 H4 H5 H6 H7 H8 H9 H10 H11 H12 H13 H14]
    · iframe
    isplitl [H20]
    · iexists _
      isplitl [H20]
      · iexact H20
      ipureintro
      have eqr0 : blkD (inOf arg1 arg2 arg3 arg4 arg5 arg6 arg7 arg8 arg9 arg10 arg11 arg12 arg13 arg14 X1 X2 X3 X4 X5 X6 X7 X8 X9 X10 X11 X12 X13 X14).qr (⟨14, by decide⟩ : Fin 16) = _ := (rdD arg8 X8 (⟨14, by decide⟩ : Fin 16) rfl (by decide)).symm
      have edo0 : blkD (inOf arg1 arg2 arg3 arg4 arg5 arg6 arg7 arg8 arg9 arg10 arg11 arg12 arg13 arg14 X1 X2 X3 X4 X5 X6 X7 X8 X9 X10 X11 X12 X13 X14).dor (⟨14, by decide⟩ : Fin 16) = _ := (rdD arg2 X2 (⟨14, by decide⟩ : Fin 16) rfl (by decide)).symm
      have eds0 : blkC (inOf arg1 arg2 arg3 arg4 arg5 arg6 arg7 arg8 arg9 arg10 arg11 arg12 arg13 arg14 X1 X2 X3 X4 X5 X6 X7 X8 X9 X10 X11 X12 X13 X14).dos (⟨14, by decide⟩ : Fin 16) = _ := (rdC arg3 X3 (⟨14, by decide⟩ : Fin 16) rfl (by decide)).symm
      have eqt0 : blkT (inOf arg1 arg2 arg3 arg4 arg5 arg6 arg7 arg8 arg9 arg10 arg11 arg12 arg13 arg14 X1 X2 X3 X4 X5 X6 X7 X8 X9 X10 X11 X12 X13 X14).qt (⟨14, by decide⟩ : Fin 16) = _ := (rdT arg4 X4 (⟨14, by decide⟩ : Fin 16) rfl (by decide)).symm
      have eqs0 : blkR (inOf arg1 arg2 arg3 arg4 arg5 arg6 arg7 arg8 arg9 arg10 arg11 arg12 arg13 arg14 X1 X2 X3 X4 X5 X6 X7 X8 X9 X10 X11 X12 X13 X14).qs (⟨14, by decide⟩ : Fin 16) = _ := (rdR arg5 X5 (⟨14, by decide⟩ : Fin 16) rfl (by decide)).symm
      have edt0 : blkT (inOf arg1 arg2 arg3 arg4 arg5 arg6 arg7 arg8 arg9 arg10 arg11 arg12 arg13 arg14 X1 X2 X3 X4 X5 X6 X7 X8 X9 X10 X11 X12 X13 X14).dot (⟨14, by decide⟩ : Fin 16) = _ := (rdT arg6 X6 (⟨14, by decide⟩ : Fin 16) rfl (by decide)).symm
      have ett0 : blkR (inOf arg1 arg2 arg3 arg4 arg5 arg6 arg7 arg8 arg9 arg10 arg11 arg12 arg13 arg14 X1 X2 X3 X4 X5 X6 X7 X8 X9 X10 X11 X12 X13 X14).dost (⟨14, by decide⟩ : Fin 16) = _ := (rdR arg7 X7 (⟨14, by decide⟩ : Fin 16) rfl (by decide)).symm
      have el0 : lseB (inOf arg1 arg2 arg3 arg4 arg5 arg6 arg7 arg8 arg9 arg10 arg11 arg12 arg13 arg14 X1 X2 X3 X4 X5 X6 X7 X8 X9 X10 X11 X12 X13 X14) (⟨14, by decide⟩ : Fin 16) = _ := (h18 _).symm.trans (rdS arg18 e18 (⟨14, by decide⟩ : Fin 16) rfl (by decide)).symm
      have ed0 : deltaB (inOf arg1 arg2 arg3 arg4 arg5 arg6 arg7 arg8 arg9 arg10 arg11 arg12 arg13 arg14 X1 X2 X3 X4 X5 X6 X7 X8 X9 X10 X11 X12 X13 X14) (⟨14, by decide⟩ : Fin 16) = _ := (h19 _).symm.trans (rdS arg19 e19 (⟨14, by decide⟩ : Fin 16) rfl (by decide)).symm
      have eqr1 : blkD (inOf arg1 arg2 arg3 arg4 arg5 arg6 arg7 arg8 arg9 arg10 arg11 arg12 arg13 arg14 X1 X2 X3 X4 X5 X6 X7 X8 X9 X10 X11 X12 X13 X14).qr (⟨15, by decide⟩ : Fin 16) = _ := (rdD arg8 X8 (⟨15, by decide⟩ : Fin 16) rfl (by decide)).symm
      have edo1 : blkD (inOf arg1 arg2 arg3 arg4 arg5 arg6 arg7 arg8 arg9 arg10 arg11 arg12 arg13 arg14 X1 X2 X3 X4 X5 X6 X7 X8 X9 X10 X11 X12 X13 X14).dor (⟨15, by decide⟩ : Fin 16) = _ := (rdD arg2 X2 (⟨15, by decide⟩ : Fin 16) rfl (by decide)).symm
      have eds1 : blkC (inOf arg1 arg2 arg3 arg4 arg5 arg6 arg7 arg8 arg9 arg10 arg11 arg12 arg13 arg14 X1 X2 X3 X4 X5 X6 X7 X8 X9 X10 X11 X12 X13 X14).dos (⟨15, by decide⟩ : Fin 16) = _ := (rdC arg3 X3 (⟨15, by decide⟩ : Fin 16) rfl (by decide)).symm
      have eqt1 : blkT (inOf arg1 arg2 arg3 arg4 arg5 arg6 arg7 arg8 arg9 arg10 arg11 arg12 arg13 arg14 X1 X2 X3 X4 X5 X6 X7 X8 X9 X10 X11 X12 X13 X14).qt (⟨15, by decide⟩ : Fin 16) = _ := (rdT arg4 X4 (⟨15, by decide⟩ : Fin 16) rfl (by decide)).symm
      have eqs1 : blkR (inOf arg1 arg2 arg3 arg4 arg5 arg6 arg7 arg8 arg9 arg10 arg11 arg12 arg13 arg14 X1 X2 X3 X4 X5 X6 X7 X8 X9 X10 X11 X12 X13 X14).qs (⟨15, by decide⟩ : Fin 16) = _ := (rdR arg5 X5 (⟨15, by decide⟩ : Fin 16) rfl (by decide)).symm
      have edt1 : blkT (inOf arg1 arg2 arg3 arg4 arg5 arg6 arg7 arg8 arg9 arg10 arg11 arg12 arg13 arg14 X1 X2 X3 X4 X5 X6 X7 X8 X9 X10 X11 X12 X13 X14).dot (⟨15, by decide⟩ : Fin 16) = _ := (rdT arg6 X6 (⟨15, by decide⟩ : Fin 16) rfl (by decide)).symm
      have ett1 : blkR (inOf arg1 arg2 arg3 arg4 arg5 arg6 arg7 arg8 arg9 arg10 arg11 arg12 arg13 arg14 X1 X2 X3 X4 X5 X6 X7 X8 X9 X10 X11 X12 X13 X14).dost (⟨15, by decide⟩ : Fin 16) = _ := (rdR arg7 X7 (⟨15, by decide⟩ : Fin 16) rfl (by decide)).symm
      have el1 : lseB (inOf arg1 arg2 arg3 arg4 arg5 arg6 arg7 arg8 arg9 arg10 arg11 arg12 arg13 arg14 X1 X2 X3 X4 X5 X6 X7 X8 X9 X10 X11 X12 X13 X14) (⟨15, by decide⟩ : Fin 16) = _ := (h18 _).symm.trans (rdS arg18 e18 (⟨15, by decide⟩ : Fin 16) rfl (by decide)).symm
      have ed1 : deltaB (inOf arg1 arg2 arg3 arg4 arg5 arg6 arg7 arg8 arg9 arg10 arg11 arg12 arg13 arg14 X1 X2 X3 X4 X5 X6 X7 X8 X9 X10 X11 X12 X13 X14) (⟨15, by decide⟩ : Fin 16) = _ := (h19 _).symm.trans (rdS arg19 e19 (⟨15, by decide⟩ : Fin 16) rfl (by decide)).symm
      have ek : blkK (inOf arg1 arg2 arg3 arg4 arg5 arg6 arg7 arg8 arg9 arg10 arg11 arg12 arg13 arg14 X1 X2 X3 X4 X5 X6 X7 X8 X9 X10 X11 X12 X13 X14).kt (⟨7, by decide⟩ : Fin 8) = _ := (rdK arg11 X11 (⟨7, by decide⟩ : Fin 8) rfl (by decide)).symm
      have ev : blkK (inOf arg1 arg2 arg3 arg4 arg5 arg6 arg7 arg8 arg9 arg10 arg11 arg12 arg13 arg14 X1 X2 X3 X4 X5 X6 X7 X8 X9 X10 X11 X12 X13 X14).vt (⟨7, by decide⟩ : Fin 8) = _ := (rdK arg12 X12 (⟨7, by decide⟩ : Fin 8) rfl (by decide)).symm
      have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
      have esc : (inOf arg1 arg2 arg3 arg4 arg5 arg6 arg7 arg8 arg9 arg10 arg11 arg12 arg13 arg14 X1 X2 X3 X4 X5 X6 X7 X8 X9 X10 X11 X12 X13 X14).sc = _ := (rdSc arg1 X1 (by decide)).symm
      refine DqAt.step (kt := 7) (i := (⟨15, by decide⟩ : Fin 16)) (L := [_]) (by decide) (by decide)
        (DqAt.step (kt := 7) (i := (⟨14, by decide⟩ : Fin 16)) (L := []) (by decide) (by decide) hq8 _ ?_ rfl _) _ ?_ rfl _
      · rw [prob_diag _ _ _ (by decide)]
        simp only [dqStep, dsOf, probDiag, scores, scaleRow]
        rw [esc, eqr0, edo0, eds0, ek, ev, evs, el0, ed0, ← rdQ arg20 _ (⟨14, by decide⟩ : Fin 16) rfl (by decide)]
        rfl
      · rw [prob_diag _ _ _ (by decide)]
        simp only [dqStep, dsOf, probDiag, scores, scaleRow]
        rw [wrQ_ne arg20 _ (⟨14, by decide⟩ : Fin 16) (⟨15, by decide⟩ : Fin 16) (by decide) rfl, show blkQ (arg20.view.read (Elt F) (arg20.view.writes (Elt F) a8 [])) (⟨15, by decide⟩ : Fin 16) = _ from (rdQ arg20 a8 (⟨15, by decide⟩ : Fin 16) rfl (by decide)).symm]
        rw [esc, eqr1, edo1, eds1, ek, ev, evs, el1, ed1]
        rfl

    iexists f15
    iexact H15
  iintro %u9 ⟨⟨H1, H2, H3, H4, H5, H6, H7, H8, H9, H10, H11, H12, H13, H14⟩, ⟨%a9, H20⟩, %d15, H15, %hd⟩
  sl_exec
  sl_step
  isplitl [H1 H2 H3 H4 H5 H6 H7 H8 H9 H10 H11 H12 H13 H14]
  · iframe
  iexists d15, _, _, e18, e19, a9
  isplitl [H15]; · iexact H15
  isplitl [H16]; · iexact H16
  isplitl [H17]; · iexact H17
  isplitl [H18]; · iexact H18
  isplitl [H19]; · iexact H19
  isplitl [H20]; · iexact H20
  ipureintro
  have eqr0 : blkD (inOf arg1 arg2 arg3 arg4 arg5 arg6 arg7 arg8 arg9 arg10 arg11 arg12 arg13 arg14 X1 X2 X3 X4 X5 X6 X7 X8 X9 X10 X11 X12 X13 X14).qr (⟨14, by decide⟩ : Fin 16) = _ := (rdD arg8 X8 (⟨14, by decide⟩ : Fin 16) rfl (by decide)).symm
  have edo0 : blkD (inOf arg1 arg2 arg3 arg4 arg5 arg6 arg7 arg8 arg9 arg10 arg11 arg12 arg13 arg14 X1 X2 X3 X4 X5 X6 X7 X8 X9 X10 X11 X12 X13 X14).dor (⟨14, by decide⟩ : Fin 16) = _ := (rdD arg2 X2 (⟨14, by decide⟩ : Fin 16) rfl (by decide)).symm
  have eds0 : blkC (inOf arg1 arg2 arg3 arg4 arg5 arg6 arg7 arg8 arg9 arg10 arg11 arg12 arg13 arg14 X1 X2 X3 X4 X5 X6 X7 X8 X9 X10 X11 X12 X13 X14).dos (⟨14, by decide⟩ : Fin 16) = _ := (rdC arg3 X3 (⟨14, by decide⟩ : Fin 16) rfl (by decide)).symm
  have eqt0 : blkT (inOf arg1 arg2 arg3 arg4 arg5 arg6 arg7 arg8 arg9 arg10 arg11 arg12 arg13 arg14 X1 X2 X3 X4 X5 X6 X7 X8 X9 X10 X11 X12 X13 X14).qt (⟨14, by decide⟩ : Fin 16) = _ := (rdT arg4 X4 (⟨14, by decide⟩ : Fin 16) rfl (by decide)).symm
  have eqs0 : blkR (inOf arg1 arg2 arg3 arg4 arg5 arg6 arg7 arg8 arg9 arg10 arg11 arg12 arg13 arg14 X1 X2 X3 X4 X5 X6 X7 X8 X9 X10 X11 X12 X13 X14).qs (⟨14, by decide⟩ : Fin 16) = _ := (rdR arg5 X5 (⟨14, by decide⟩ : Fin 16) rfl (by decide)).symm
  have edt0 : blkT (inOf arg1 arg2 arg3 arg4 arg5 arg6 arg7 arg8 arg9 arg10 arg11 arg12 arg13 arg14 X1 X2 X3 X4 X5 X6 X7 X8 X9 X10 X11 X12 X13 X14).dot (⟨14, by decide⟩ : Fin 16) = _ := (rdT arg6 X6 (⟨14, by decide⟩ : Fin 16) rfl (by decide)).symm
  have ett0 : blkR (inOf arg1 arg2 arg3 arg4 arg5 arg6 arg7 arg8 arg9 arg10 arg11 arg12 arg13 arg14 X1 X2 X3 X4 X5 X6 X7 X8 X9 X10 X11 X12 X13 X14).dost (⟨14, by decide⟩ : Fin 16) = _ := (rdR arg7 X7 (⟨14, by decide⟩ : Fin 16) rfl (by decide)).symm
  have el0 : lseB (inOf arg1 arg2 arg3 arg4 arg5 arg6 arg7 arg8 arg9 arg10 arg11 arg12 arg13 arg14 X1 X2 X3 X4 X5 X6 X7 X8 X9 X10 X11 X12 X13 X14) (⟨14, by decide⟩ : Fin 16) = _ := (h18 _).symm.trans (rdS arg18 e18 (⟨14, by decide⟩ : Fin 16) rfl (by decide)).symm
  have ed0 : deltaB (inOf arg1 arg2 arg3 arg4 arg5 arg6 arg7 arg8 arg9 arg10 arg11 arg12 arg13 arg14 X1 X2 X3 X4 X5 X6 X7 X8 X9 X10 X11 X12 X13 X14) (⟨14, by decide⟩ : Fin 16) = _ := (h19 _).symm.trans (rdS arg19 e19 (⟨14, by decide⟩ : Fin 16) rfl (by decide)).symm
  have eqr1 : blkD (inOf arg1 arg2 arg3 arg4 arg5 arg6 arg7 arg8 arg9 arg10 arg11 arg12 arg13 arg14 X1 X2 X3 X4 X5 X6 X7 X8 X9 X10 X11 X12 X13 X14).qr (⟨15, by decide⟩ : Fin 16) = _ := (rdD arg8 X8 (⟨15, by decide⟩ : Fin 16) rfl (by decide)).symm
  have edo1 : blkD (inOf arg1 arg2 arg3 arg4 arg5 arg6 arg7 arg8 arg9 arg10 arg11 arg12 arg13 arg14 X1 X2 X3 X4 X5 X6 X7 X8 X9 X10 X11 X12 X13 X14).dor (⟨15, by decide⟩ : Fin 16) = _ := (rdD arg2 X2 (⟨15, by decide⟩ : Fin 16) rfl (by decide)).symm
  have eds1 : blkC (inOf arg1 arg2 arg3 arg4 arg5 arg6 arg7 arg8 arg9 arg10 arg11 arg12 arg13 arg14 X1 X2 X3 X4 X5 X6 X7 X8 X9 X10 X11 X12 X13 X14).dos (⟨15, by decide⟩ : Fin 16) = _ := (rdC arg3 X3 (⟨15, by decide⟩ : Fin 16) rfl (by decide)).symm
  have eqt1 : blkT (inOf arg1 arg2 arg3 arg4 arg5 arg6 arg7 arg8 arg9 arg10 arg11 arg12 arg13 arg14 X1 X2 X3 X4 X5 X6 X7 X8 X9 X10 X11 X12 X13 X14).qt (⟨15, by decide⟩ : Fin 16) = _ := (rdT arg4 X4 (⟨15, by decide⟩ : Fin 16) rfl (by decide)).symm
  have eqs1 : blkR (inOf arg1 arg2 arg3 arg4 arg5 arg6 arg7 arg8 arg9 arg10 arg11 arg12 arg13 arg14 X1 X2 X3 X4 X5 X6 X7 X8 X9 X10 X11 X12 X13 X14).qs (⟨15, by decide⟩ : Fin 16) = _ := (rdR arg5 X5 (⟨15, by decide⟩ : Fin 16) rfl (by decide)).symm
  have edt1 : blkT (inOf arg1 arg2 arg3 arg4 arg5 arg6 arg7 arg8 arg9 arg10 arg11 arg12 arg13 arg14 X1 X2 X3 X4 X5 X6 X7 X8 X9 X10 X11 X12 X13 X14).dot (⟨15, by decide⟩ : Fin 16) = _ := (rdT arg6 X6 (⟨15, by decide⟩ : Fin 16) rfl (by decide)).symm
  have ett1 : blkR (inOf arg1 arg2 arg3 arg4 arg5 arg6 arg7 arg8 arg9 arg10 arg11 arg12 arg13 arg14 X1 X2 X3 X4 X5 X6 X7 X8 X9 X10 X11 X12 X13 X14).dost (⟨15, by decide⟩ : Fin 16) = _ := (rdR arg7 X7 (⟨15, by decide⟩ : Fin 16) rfl (by decide)).symm
  have el1 : lseB (inOf arg1 arg2 arg3 arg4 arg5 arg6 arg7 arg8 arg9 arg10 arg11 arg12 arg13 arg14 X1 X2 X3 X4 X5 X6 X7 X8 X9 X10 X11 X12 X13 X14) (⟨15, by decide⟩ : Fin 16) = _ := (h18 _).symm.trans (rdS arg18 e18 (⟨15, by decide⟩ : Fin 16) rfl (by decide)).symm
  have ed1 : deltaB (inOf arg1 arg2 arg3 arg4 arg5 arg6 arg7 arg8 arg9 arg10 arg11 arg12 arg13 arg14 X1 X2 X3 X4 X5 X6 X7 X8 X9 X10 X11 X12 X13 X14) (⟨15, by decide⟩ : Fin 16) = _ := (h19 _).symm.trans (rdS arg19 e19 (⟨15, by decide⟩ : Fin 16) rfl (by decide)).symm
  have ek : blkK (inOf arg1 arg2 arg3 arg4 arg5 arg6 arg7 arg8 arg9 arg10 arg11 arg12 arg13 arg14 X1 X2 X3 X4 X5 X6 X7 X8 X9 X10 X11 X12 X13 X14).kt (⟨7, by decide⟩ : Fin 8) = _ := (rdK arg11 X11 (⟨7, by decide⟩ : Fin 8) rfl (by decide)).symm
  have ev : blkK (inOf arg1 arg2 arg3 arg4 arg5 arg6 arg7 arg8 arg9 arg10 arg11 arg12 arg13 arg14 X1 X2 X3 X4 X5 X6 X7 X8 X9 X10 X11 X12 X13 X14).vt (⟨7, by decide⟩ : Fin 8) = _ := (rdK arg12 X12 (⟨7, by decide⟩ : Fin 8) rfl (by decide)).symm
  have evs : (inOf arg1 arg2 arg3 arg4 arg5 arg6 arg7 arg8 arg9 arg10 arg11 arg12 arg13 arg14 X1 X2 X3 X4 X5 X6 X7 X8 X9 X10 X11 X12 X13 X14).vs = _ := (rdV arg13 X13 (by decide)).symm
  have esc : (inOf arg1 arg2 arg3 arg4 arg5 arg6 arg7 arg8 arg9 arg10 arg11 arg12 arg13 arg14 X1 X2 X3 X4 X5 X6 X7 X8 X9 X10 X11 X12 X13 X14).sc = _ := (rdSc arg1 X1 (by decide)).symm
  refine ⟨hd, KvAt.below (kt := (⟨7, by decide⟩ : Fin 8)) (KvAt.start (kt := (⟨7, by decide⟩ : Fin 8)) (L := []) hb7 _ ?_ rfl _), KvAt.below (kt := (⟨7, by decide⟩ : Fin 8)) (KvAt.start (kt := (⟨7, by decide⟩ : Fin 8)) (L := []) hc7 _ ?_ rfl _)⟩
  · rw [dkSum_start _ _ (⟨14, by decide⟩ : Fin 16) (⟨15, by decide⟩ : Fin 16) rfl rfl]
    simp only [dkOf, probDiag, scores, scaleRow]
    rw [esc, eqr0, edo0, eds0, eqt0, eqs0, el0, ed0, eqr1, edo1, eds1, eqt1, eqs1, el1, ed1, ek, ev, evs]
    rfl
  · rw [dvSum_start _ _ (⟨14, by decide⟩ : Fin 16) (⟨15, by decide⟩ : Fin 16) rfl rfl]
    simp only [dvOf, probDiag, scores, scaleRow]
    rw [esc, eqr0, edt0, ett0, el0, eqr1, edt1, ett1, el1, ek]
    rfl

end Cert.Proof.KernelIdeal
-- ==== Proof.Run.lean ====
module

public import proofs.«01_k».proof.Proof.Gen.KernelIdeal
public import proofs.«01_k».proof.Proof.Gen.KernelIdeal.Skeleton
public import proofs.«01_k».proof.Proof.Body
public import proofs.«01_k».proof.Proof.Gen.KernelIdeal.Points
public import proofs.«01_k».proof.Proof.Gen.KernelIdeal.Frame
public import proofs.«01_k».proof.Proof.Gen.KernelIdeal.Launch
public import Idealize.ShloMosaic.Lib.Exec
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.Pipeline.Kit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Rounds
open Idealize.ShloMosaic.Pipeline (Dat Cfg Window BodyObligation cellOf)

local notation "𝕄G" => MT nD τ sig Unit (Elt F) ℕ (UR sig nD τ) ℕ

/-! ## The output blocks as functions of the input blocks -/

/-- The array whose block `i` of rows is `S i`. -/
def joinD {e : EltTy} (S : Fin 16 → Vec F S1x1024x96 e) : Vec F S1x16384x96 e := fun j =>
  S ⟨(j 1).val / 1024, Nat.div_lt_of_lt_mul (j 1).isLt⟩ (fun a => match a with
      | ⟨0, _⟩ => (⟨0, Nat.one_pos⟩ : Fin 1) | ⟨1, _⟩ => (⟨(j 1).val % 1024, Nat.mod_lt _ (by decide)⟩ : Fin 1024) | ⟨2, _⟩ => j 2)

theorem eq_joinD {e : EltTy} {x : Vec F S1x16384x96 e} {S : Fin 16 → Vec F S1x1024x96 e} (h : ∀ i, blkD x i = S i) : x = joinD S := by
  funext j
  have h0 : (j 0).val = 0 := Nat.lt_one_iff.mp (j 0).isLt
  unfold joinD
  rw [← h]
  refine congrArg x (funext fun a => Fin.ext ?_)
  match a with
  | ⟨0, _⟩ => show (j 0).val = 0 + 1 * 0; omega
  | ⟨1, _⟩ => show (j 1).val = 1024 * ((j 1).val / 1024) + 1 * ((j 1).val % 1024); omega
  | ⟨2, _⟩ => show (j 2).val = 0 + 1 * (j 2).val; omega

/-- The array whose block `i` of columns is `S i`. -/
def joinK {e : EltTy} (S : Fin 8 → Vec F S1x96x256 e) : Vec F S1x96x2048 e := fun j =>
  S ⟨(j 2).val / 256, Nat.div_lt_of_lt_mul (j 2).isLt⟩ (fun a => match a with
      | ⟨0, _⟩ => (⟨0, Nat.one_pos⟩ : Fin 1) | ⟨1, _⟩ => j 1 | ⟨2, _⟩ => (⟨(j 2).val % 256, Nat.mod_lt _ (by decide)⟩ : Fin 256))

theorem eq_joinK {e : EltTy} {x : Vec F S1x96x2048 e} {S : Fin 8 → Vec F S1x96x256 e} (h : ∀ i, blkK x i = S i) : x = joinK S := by
  funext j
  have h0 : (j 0).val = 0 := Nat.lt_one_iff.mp (j 0).isLt
  unfold joinK
  rw [← h]
  refine congrArg x (funext fun a => Fin.ext ?_)
  match a with
  | ⟨0, _⟩ => show (j 0).val = 0 + 1 * 0; omega
  | ⟨1, _⟩ => show (j 1).val = 0 + 1 * (j 1).val; omega
  | ⟨2, _⟩ => show (j 2).val = 256 * ((j 2).val / 256) + 1 * ((j 2).val % 256); omega

/-- The `dq` block of a grid point. -/
def dqArr (I : In F) : Vec F S1x16384x96 .bf16 := joinD (dqOut I)

/-- The `dk` block of a grid point, key blocks as columns. -/
def dkArr (I : In F) : Vec F S1x96x2048 .f32 := joinK fun j => dkSum I j (14 - 2 * j.val)

/-- The `dv` block of a grid point, key blocks as columns. -/
def dvArr (I : In F) : Vec F S1x96x2048 .f32 := joinK fun j => dvSum I j (14 - 2 * j.val)

set_option maxHeartbeats 4000000 in
/-- One grid point, on what the pipeline hands the body. -/
theorem bodyOwns (c : Dev nD) (i : grid0.Coords) (arg1 : Memref sig .tc .vmem S1x8x128 .f32) (harg1 : arg1.IsWhole)
  (arg2 : Memref sig .tc .vmem S1x16384x96 .fp8e5m2) (harg2 : arg2.IsWhole)
  (arg3 : Memref sig .tc .vmem S1x16384x1 .bf16) (harg3 : arg3.IsWhole)
  (arg4 : Memref sig .tc .vmem S1x96x16384 .fp8e4m3) (harg4 : arg4.IsWhole)
  (arg5 : Memref sig .tc .vmem S1x1x16384 .bf16) (harg5 : arg5.IsWhole)
  (arg6 : Memref sig .tc .vmem S1x96x16384 .fp8e5m2) (harg6 : arg6.IsWhole)
  (arg7 : Memref sig .tc .vmem S1x1x16384 .bf16) (harg7 : arg7.IsWhole)
  (arg8 : Memref sig .tc .vmem S1x16384x96 .fp8e4m3) (harg8 : arg8.IsWhole)
  (arg9 : Memref sig .tc .vmem S1x16384x96 .bf16) (harg9 : arg9.IsWhole)
  (arg10 : Memref sig .tc .vmem S1x8x2048 .f32) (harg10 : arg10.IsWhole)
  (arg11 : Memref sig .tc .vmem S1x96x2048 .fp8e4m3) (harg11 : arg11.IsWhole)
  (arg12 : Memref sig .tc .vmem S1x96x2048 .fp8e4m3) (harg12 : arg12.IsWhole)
  (arg13 : Memref sig .tc .vmem S1x1x1 .bf16) (harg13 : arg13.IsWhole)
  (arg14 : Memref sig .tc .vmem S1x1x16384 .f32) (harg14 : arg14.IsWhole)
  (arg15 : Memref sig .tc .vmem S1x16384x96 .bf16) (harg15 : arg15.IsWhole)
  (arg16 : Memref sig .tc .vmem S1x96x2048 .f32) (harg16 : arg16.IsWhole)
  (arg17 : Memref sig .tc .vmem S1x96x2048 .f32) (harg17 : arg17.IsWhole)
  (arg18 : Memref sig .tc .vmem S16384x128 .f32) (harg18 : arg18.IsWhole)
  (arg19 : Memref sig .tc .vmem S16384x128 .f32) (harg19 : arg19.IsWhole)
  (arg20 : Memref sig .tc .vmem S96x16384 .f32) (harg20 : arg20.IsWhole)
  (x1 : Vec F S1x8x128 .f32) (x2 : Vec F S1x16384x96 .fp8e5m2) (x3 : Vec F S1x16384x1 .bf16) (x4 : Vec F S1x96x16384 .fp8e4m3) (x5 : Vec F S1x1x16384 .bf16) (x6 : Vec F S1x96x16384 .fp8e5m2) (x7 : Vec F S1x1x16384 .bf16) (x8 : Vec F S1x16384x96 .fp8e4m3) (x9 : Vec F S1x16384x96 .bf16) (x10 : Vec F S1x8x2048 .f32) (x11 : Vec F S1x96x2048 .fp8e4m3) (x12 : Vec F S1x96x2048 .fp8e4m3) (x13 : Vec F S1x1x1 .bf16) (x14 : Vec F S1x1x16384 .f32) :
  (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) : sProp 𝕄G) ⊢
  wp frame (wpE (defs₀ (F := F)) Variants.none (c : Thread nD τ) none) Set.univ (cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
   (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (dqArr (In.mk x1 x2 x3 x4 x5 x6 x7 x8 x9 x10 x11 x12 x13 x14)) ∗ owns (c : Thread nD τ) arg16 fullShare (dkArr (In.mk x1 x2 x3 x4 x5 x6 x7 x8 x9 x10 x11 x12 x13 x14)) ∗ owns (c : Thread nD τ) arg17 fullShare (dvArr (In.mk x1 x2 x3 x4 x5 x6 x7 x8 x9 x10 x11 x12 x13 x14)) ∗ (∃ d, owns (c : Thread nD τ) arg18 fullShare d) ∗ (∃ d, owns (c : Thread nD τ) arg19 fullShare d) ∗ (∃ d, owns (c : Thread nD τ) arg20 fullShare d))) := by
  rw [cc0_attn_bwd_eq_skeleton]
  unfold owns
  iintro ⟨⟨%X1, %e1, H1⟩, ⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩, ⟨%X13, %e13, H13⟩, ⟨%X14, %e14, H14⟩, ⟨%d15, %X15, %e15, H15⟩, ⟨%d16, %X16, %e16, H16⟩, ⟨%d17, %X17, %e17, H17⟩, ⟨%d18, %X18, %e18, H18⟩, ⟨%d19, %X19, %e19, H19⟩, ⟨%d20, %X20, %e20, H20⟩⟩
  subst e1 e2 e3 e4 e5 e6 e7 e8 e9 e10 e11 e12 e13 e14
  iapply (wp_wand _ _ _) $$ [H1 H2 H3 H4 H5 H6 H7 H8 H9 H10 H11 H12 H13 H14 H15 H16 H17 H18 H19 H20]
  · iapply (bodyRun c i _ harg1 _ harg2 _ harg3 _ harg4 _ harg5 _ harg6 _ harg7 _ harg8 _ harg9 _ harg10 _ harg11 _ harg12 _ harg13 _ harg14 _ harg15 _ harg16 _ harg17 _ harg18 _ harg19 _ harg20 X1 X2 X3 X4 X5 X6 X7 X8 X9 X10 X11 X12 X13 X14 X15 X16 X17 X18 X19 X20)
    isplitl [H1 H2 H3 H4 H5 H6 H7 H8 H9 H10 H11 H12 H13 H14]
    · iframe
    iframe
  iintro %u ⟨⟨H1, H2, H3, H4, H5, H6, H7, H8, H9, H10, H11, H12, H13, H14⟩, %g15, %g16, %g17, %g18, %g19, %g20, H15, H16, H17, H18, H19, H20, %hh⟩
  obtain ⟨h15, h16, h17⟩ := hh
  isplitl [H1]
  · iexists _
    isplitr
    swap; · iexact H1
    ipureintro; rfl
  isplitl [H2]
  · iexists _
    isplitr
    swap; · iexact H2
    ipureintro; rfl
  isplitl [H3]
  · iexists _
    isplitr
    swap; · iexact H3
    ipureintro; rfl
  isplitl [H4]
  · iexists _
    isplitr
    swap; · iexact H4
    ipureintro; rfl
  isplitl [H5]
  · iexists _
    isplitr
    swap; · iexact H5
    ipureintro; rfl
  isplitl [H6]
  · iexists _
    isplitr
    swap; · iexact H6
    ipureintro; rfl
  isplitl [H7]
  · iexists _
    isplitr
    swap; · iexact H7
    ipureintro; rfl
  isplitl [H8]
  · iexists _
    isplitr
    swap; · iexact H8
    ipureintro; rfl
  isplitl [H9]
  · iexists _
    isplitr
    swap; · iexact H9
    ipureintro; rfl
  isplitl [H10]
  · iexists _
    isplitr
    swap; · iexact H10
    ipureintro; rfl
  isplitl [H11]
  · iexists _
    isplitr
    swap; · iexact H11
    ipureintro; rfl
  isplitl [H12]
  · iexists _
    isplitr
    swap; · iexact H12
    ipureintro; rfl
  isplitl [H13]
  · iexists _
    isplitr
    swap; · iexact H13
    ipureintro; rfl
  isplitl [H14]
  · iexists _
    isplitr
    swap; · iexact H14
    ipureintro; rfl
  isplitl [H15]
  · iexists _
    isplitr
    swap; · iexact H15
    ipureintro; exact eq_joinD fun i => h15 i i.isLt
  isplitl [H16]
  · iexists _
    isplitr
    swap; · iexact H16
    ipureintro; exact eq_joinK fun i => h16 i i.isLt
  isplitl [H17]
  · iexists _
    isplitr
    swap; · iexact H17
    ipureintro; exact eq_joinK fun i => h17 i i.isLt
  isplitl [H18]
  · iexists _, _
    isplitr
    swap; · iexact H18
    ipureintro; rfl
  isplitl [H19]
  · iexists _, _
    isplitr
    swap; · iexact H19
    ipureintro; rfl
  · iexists _, _
    isplitr
    swap; · iexact H20
    ipureintro; rfl

variable (m : (ℓ : Loc nD τ sig) → Buf (Elt F) ℓ) (ρ : Dev nD → PrngReg)

/-- What a grid point reads. -/
def inAt (c : Dev nD) (t : Fin cfg0.N) : In F := In.mk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => dqArr (inAt m c t)
    | ⟨15, _⟩ => dkArr (inAt m c t)
    | ⟨16, _⟩ => dvArr (inAt m c t)
    | ⟨_ + 17, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = dqArr (inAt m c t) := by dsimp only [dats]
theorem after0_15 (c : Dev nD) (t : Fin cfg0.N) : (dats m 0 c).after 15 t = dkArr (inAt m c t) := by dsimp only [dats]
theorem after0_16 (c : Dev nD) (t : Fin cfg0.N) : (dats m 0 c).after 16 t = dvArr (inAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body is called with, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The scratch buffers and the generator register, spelled out. -/
theorem ΦA0_eq (c : Dev nD) :
    (Pipeline.ΦA spec0 c : sProp 𝕄G)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]
  simp only [owns_whole]; try rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = Pipeline.ΦA spec0 c from rfl, show (dats m 0 c).Φ t.castSucc = Pipeline.ΦA spec0 c from rfl, ΦA0_eq,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨⟨⟨⟨%d18, H18⟩, ⟨%d19, H19⟩, ⟨%d20, H20⟩⟩, Hr⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (wp_wand _ _ _) $$ [H1 H2 H3 H4 H5 H6 H7 H8 H9 H10 H11 H12 H13 H14 H15 H16 H17 H18 H19 H20]
  · iapply (bodyOwns c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20
  iintro %u ⟨H1, H2, H3, H4, H5, H6, H7, H8, H9, H10, H11, H12, H13, H14, H15, H16, H17, H18, H19, H20⟩
  isplitl [H18 H19 H20 Hr]
  · isplitl [H18 H19 H20]
    · isplitl [H18]; · iexact H18
      isplitl [H19]; · iexact H19
      iexact H20
    iexact Hr
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every execution ends with the pipeline's arrays as the blocks make them and every other buffer as the host lines leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every execution ends, with the arguments unchanged and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Proof.KernelIdeal
-- ==== Proof.Same.lean ====
module

public import proofs.«01_k».proof.Defs
public import proofs.«01_k».proof.Proof.Gen.Kernel
public import proofs.«01_k».proof.Proof.Run

@[expose] public section

/-! # The kernel's frame from the idealized kernel's

The two programs differ in one constant: the idealized kernel names it and the kernel writes its bits.
Read with every name meaning its bits, the idealized kernel is the kernel, so its frame, proved for any
reading of the names, is the kernel's. -/

set_option maxRecDepth 100000

noncomputable section

namespace Cert.Proof.Kernel

open Idealize.ShloMosaic
open Cert.Kernel.Gen Cert.KernelIdeal.Gen

variable {F : FTy → Type} [FloatOps F]

/-- Every named constant read as the bits the kernel writes. -/
@[reducible] def named : Named F := ⟨fun _ _ {φ} bits => Scalar.ofBits φ bits⟩

set_option maxHeartbeats 0

/-- The host operations are the same. -/
theorem main_eq : Cert.Kernel.main (F := F) = Cert.KernelIdeal.main (F := F) := rfl

/-- The bodies are the same, the names read as their bits. -/
theorem body_eq : @Cert.Kernel.cc0_attn_bwd F _ _ = @Cert.KernelIdeal.cc0_attn_bwd F _ named _ := rfl

theorem defs₀_eq : @Cert.Kernel.defs₀ F _ _ = @Cert.KernelIdeal.defs₀ F _ named _ := by
  unfold Cert.Kernel.defs₀ Cert.KernelIdeal.defs₀
  refine congrArg Defs.onTc (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (body_eq (F := F)) _) _) _) _) _) _) _) _) _) _) _) _) _) _) _) _) _) _) _) _) _) _) _) _) _) _) _) _) _) _) _) _) _) _) _) _) _) _) _) _) _
  | ⟨_ + 1, h⟩, _ => exact absurd h (Nat.not_lt.2 (Nat.le_add_left _ _))

theorem defs_eq : @Cert.Kernel.defs F _ _ = @Cert.KernelIdeal.defs F _ named _ := by
  unfold Cert.Kernel.defs Cert.KernelIdeal.defs
  exact congrArg (Pipeline.defs _) (defs₀_eq (F := F))

theorem frame_holds : Cert.quiescent_Kernel (hKernel := Cert.Kernel.Gen.facts) := fun m ρ _ => by
  have h := @Cert.Proof.KernelIdeal.frame_holds Bits _ named m ρ
  rw [defs_eq, main_eq]
  exact h

end Cert.Proof.Kernel
-- ==== Proof.PreScales.lean ====
module

public import proofs.«01_k».proof.Pre_scales_nonneg
public import Idealize.ShloMosaic.Lib.ReduceAll
public import Idealize.ShloMosaic.Lib.Pointwise
public import Idealize.ShloMosaic.Lib.Affine

@[expose] public section

/-! # What the precondition says of the two arrays of scales -/

noncomputable section

namespace Cert.Proof.PreScales

open Cert.Pre_scales_nonneg
open Idealize.ShloMosaic

instance facts : Cert.Pre_scales_nonneg.Facts where
  bcast_S_S6x2048 := by decide
  reducesTo_S6x2048_S_d0_1 := by decide +kernel
  h_S_ := by decide
  bcast_S_S4 := by decide
  reducesTo_S4_S_d0 := by decide

theorem posInf : Ideal.ofBits .f32 0x7F800000#32 = (⊤ : EReal) := by simp [Ideal.ofBits, Ideal.ieee]

theorem zero : Ideal.ofBits .f32 0x00000000#32 = (0 : EReal) := by simp [Ideal.ofBits, Ideal.ieee]

/-- What the two comparisons of an element say. -/
theorem bounds (x : EReal) (h : IntOp.andi (Ideal.cmp .oge x (Ideal.ofBits .f32 0x00000000#32)) (Ideal.cmp .olt x (Ideal.ofBits .f32 0x7F800000#32)) = 1#1) :
    0 ≤ x ∧ x ≠ ⊤ := by
  obtain ⟨h1, h2⟩ := IntOp.andi_eq_one.1 h
  rw [zero] at h1
  rw [posInf] at h2
  have e : ∀ b : Bool, BitVec.ofBool b = 1#1 → b = true := by decide
  exact ⟨of_decide_eq_true (e _ h1), (of_decide_eq_true (e _ h2) : x < ⊤).ne⟩

theorem scales (a0 : FVec Ideal S6x2048x32x96 .fp8e4m3) (a1 : FVec Ideal S32 .f32) (a2 : FVec Ideal S6x2048x4x96 .fp8e4m3) (a3 : FVec Ideal S4 .f32)
    (a4 : FVec Ideal S6x2048x4x96 .fp8e4m3) (a5 : FVec Ideal S4 .f32) (a6 : FVec Ideal S6x2048x32x96 .bf16) (a7 : FVec Ideal S6x32x2048 .f32)
    (a8 : FVec Ideal S6x2048x32x96 .fp8e5m2) (a9 : FVec Ideal S6x2048 .f32) (h : fn (F := Ideal) a0 a1 a2 a3 a4 a5 a6 a7 a8 a9 = fun _ => 1#1) :
    (∀ j, (0 : EReal) ≤ a9 j ∧ a9 j ≠ (⊤ : EReal)) ∧ ∀ j, (0 : EReal) ≤ a5 j ∧ a5 j ≠ (⊤ : EReal) := by
  have h := congrFun h (fun a => a.elim0)
  unfold fn at h
  obtain ⟨h9, h5⟩ := IntOp.andi_eq_one.1 h
  exact ⟨fun j => bounds _ (Host.reduce_andi_all _ _ _ _ _ h9 j), fun j => bounds _ (Host.reduce_andi_all _ _ _ _ _ h5 j)⟩

end Cert.Proof.PreScales
-- ==== Proof.KerValue.lean ====
module

public import proofs.«01_k».proof.Proof.Gen.KernelIdeal
public import proofs.«01_k».proof.Proof.Gen.KernelIdeal.Skeleton
public import proofs.«01_k».proof.Proof.Model
public import Idealize.ShloMosaic.Lib.Pointwise

@[expose] public section

/-! # A grid point's `dv` block at an index, at the ideal instance -/

set_option maxRecDepth 8192

noncomputable section

namespace Cert.Proof.KernelIdeal

open Cert.KernelIdeal Cert.KernelIdeal.Gen
open Idealize.ShloMosaic
open scoped BigOperators

/-- `log2 e`, as the certificate names it. -/
abbrev log2e : EReal := (((Real.log 2)⁻¹ : ℝ) : EReal)

theorem blkD_apply {e : EltTy} (x : Vec Ideal S1x16384x96 e) (i : Fin 16) (a : Fin 1024) (d : Fin 96) :
    blkD x i (ix3 0 a d) = x (ix3 0 ⟨1024 * i.val + a.val, by omega⟩ d) := by
  refine congrArg x (funext fun k => Fin.ext ?_)
  match k with
  | ⟨0, _⟩ => rfl
  | ⟨1, _⟩ => show 1024 * i.val + 1 * a.val = _; exact congrArg _ (Nat.one_mul _)
  | ⟨2, _⟩ => show 0 + 1 * d.val = d.val; omega

theorem blkK_apply {e : EltTy} (x : Vec Ideal S1x96x2048 e) (i : Fin 8) (d : Fin 96) (b : Fin 256) :
    blkK x i (ix3 0 d b) = x (ix3 0 d ⟨256 * i.val + b.val, by omega⟩) := by
  refine congrArg x (funext fun k => Fin.ext ?_)
  match k with
  | ⟨0, _⟩ => rfl
  | ⟨1, _⟩ => show 0 + 1 * d.val = d.val; omega
  | ⟨2, _⟩ => show 256 * i.val + 1 * b.val = _; exact congrArg _ (Nat.one_mul _)

theorem blkT_apply {e : EltTy} (x : Vec Ideal S1x96x16384 e) (i : Fin 16) (d : Fin 96) (a : Fin 1024) :
    blkT x i (ix3 0 d a) = x (ix3 0 d ⟨1024 * i.val + a.val, by omega⟩) := by
  refine congrArg x (funext fun k => Fin.ext ?_)
  match k with
  | ⟨0, _⟩ => rfl
  | ⟨1, _⟩ => show 0 + 1 * d.val = d.val; omega
  | ⟨2, _⟩ => show 1024 * i.val + 1 * a.val = _; exact congrArg _ (Nat.one_mul _)

theorem blkR_apply {e : EltTy} (x : Vec Ideal S1x1x16384 e) (i : Fin 16) (a : Fin 1024) :
    blkR x i (ix3 0 0 a) = x (ix3 0 0 ⟨1024 * i.val + a.val, by omega⟩) := by
  refine congrArg x (funext fun k => Fin.ext ?_)
  match k with
  | ⟨0, _⟩ => rfl
  | ⟨1, _⟩ => rfl
  | ⟨2, _⟩ => show 1024 * i.val + 1 * a.val = _; exact congrArg _ (Nat.one_mul _)

theorem blkL_apply {e : EltTy} (x : Vec Ideal S1x8x2048 e) (i : Fin 16) (r : Fin 8) (t : Fin 128) :
    blkL x i (ix3 0 r t) = x (ix3 0 r ⟨128 * i.val + t.val, by omega⟩) := by
  refine congrArg x (funext fun k => Fin.ext ?_)
  match k with
  | ⟨0, _⟩ => rfl
  | ⟨1, _⟩ => show 0 + 1 * r.val = r.val; omega
  | ⟨2, _⟩ => show 128 * i.val + 1 * t.val = _; exact congrArg _ (Nat.one_mul _)

theorem pay205_apply (p : FVec Ideal S1024x256 .f32) (w : Vec Ideal S1x96x1024 .fp8e5m2) (s : Vec Ideal S1x1x1024 .bf16)
    (d : Fin 96) (b : Fin 256) :
    k0_pay205 p w s (ix2 d b) = ∑ a : Fin 1024, (w (ix3 0 d a) * s (ix3 0 0 a)) * p (ix2 a b) := by
  pointwise [k0_pay205]

theorem named_log2e : Named.named (F := Ideal) Cert.KernelIdeal.κ "log2e" (φ := .f32) 0x3FB8AA3B#32 = log2e :=
  IdealRules.named_const.ideal_named_scalar _ _ _ _ rfl

theorem ofBits_negInf : Ideal.ofBits .f32 0xFF800000#32 = (⊥ : EReal) := by simp [Ideal.ofBits, Ideal.ieee]

theorem pay201_apply (x : Vec Ideal S1x8x128 .f32) (sc : Fin 8 → EReal) (h : ∀ r l, x (ix3 0 r l) = sc r) (r : Fin 8) (b : Fin 256) :
    k0_pay201 x (ix2 r b) = sc r * log2e := by
  pointwise [k0_pay201]
  rw [named_log2e]
  split <;> rw [h]

theorem pay5_apply (x : Vec Ideal S1x8x128 .f32) (r : Fin 8) (t : Fin 128) :
    k0_pay5 x (ix2 r t) = x (ix3 0 r t) * log2e := by
  pointwise [k0_pay5]
  rw [named_log2e]

theorem pay218_apply (c : FVec Ideal S8x256 .f32) (q : Vec Ideal S1x1024x96 .fp8e4m3) (k : Vec Ideal S1x96x256 .fp8e4m3)
    (L : Vec Ideal S1024x128 .f32) (l : Fin 1024 → EReal) (hl : ∀ a j, L (ix2 a j) = l a) (t : Fin 128) (r : Fin 8) (b : Fin 256) :
    k0_pay218 c q k L (ix3 t r b) =
      (∑ d : Fin 96, q (ix3 0 ⟨t.val * 8 + r.val, by omega⟩ d) * k (ix3 0 d b)) * c (ix2 r b) - l ⟨t.val * 8 + r.val, by omega⟩ := by
  pointwise [k0_pay218]
  split <;> rw [hl]

theorem masked_apply (qo ko : BitVec 32) (x : FVec Ideal S128x8x256 .f32) (t : Fin 128) (r : Fin 8) (b : Fin 256) :
    masked qo ko x (ix3 t r b) = if (ko + BitVec.ofNat 32 b.val).sle (qo + BitVec.ofNat 32 t.val) then x (ix3 t r b) else ⊥ := by
  pointwise [masked]
  rw [ofBits_negInf]
  unfold Scalar.select IntOp.cmpi IntOp.addi
  cases (ko + BitVec.ofNat 32 b.val).sle (qo + BitVec.ofNat 32 t.val) <;> rfl

theorem sle_tok (i : Fin 16) (kt : Fin 8) (t : Fin 128) (b : Fin 256) :
    (BitVec.ofNat 32 (256 * kt.val) + BitVec.ofNat 32 b.val).sle (BitVec.ofNat 32 (128 * i.val) + BitVec.ofNat 32 t.val) =
      decide (256 * kt.val + b.val ≤ 128 * i.val + t.val) := by
  have e : ∀ n : Nat, n < 2 ^ 31 → (BitVec.ofNat 32 n).toInt = n := fun n hn => by
    rw [BitVec.toInt_eq_toNat_of_lt] <;> rw [BitVec.toNat_ofNat, Nat.mod_eq_of_lt (by omega)]
    omega
  rw [← BitVec.ofNat_add, ← BitVec.ofNat_add, BitVec.sle_eq_decide, e _ (by omega), e _ (by omega)]
  simp only [decide_eq_decide]; omega

/-- A probability: token `n / 8` of head `n % 8` against key `k`. -/
def pr (I : In Ideal) (sc : Fin 8 → EReal) (n : Fin 16384) (k : Fin 2048) : EReal :=
  if k.val ≤ n.val / 8 then
    Ideal.exp2 ((∑ e : Fin 96, I.qr (ix3 0 n e) * I.kt (ix3 0 e k)) * (sc ⟨n.val % 8, by omega⟩ * log2e)
      - I.lse (ix3 0 ⟨n.val % 8, by omega⟩ ⟨n.val / 8, by omega⟩) * log2e)
  else 0

section
variable (I : In Ideal) (sc : Fin 8 → EReal) (h : ∀ r l, I.sc (ix3 0 r l) = sc r)
include h

theorem lseB_apply (i : Fin 16) (a : Fin 1024) (j : Fin 128) : lseB I i (ix2 a j) =
    I.lse (ix3 0 ⟨a.val % 8, by omega⟩ ⟨128 * i.val + a.val / 8, by omega⟩) * log2e := by
  unfold lseB
  exact (pay5_apply _ _ _).trans (congrArg (· * log2e) (blkL_apply _ _ _ _))

theorem scores_apply (kt : Fin 8) (i : Fin 16) (t : Fin 128) (r : Fin 8) (b : Fin 256) (n : Fin 16384) (k : Fin 2048)
    (hn : n.val = 1024 * i.val + (t.val * 8 + r.val)) (hk : k.val = 256 * kt.val + b.val) :
    scores I (lseB I) kt i (ix3 t r b) = (∑ e : Fin 96, I.qr (ix3 0 n e) * I.kt (ix3 0 e k)) * (sc ⟨n.val % 8, by omega⟩ * log2e)
      - I.lse (ix3 0 ⟨n.val % 8, by omega⟩ ⟨n.val / 8, by omega⟩) * log2e := by
  unfold scores scaleRow
  have e1 : (⟨1024 * i.val + (t.val * 8 + r.val), by omega⟩ : Fin 16384) = n := Fin.ext hn.symm
  have e2 : (⟨256 * kt.val + b.val, by omega⟩ : Fin 2048) = k := Fin.ext hk.symm
  have e3 : (⟨n.val % 8, by omega⟩ : Fin 8) = r := Fin.ext (by show n.val % 8 = r.val; omega)
  rw [pay218_apply _ _ _ _ (fun a => I.lse (ix3 0 ⟨a.val % 8, by omega⟩ ⟨128 * i.val + a.val / 8, by omega⟩) * log2e) (lseB_apply I sc h i),
    pay201_apply _ sc h, e3]
  congr 1
  · congr 1
    refine Finset.sum_congr rfl fun e _ => ?_
    rw [blkD_apply, blkK_apply]
    show I.qr (ix3 0 ⟨1024 * i.val + (t.val * 8 + r.val), _⟩ e) * _ = _
    rw [e1, e2]
  · refine congrArg (· * log2e) (congrArg I.lse ?_)
    congr 1
    · exact Fin.ext (by show (t.val * 8 + r.val) % 8 = r.val; omega)
    · exact Fin.ext (by show 128 * i.val + (t.val * 8 + r.val) / 8 = n.val / 8; omega)

theorem probFull_apply (kt : Fin 8) (i : Fin 16) (hi : 2 * kt.val + 2 ≤ i.val) (a : Fin 1024) (b : Fin 256) :
    probFull I kt i (ix2 a b) = pr I sc ⟨1024 * i.val + a.val, by omega⟩ ⟨256 * kt.val + b.val, by omega⟩ := by
  unfold probFull
  pointwise []
  rw [scores_apply I sc h kt i _ _ _ ⟨1024 * i.val + a.val, by omega⟩ ⟨256 * kt.val + b.val, by omega⟩ (by simp; omega) rfl]
  rw [pr, if_pos (by simp; omega)]; rfl

theorem probDiag_apply (kt : Fin 8) (i : Fin 16) (a : Fin 1024) (b : Fin 256) :
    probDiag I kt i (ix2 a b) = pr I sc ⟨1024 * i.val + a.val, by omega⟩ ⟨256 * kt.val + b.val, by omega⟩ := by
  unfold probDiag
  pointwise []
  rw [masked_apply, sle_tok, scores_apply I sc h kt i _ _ _ ⟨1024 * i.val + a.val, by omega⟩ ⟨256 * kt.val + b.val, by omega⟩ (by simp; omega) rfl]
  rw [pr]
  by_cases hc : 256 * kt.val + b.val ≤ 128 * i.val + a.val / 8
  · rw [if_pos (by simpa using hc), if_pos (by simp; omega)]; rfl
  · rw [if_neg (by simpa using hc), if_neg (by simp; omega)]; rfl

/-- A row block's part of a `dv` entry. -/
def term (d : Fin 96) (k : Fin 2048) (i : Fin 16) : EReal :=
  ∑ a : Fin 1024, (I.dot (ix3 0 d ⟨1024 * i.val + a.val, by omega⟩) * I.dost (ix3 0 0 ⟨1024 * i.val + a.val, by omega⟩)) *
    pr I sc ⟨1024 * i.val + a.val, by omega⟩ k

theorem dvOf_apply (p : FVec Ideal S1024x256 .f32) (i : Fin 16) (d : Fin 96) (b : Fin 256) (k : Fin 2048)
    (hp : ∀ a : Fin 1024, p (ix2 a b) = pr I sc ⟨1024 * i.val + a.val, by omega⟩ k) :
    dvOf I p i (ix2 d b) = term I sc d k i := by
  unfold dvOf term
  rw [pay205_apply]
  refine Finset.sum_congr rfl fun a _ => ?_
  rw [blkT_apply, blkR_apply, hp]

theorem pairSum_apply (a b : FVec Ideal S96x256 .f32) (d : Fin 96) (j : Fin 256) :
    pairSum a b (ix3 0 d j) = a (ix2 d j) + b (ix2 d j) := by
  pointwise [pairSum]

theorem addBlk_apply (x : FVec Ideal S1x96x256 .f32) (b : FVec Ideal S96x256 .f32) (d : Fin 96) (j : Fin 256) :
    addBlk x b (ix3 0 d j) = x (ix3 0 d j) + b (ix2 d j) := by
  pointwise [addBlk]

theorem dvSum_apply (kt : Fin 8) (d : Fin 96) (b : Fin 256) (n : Nat) (hn : n + 2 * kt.val ≤ 14) :
    dvSum I kt n (ix3 0 d b) = ∑ x ∈ Finset.range (n + 2), term I sc d ⟨256 * kt.val + b.val, by omega⟩ (blkNo (2 * kt.val + x)) := by
  induction n with
  | zero =>
    show pairSum _ _ _ = _
    rw [pairSum_apply I sc h, Finset.sum_range_succ, Finset.sum_range_succ, Finset.sum_range_zero, zero_add,
      dvOf_apply I sc h _ _ d b _ (fun a => probDiag_apply I sc h kt _ a b), dvOf_apply I sc h _ _ d b _ (fun a => probDiag_apply I sc h kt _ a b)]
    rfl
  | succ n ih =>
    rw [dvSum_succ, addBlk_apply I sc h, ih (by omega), Finset.sum_range_succ _ (n + 2)]
    congr 1
    rw [show n + 2 * kt.val + 2 = 2 * kt.val + (n + 2) by omega]
    refine dvOf_apply I sc h _ _ d b _ (fun a => probFull_apply I sc h kt _ ?_ a b)
    rw [blkNo_of_lt (by omega)]
    show _ ≤ 2 * kt.val + (n + 2)
    omega

theorem term_zero (d : Fin 96) (k : Fin 2048) (i : Fin 16) (hi : i.val < 2 * (k.val / 256)) : term I sc d k i = 0 := by
  refine Finset.sum_eq_zero fun a _ => ?_
  rw [pr, if_neg (by simp; omega), mul_zero]

theorem dvSum_all (kt : Fin 8) (d : Fin 96) (b : Fin 256) :
    dvSum I kt (14 - 2 * kt.val) (ix3 0 d b) = ∑ n : Fin 16384, (I.dot (ix3 0 d n) * I.dost (ix3 0 0 n)) * pr I sc n ⟨256 * kt.val + b.val, by omega⟩ := by
  rw [dvSum_apply I sc h kt d b _ (by omega)]
  have e1 : ∑ n : Fin 16384, (I.dot (ix3 0 d n) * I.dost (ix3 0 0 n)) * pr I sc n ⟨256 * kt.val + b.val, by omega⟩
      = ∑ i : Fin 16, term I sc d ⟨256 * kt.val + b.val, by omega⟩ i := by
    rw [← (finProdFinEquiv (m := 16) (n := 1024)).sum_comp (fun n : Fin (16 * 1024) => (I.dot (ix3 0 d n) * I.dost (ix3 0 0 n)) * pr I sc n ⟨256 * kt.val + b.val, by omega⟩),
      Fintype.sum_prod_type]
    refine Finset.sum_congr rfl fun i _ => Finset.sum_congr rfl fun a _ => ?_
    have : (finProdFinEquiv (i, a) : Fin (16 * 1024)) = (⟨1024 * i.val + a.val, by omega⟩ : Fin 16384) := Fin.ext (by simp [finProdFinEquiv]; omega)
    rw [this]
  rw [e1]
  have e2 : ∑ i : Fin 16, term I sc d ⟨256 * kt.val + b.val, by omega⟩ i = ∑ x ∈ Finset.range 16, term I sc d ⟨256 * kt.val + b.val, by omega⟩ (blkNo x) := by
    rw [← Fin.sum_univ_eq_sum_range (fun x => term I sc d ⟨256 * kt.val + b.val, by omega⟩ (blkNo x))]
    refine Finset.sum_congr rfl fun i _ => by rw [blkNo_val]
  have e3 : ∀ f : Nat → EReal, ∑ x ∈ Finset.range 16, f x =
      ∑ x ∈ Finset.range (2 * kt.val), f x + ∑ x ∈ Finset.range (14 - 2 * kt.val + 2), f (2 * kt.val + x) := fun f => by
    rw [← Finset.sum_range_add, show 2 * kt.val + (14 - 2 * kt.val + 2) = 16 by omega]
  rw [e2, e3, Finset.sum_eq_zero (s := Finset.range (2 * kt.val)), zero_add]
  intro x hx
  have hx := Finset.mem_range.mp hx
  refine term_zero I sc h d _ _ ?_
  rw [blkNo_of_lt (by omega)]
  show x < 2 * ((256 * kt.val + b.val) / 256)
  omega

end

end Cert.Proof.KernelIdeal
-- ==== Proof.KerGrad.lean ====
module

public import proofs.«01_k».proof.Proof.KerValue
public import proofs.«01_k».proof.Proof.Run

@[expose] public section

/-! # The values of `dk` and `dq` at one grid point, on the extended reals -/

set_option maxRecDepth 8192

noncomputable section

namespace Cert.Proof.KernelIdeal

open Cert.KernelIdeal Cert.KernelIdeal.Gen
open Idealize.ShloMosaic
open scoped BigOperators

theorem blkC_apply {e : EltTy} (x : Vec Ideal S1x16384x1 e) (i : Fin 16) (a : Fin 1024) :
    blkC x i (ix3 0 a 0) = x (ix3 0 ⟨1024 * i.val + a.val, by omega⟩ 0) := by
  refine congrArg x (funext fun k => Fin.ext ?_)
  match k with
  | ⟨0, _⟩ => rfl
  | ⟨1, _⟩ => show 1024 * i.val + 1 * a.val = _; exact congrArg _ (Nat.one_mul _)
  | ⟨2, _⟩ => rfl

theorem pay203_apply (x : Vec Ideal S1x1024x96 .fp8e5m2) (a : Fin 1024) (d : Fin 96) : k0_pay203 x (ix2 a d) = x (ix3 0 a d) := by
  pointwise [k0_pay203]

theorem pay3_apply (w : Vec Ideal S1x1024x96 .fp8e5m2) (s : Vec Ideal S1x1024x1 .bf16) (o : Vec Ideal S1x1024x96 .bf16) (a : Fin 1024)
    (j : Fin 128) : k0_pay3 w s o (ix2 a j) = ∑ d : Fin 96, (w (ix3 0 a d) * s (ix3 0 a 0)) * o (ix3 0 a d) := by
  pointwise [k0_pay3]

theorem pay204_apply (p : FVec Ideal S1024x256 .f32) (w : FVec Ideal S1024x96 .bf16) (s : Vec Ideal S1x1024x1 .bf16)
    (v : Vec Ideal S1x96x256 .fp8e4m3) (vs : Vec Ideal S1x1x1 .bf16) (L : Vec Ideal S1024x128 .f32) (l : Fin 1024 → EReal)
    (hl : ∀ a j, L (ix2 a j) = l a) (a : Fin 1024) (b : Fin 256) :
    k0_pay204 p w s v vs L (ix2 a b) =
      p (ix2 a b) * ((∑ d : Fin 96, (w (ix2 a d) * s (ix3 0 a 0)) * (v (ix3 0 d b) * vs (ix3 0 0 0))) - l a) := by
  pointwise [k0_pay204]
  split <;> rw [hl]

theorem pay206_apply (p : FVec Ideal S1024x256 .f32) (w : FVec Ideal S1024x96 .bf16) (s : Vec Ideal S1x1024x1 .bf16)
    (v : Vec Ideal S1x96x256 .fp8e4m3) (vs : Vec Ideal S1x1x1 .bf16) (L : Vec Ideal S1024x128 .f32)
    (q : Vec Ideal S1x96x1024 .fp8e4m3) (qs : Vec Ideal S1x1x1024 .bf16) (d : Fin 96) (b : Fin 256) :
    k0_pay206 p w s v vs L q qs (ix2 d b) = ∑ a : Fin 1024, (q (ix3 0 d a) * qs (ix3 0 0 a)) * k0_pay204 p w s v vs L (ix2 a b) := by
  pointwise [k0_pay206]

theorem pay207_apply (p : FVec Ideal S1024x256 .bf16) (k : Vec Ideal S1x96x256 .fp8e4m3) (x : Vec Ideal S96x1024 .f32)
    (d : Fin 96) (a : Fin 1024) :
    k0_pay207 p k x (ix2 d a) = x (ix2 d a) + ∑ b : Fin 256, k (ix3 0 d b) * p (ix2 a b) := by
  pointwise [k0_pay207]

theorem pay2_apply (x : Vec Ideal S96x1024 .f32) (s : Vec Ideal S1x1x1024 .f32) (d : Fin 96) (a : Fin 1024) :
    k0_pay2 x s (ix3 0 a d) = x (ix2 d a) * s (ix3 0 0 a) := by
  pointwise [k0_pay2]

theorem pay4_apply (d : Fin 96) (a : Fin 1024) : (k0_pay4 : FVec Ideal S96x1024 .f32) (ix2 d a) = 0 := by
  pointwise [k0_pay4]

/-- A row's output gradient against a key's value. -/
def dpv (I : In Ideal) (n : Fin 16384) (k : Fin 2048) : EReal :=
  ∑ d : Fin 96, (I.dor (ix3 0 n d) * I.dos (ix3 0 n 0)) * (I.vt (ix3 0 d k) * I.vs (ix3 0 0 0))

/-- A row's output gradient against its output. -/
def dlt (I : In Ideal) (n : Fin 16384) : EReal :=
  ∑ d : Fin 96, (I.dor (ix3 0 n d) * I.dos (ix3 0 n 0)) * I.o (ix3 0 n d)

/-- The gradient of a score. -/
def dsv (I : In Ideal) (sc : Fin 8 → EReal) (n : Fin 16384) (k : Fin 2048) : EReal := pr I sc n k * (dpv I n k - dlt I n)

section
variable (I : In Ideal) (sc : Fin 8 → EReal) (h : ∀ r l, I.sc (ix3 0 r l) = sc r)
include h

theorem deltaB_apply (i : Fin 16) (a : Fin 1024) (j : Fin 128) :
    deltaB I i (ix2 a j) = dlt I ⟨1024 * i.val + a.val, by omega⟩ := by
  unfold deltaB dlt
  rw [pay3_apply]
  refine Finset.sum_congr rfl fun d _ => ?_
  rw [blkD_apply, blkC_apply, blkD_apply]

theorem ds204 (p : FVec Ideal S1024x256 .f32) (kt : Fin 8) (i : Fin 16) (a : Fin 1024) (b : Fin 256) :
    k0_pay204 p (k0_pay203 (blkD I.dor i)) (blkC I.dos i) (blkK I.vt kt) I.vs (deltaB I i) (ix2 a b) =
      p (ix2 a b) * (dpv I ⟨1024 * i.val + a.val, by omega⟩ ⟨256 * kt.val + b.val, by omega⟩ - dlt I ⟨1024 * i.val + a.val, by omega⟩) := by
  rw [pay204_apply _ _ _ _ _ _ (fun a => dlt I ⟨1024 * i.val + a.val, by omega⟩) (deltaB_apply I sc h i)]
  unfold dpv
  congr 2
  refine Finset.sum_congr rfl fun d _ => ?_
  rw [pay203_apply, blkD_apply, blkC_apply, blkK_apply]

/-- A row block's part of a `dk` entry. -/
def termK (d : Fin 96) (k : Fin 2048) (i : Fin 16) : EReal :=
  ∑ a : Fin 1024, (I.qt (ix3 0 d ⟨1024 * i.val + a.val, by omega⟩) * I.qs (ix3 0 0 ⟨1024 * i.val + a.val, by omega⟩)) *
    dsv I sc ⟨1024 * i.val + a.val, by omega⟩ k

theorem dkOf_apply (p : FVec Ideal S1024x256 .f32) (kt : Fin 8) (i : Fin 16) (d : Fin 96) (b : Fin 256)
    (hp : ∀ a : Fin 1024, p (ix2 a b) = pr I sc ⟨1024 * i.val + a.val, by omega⟩ ⟨256 * kt.val + b.val, by omega⟩) :
    dkOf I p kt i (ix2 d b) = termK I sc d ⟨256 * kt.val + b.val, by omega⟩ i := by
  unfold dkOf termK
  rw [pay206_apply]
  refine Finset.sum_congr rfl fun a _ => ?_
  rw [ds204 I sc h, blkT_apply, blkR_apply, hp]
  rfl

theorem dkSum_apply (kt : Fin 8) (d : Fin 96) (b : Fin 256) (n : Nat) (hn : n + 2 * kt.val ≤ 14) :
    dkSum I kt n (ix3 0 d b) = ∑ x ∈ Finset.range (n + 2), termK I sc d ⟨256 * kt.val + b.val, by omega⟩ (blkNo (2 * kt.val + x)) := by
  induction n with
  | zero =>
    show pairSum _ _ _ = _
    rw [pairSum_apply I sc h, Finset.sum_range_succ, Finset.sum_range_succ, Finset.sum_range_zero, zero_add,
      dkOf_apply I sc h _ _ _ d b (fun a => probDiag_apply I sc h kt _ a b), dkOf_apply I sc h _ _ _ d b (fun a => probDiag_apply I sc h kt _ a b)]
    rfl
  | succ n ih =>
    rw [dkSum_succ, addBlk_apply I sc h, ih (by omega), Finset.sum_range_succ _ (n + 2)]
    congr 1
    rw [show n + 2 * kt.val + 2 = 2 * kt.val + (n + 2) by omega]
    refine dkOf_apply I sc h _ _ _ d b (fun a => probFull_apply I sc h kt _ ?_ a b)
    rw [blkNo_of_lt (by omega)]
    show _ ≤ 2 * kt.val + (n + 2)
    omega

theorem dsv_zero (n : Fin 16384) (k : Fin 2048) (hk : n.val / 8 < k.val) : dsv I sc n k = 0 := by
  rw [dsv, pr, if_neg (by omega), zero_mul]

theorem termK_zero (d : Fin 96) (k : Fin 2048) (i : Fin 16) (hi : i.val < 2 * (k.val / 256)) : termK I sc d k i = 0 := by
  refine Finset.sum_eq_zero fun a _ => ?_
  rw [dsv_zero I sc h _ _ (by simp; omega), mul_zero]

theorem dkSum_all (kt : Fin 8) (d : Fin 96) (b : Fin 256) :
    dkSum I kt (14 - 2 * kt.val) (ix3 0 d b) = ∑ n : Fin 16384, (I.qt (ix3 0 d n) * I.qs (ix3 0 0 n)) * dsv I sc n ⟨256 * kt.val + b.val, by omega⟩ := by
  rw [dkSum_apply I sc h kt d b _ (by omega)]
  have e1 : ∑ n : Fin 16384, (I.qt (ix3 0 d n) * I.qs (ix3 0 0 n)) * dsv I sc n ⟨256 * kt.val + b.val, by omega⟩
      = ∑ i : Fin 16, termK I sc d ⟨256 * kt.val + b.val, by omega⟩ i := by
    rw [← (finProdFinEquiv (m := 16) (n := 1024)).sum_comp (fun n : Fin (16 * 1024) => (I.qt (ix3 0 d n) * I.qs (ix3 0 0 n)) * dsv I sc n ⟨256 * kt.val + b.val, by omega⟩),
      Fintype.sum_prod_type]
    refine Finset.sum_congr rfl fun i _ => Finset.sum_congr rfl fun a _ => ?_
    have : (finProdFinEquiv (i, a) : Fin (16 * 1024)) = (⟨1024 * i.val + a.val, by omega⟩ : Fin 16384) := Fin.ext (by simp [finProdFinEquiv]; omega)
    rw [this]
  rw [e1]
  have e2 : ∑ i : Fin 16, termK I sc d ⟨256 * kt.val + b.val, by omega⟩ i = ∑ x ∈ Finset.range 16, termK I sc d ⟨256 * kt.val + b.val, by omega⟩ (blkNo x) := by
    rw [← Fin.sum_univ_eq_sum_range (fun x => termK I sc d ⟨256 * kt.val + b.val, by omega⟩ (blkNo x))]
    refine Finset.sum_congr rfl fun i _ => by rw [blkNo_val]
  have e3 : ∀ f : Nat → EReal, ∑ x ∈ Finset.range 16, f x =
      ∑ x ∈ Finset.range (2 * kt.val), f x + ∑ x ∈ Finset.range (14 - 2 * kt.val + 2), f (2 * kt.val + x) := fun f => by
    rw [← Finset.sum_range_add, show 2 * kt.val + (14 - 2 * kt.val + 2) = 16 by omega]
  rw [e2, e3, Finset.sum_eq_zero (s := Finset.range (2 * kt.val)), zero_add]
  intro x hx
  have hx := Finset.mem_range.mp hx
  refine termK_zero I sc h d _ _ ?_
  rw [blkNo_of_lt (by omega)]
  show x < 2 * ((256 * kt.val + b.val) / 256)
  omega

/-- A key block's part of a `dq` entry. -/
def termQ (d : Fin 96) (n : Fin 16384) (c : Nat) : EReal :=
  ∑ b : Fin 256, I.kt (ix3 0 d ⟨256 * (c % 8) + b.val, by omega⟩) * dsv I sc n ⟨256 * (c % 8) + b.val, by omega⟩

theorem prob_apply (kt : Fin 8) (i : Fin 16) (hi : kt.val ≤ i.val / 2) (a : Fin 1024) (b : Fin 256) :
    prob I kt i (ix2 a b) = pr I sc ⟨1024 * i.val + a.val, by omega⟩ ⟨256 * kt.val + b.val, by omega⟩ := by
  by_cases e : i.val / 2 = kt.val
  · rw [prob_diag I kt i e]; exact probDiag_apply I sc h kt i a b
  · rw [prob_full I kt i e]; exact probFull_apply I sc h kt i (by omega) a b

theorem dqSum_apply (i : Fin 16) (d : Fin 96) (a : Fin 1024) (c : Nat) (hc : c ≤ i.val / 2 + 1) :
    dqSum I i c (ix2 d a) = ∑ x ∈ Finset.range c, termQ I sc d ⟨1024 * i.val + a.val, by omega⟩ x := by
  induction c with
  | zero => exact pay4_apply d a
  | succ c ih =>
    rw [Finset.sum_range_succ, ← ih (by omega)]
    show dqStep I _ _ i _ (ix2 d a) = _
    unfold dqStep termQ
    rw [pay207_apply]
    congr 1
    refine Finset.sum_congr rfl fun b _ => ?_
    unfold dsOf
    rw [ds204 I sc h, blkK_apply, prob_apply I sc h _ i (by show c % 8 ≤ i.val / 2; omega)]
    rfl

theorem dqArr_apply (n : Fin 16384) (d : Fin 96) :
    dqArr I (ix3 0 n d) = (∑ k : Fin 2048, I.kt (ix3 0 d k) * dsv I sc n k) * I.dqs (ix3 0 0 n) := by
  have hi : n.val / 1024 < 16 := by omega
  have ha : n.val % 1024 < 1024 := by omega
  have en : (⟨1024 * (n.val / 1024) + n.val % 1024, by omega⟩ : Fin 16384) = n := Fin.ext (by show 1024 * (n.val / 1024) + n.val % 1024 = n.val; omega)
  have e0 : dqArr I (ix3 0 n d) = dqOut I ⟨n.val / 1024, hi⟩ (ix3 0 ⟨n.val % 1024, ha⟩ d) := by
    show dqOut I ⟨n.val / 1024, hi⟩ _ = _
    refine congrArg _ (funext fun a => ?_)
    match a with
    | ⟨0, _⟩ => rfl
    | ⟨1, _⟩ => rfl
    | ⟨2, _⟩ => rfl
  rw [e0, dqOut, pay2_apply, dqSum_apply I sc h _ _ _ _ (by exact Nat.le_refl _), blkR_apply]
  simp only [en]
  congr 1
  have e1 : ∑ k : Fin 2048, I.kt (ix3 0 d k) * dsv I sc n k = ∑ x ∈ Finset.range 8, termQ I sc d n x := by
    rw [← Fin.sum_univ_eq_sum_range (fun x => termQ I sc d n x),
      ← (finProdFinEquiv (m := 8) (n := 256)).sum_comp (fun k : Fin (8 * 256) => I.kt (ix3 0 d k) * dsv I sc n k), Fintype.sum_prod_type]
    refine Finset.sum_congr rfl fun i _ => Finset.sum_congr rfl fun a _ => ?_
    have : (finProdFinEquiv (i, a) : Fin (8 * 256)) = (⟨256 * (i.val % 8) + a.val, by omega⟩ : Fin 2048) := Fin.ext (by simp [finProdFinEquiv]; omega)
    rw [this]
  have e3 : ∀ f : Nat → EReal, ∑ x ∈ Finset.range 8, f x = ∑ x ∈ Finset.range (n.val / 1024 / 2 + 1), f x
      + ∑ x ∈ Finset.range (7 - n.val / 1024 / 2), f (n.val / 1024 / 2 + 1 + x) := fun f => by
    rw [← Finset.sum_range_add, show n.val / 1024 / 2 + 1 + (7 - n.val / 1024 / 2) = 8 by omega]
  rw [e1, e3, Finset.sum_eq_zero (s := Finset.range (7 - n.val / 1024 / 2)), add_zero]
  intro x hx
  have hx := Finset.mem_range.mp hx
  refine Finset.sum_eq_zero fun b _ => ?_
  rw [dsv_zero I sc h n _ (by show n.val / 8 < 256 * _ + b.val; rw [Nat.mod_eq_of_lt (by omega)]; omega), mul_zero]

end

/-- A `dk` entry of a grid point. -/
theorem dkArr_apply (I : In Ideal) (sc : Fin 8 → EReal) (h : ∀ r l, I.sc (ix3 0 r l) = sc r) (k : Fin 2048) (d : Fin 96) :
    dkArr I (ix3 0 d k) = ∑ n : Fin 16384, (I.qt (ix3 0 d n) * I.qs (ix3 0 0 n)) * dsv I sc n k := by
  have hk : k.val / 256 < 8 := by omega
  have hb : k.val % 256 < 256 := by omega
  have ek : (⟨256 * (k.val / 256) + k.val % 256, by omega⟩ : Fin 2048) = k := Fin.ext (by show 256 * (k.val / 256) + k.val % 256 = k.val; omega)
  have e0 : dkArr I (ix3 0 d k) = dkSum I ⟨k.val / 256, hk⟩ (14 - 2 * (k.val / 256)) (ix3 0 d ⟨k.val % 256, hb⟩) := by
    show dkSum I ⟨k.val / 256, hk⟩ (14 - 2 * (k.val / 256)) _ = _
    refine congrArg _ (funext fun a => ?_)
    match a with
    | ⟨0, _⟩ => rfl
    | ⟨1, _⟩ => rfl
    | ⟨2, _⟩ => rfl
  rw [e0, dkSum_all I sc h ⟨k.val / 256, hk⟩ d ⟨k.val % 256, hb⟩]
  simp only [ek]

end Cert.Proof.KernelIdeal
-- ==== Proof.KerIn.lean ====
module

public import proofs.«01_k».proof.Proof.Run
public import Idealize.ShloMosaic.Lib.Pointwise
public import Idealize.ShloMosaic.Lib.StableHlo.ReadAt
public import Idealize.ShloMosaic.Lib.Pipeline.ValueKit.Point
public import Idealize.ShloMosaic.Lib.Claim

@[expose] public section

set_option maxRecDepth 8192

noncomputable section

namespace Cert.Proof.KernelIdeal

open Cert.KernelIdeal Cert.KernelIdeal.Gen
open Idealize.ShloMosaic Idealize.ShloMosaic.TcCoe
open scoped BigOperators

variable (m : (ℓ : Loc nD τ sig) → Buf (Elt Ideal) ℓ)

/-- The scores' scale of a grid point and a head, from the two scale arrays. -/
def scl (a : FVec Ideal S32 .f32) (b : FVec Ideal S4 .f32) (t : Fin 24) (r : Fin 8) : EReal :=
  a (ix1 ⟨r.val * 4 + t.val % 4, by omega⟩) * b (ix1 ⟨t.val % 4, by omega⟩) * Ideal.ofBits FTy.f32 0x3DD105EC#32

theorem idx0 : ∀ t : Fin cfg0.N, win0_0.index t 0 = t.val ∧ win0_0.index t 1 = 0 ∧ win0_0.index t 2 = 0 := by decide +kernel
theorem idx5 : ∀ t : Fin cfg0.N, win0_5.index t 0 = t.val ∧ win0_5.index t 1 = 0 ∧ win0_5.index t 2 = 0 := by decide +kernel
theorem idx6 : ∀ t : Fin cfg0.N, win0_6.index t 0 = t.val ∧ win0_6.index t 1 = 0 ∧ win0_6.index t 2 = 0 := by decide +kernel
theorem idx7 : ∀ t : Fin cfg0.N, win0_7.index t 0 = t.val ∧ win0_7.index t 1 = 0 ∧ win0_7.index t 2 = 0 := by decide +kernel
theorem idx9 : ∀ t : Fin cfg0.N, win0_9.index t 0 = t.val ∧ win0_9.index t 1 = 0 ∧ win0_9.index t 2 = 0 := by decide +kernel
theorem idx10 : ∀ t : Fin cfg0.N, win0_10.index t 0 = t.val ∧ win0_10.index t 1 = 0 ∧ win0_10.index t 2 = 0 := by decide +kernel
theorem idx16 : ∀ t : Fin cfg0.N, win0_16.index t 0 = t.val ∧ win0_16.index t 1 = 0 ∧ win0_16.index t 2 = 0 := by decide +kernel

theorem v11_at (c : Dev nD) (t : Fin 24) (r : Fin 8) (l : Fin 128) : V m c main_v11 (ix3 t r l) = scl (m (c, Proc.tc.devRef main_arg1)) (m (c, Proc.tc.devRef main_arg3)) t r := by
  unfold V
  after_reads_at
  rfl

theorem v27_at (c : Dev nD) (t : Fin 24) (r : Fin 8) (l : Fin 2048) :
    V m c main_v27 (ix3 t r l) = m (c, Proc.tc.devRef main_arg7) (ix3 ⟨t.val / 4, by omega⟩ ⟨r.val * 4 + t.val % 4, by omega⟩ l) := by
  unfold V
  after_reads_at

theorem v30_at (c : Dev nD) (t : Fin 24) (n : Fin 16384) (l : Fin 96) :
    V m c main_v30 (ix3 t n l) =
      m (c, Proc.tc.devRef main_arg0) (ix4 ⟨t.val / 4, by omega⟩ ⟨n.val / 8, by omega⟩ ⟨n.val % 8 * 4 + t.val % 4, by omega⟩ l) := by
  unfold V
  after_reads_at

theorem v38_at (c : Dev nD) (t : Fin 24) (n : Fin 16384) (l : Fin 96) :
    V m c main_v38 (ix3 t l n) =
      m (c, Proc.tc.devRef main_arg8) (ix4 ⟨t.val / 4, by omega⟩ ⟨n.val / 8, by omega⟩ ⟨n.val % 8 * 4 + t.val % 4, by omega⟩ l) := by
  unfold V
  after_reads_at

theorem v40_at (c : Dev nD) (t : Fin 24) (n : Fin 2048) (l : Fin 96) :
    V m c main_v40 (ix3 t l n) = m (c, Proc.tc.devRef main_arg2) (ix4 ⟨t.val / 4, by omega⟩ n ⟨t.val % 4, by omega⟩ l) := by
  unfold V
  after_reads_at

theorem v51_at (c : Dev nD) (t : Fin 24) (n : Fin 16384) :
    V m c main_v51 (ix3 t 0 n) = m (c, Proc.tc.devRef main_arg9) (ix2 ⟨t.val / 4, by omega⟩ ⟨n.val / 8, by omega⟩) := by
  unfold V
  after_reads_at

theorem sc_at (c : Dev nD) (t : Fin cfg0.N) (r : Fin 8) (l : Fin 128) :
    (inAt m c t).sc (ix3 0 r l) = V m c main_v11 (ix3 ⟨t.val, t.isLt⟩ r l) := by
  show iblk m c 0 t (ix3 0 r l) = _
  unfold iblk
  blk_simp
  blk_ext!
  all_goals (have := idx0 t; omega)

theorem dot_at (c : Dev nD) (t : Fin cfg0.N) (d : Fin 96) (n : Fin 16384) :
    (inAt m c t).dot (ix3 0 d n) = V m c main_v38 (ix3 ⟨t.val, t.isLt⟩ d n) := by
  show iblk m c 5 t (ix3 0 d n) = _
  unfold iblk
  blk_simp
  blk_ext!
  all_goals (have := idx5 t; omega)

theorem dost_at (c : Dev nD) (t : Fin cfg0.N) (n : Fin 16384) :
    (inAt m c t).dost (ix3 0 0 n) = V m c main_v51 (ix3 ⟨t.val, t.isLt⟩ 0 n) := by
  show iblk m c 6 t (ix3 0 0 n) = _
  unfold iblk
  blk_simp
  blk_ext!
  all_goals (have := idx6 t; omega)

theorem qr_at (c : Dev nD) (t : Fin cfg0.N) (n : Fin 16384) (d : Fin 96) :
    (inAt m c t).qr (ix3 0 n d) = V m c main_v30 (ix3 ⟨t.val, t.isLt⟩ n d) := by
  show iblk m c 7 t (ix3 0 n d) = _
  unfold iblk
  blk_simp
  blk_ext!
  all_goals (have := idx7 t; omega)

theorem lse_at (c : Dev nD) (t : Fin cfg0.N) (r : Fin 8) (l : Fin 2048) :
    (inAt m c t).lse (ix3 0 r l) = V m c main_v27 (ix3 ⟨t.val, t.isLt⟩ r l) := by
  show iblk m c 9 t (ix3 0 r l) = _
  unfold iblk
  blk_simp
  blk_ext!
  all_goals (have := idx9 t; omega)

theorem kt_at (c : Dev nD) (t : Fin cfg0.N) (d : Fin 96) (k : Fin 2048) :
    (inAt m c t).kt (ix3 0 d k) = V m c main_v40 (ix3 ⟨t.val, t.isLt⟩ d k) := by
  show iblk m c 10 t (ix3 0 d k) = _
  unfold iblk
  blk_simp
  blk_ext!
  all_goals (have := idx10 t; omega)

/-- The array of `dv` after the run, key positions along the columns. -/
def dvAll (c : Dev nD) : Vec Ideal S24x96x2048 .f32 := fun j => dvArr (inAt m c ⟨(j 0).val, (j 0).isLt⟩) (ix3 0 (j 1) (j 2))

theorem arr16 (c : Dev nD) : (dats m 0 c).arrAt 16 cfg0.N = dvAll m c := by
  refine (dats m 0 c).arrAt_eq_of_covers 16 _ (by decide +kernel) fun t hf y => ?_
  have e : ((cfg0.win 16).blk t).view.emb y = ix3 (⟨t.val, t.isLt⟩ : Fin 24) (y 1) (y 2) := by
    refine funext fun a => Fin.ext ?_
    obtain ⟨h0, h1, h2⟩ := idx16 t
    fin_cases a
    all_goals blk_simp
    · exact h0
    · show win0_16.index t 1 * 96 + (y 1).val = (y 1).val
      rw [h1]; omega
    · show win0_16.index t 2 * 2048 + (y 2).val = (y 2).val
      rw [h2]; omega
  rw [e, after0_16]
  show dvArr (inAt m c t) ((cfg0.win 16).xinj (cfg0.grid.coords t) y) = dvArr (inAt m c t) (ix3 0 (y 1) (y 2))
  refine congrArg (dvArr (inAt m c t)) (funext fun a => Fin.ext ?_)
  match a with
  | ⟨0, _⟩ => exact Nat.lt_one_iff.mp (y 0).isLt
  | ⟨1, _⟩ => rfl
  | ⟨2, _⟩ => rfl

end Cert.Proof.KernelIdeal
-- ==== Proof.KerIn2.lean ====
module

public import proofs.«01_k».proof.Proof.KerIn

@[expose] public section

/-! # The rest of what a grid point reads, and the arrays of `dq` and `dk` -/

set_option maxRecDepth 8192

noncomputable section

namespace Cert.Proof.KernelIdeal

open Cert.KernelIdeal Cert.KernelIdeal.Gen
open Idealize.ShloMosaic Idealize.ShloMosaic.TcCoe
open scoped BigOperators

variable (m : (ℓ : Loc nD τ sig) → Buf (Elt Ideal) ℓ)

theorem idx1 : ∀ t : Fin cfg0.N, win0_1.index t 0 = t.val ∧ win0_1.index t 1 = 0 ∧ win0_1.index t 2 = 0 := by decide +kernel
theorem idx2 : ∀ t : Fin cfg0.N, win0_2.index t 0 = t.val ∧ win0_2.index t 1 = 0 ∧ win0_2.index t 2 = 0 := by decide +kernel
theorem idx3 : ∀ t : Fin cfg0.N, win0_3.index t 0 = t.val ∧ win0_3.index t 1 = 0 ∧ win0_3.index t 2 = 0 := by decide +kernel
theorem idx4 : ∀ t : Fin cfg0.N, win0_4.index t 0 = t.val ∧ win0_4.index t 1 = 0 ∧ win0_4.index t 2 = 0 := by decide +kernel
theorem idx8 : ∀ t : Fin cfg0.N, win0_8.index t 0 = t.val ∧ win0_8.index t 1 = 0 ∧ win0_8.index t 2 = 0 := by decide +kernel
theorem idx11 : ∀ t : Fin cfg0.N, win0_11.index t 0 = t.val ∧ win0_11.index t 1 = 0 ∧ win0_11.index t 2 = 0 := by decide +kernel
theorem idx12 : ∀ t : Fin cfg0.N, win0_12.index t 0 = t.val ∧ win0_12.index t 1 = 0 ∧ win0_12.index t 2 = 0 := by decide +kernel
theorem idx13 : ∀ t : Fin cfg0.N, win0_13.index t 0 = t.val ∧ win0_13.index t 1 = 0 ∧ win0_13.index t 2 = 0 := by decide +kernel
theorem idx14 : ∀ t : Fin cfg0.N, win0_14.index t 0 = t.val ∧ win0_14.index t 1 = 0 ∧ win0_14.index t 2 = 0 := by decide +kernel
theorem idx15 : ∀ t : Fin cfg0.N, win0_15.index t 0 = t.val ∧ win0_15.index t 1 = 0 ∧ win0_15.index t 2 = 0 := by decide +kernel

theorem v33_at (c : Dev nD) (t : Fin 24) (n : Fin 16384) (l : Fin 96) :
    V m c main_v33 (ix3 t n l) = m (c, Proc.tc.devRef main_arg8) (ix4 ⟨t.val / 4, by omega⟩ ⟨n.val / 8, by omega⟩ ⟨n.val % 8 * 4 + t.val % 4, by omega⟩ l) := by
  unfold V
  after_reads_at

theorem v50_at (c : Dev nD) (t : Fin 24) (n : Fin 16384) :
    V m c main_v50 (ix3 t n 0) = m (c, Proc.tc.devRef main_arg9) (ix2 ⟨t.val / 4, by omega⟩ ⟨n.val / 8, by omega⟩) := by
  unfold V
  after_reads_at

theorem v37_at (c : Dev nD) (t : Fin 24) (n : Fin 16384) (l : Fin 96) :
    V m c main_v37 (ix3 t l n) = m (c, Proc.tc.devRef main_arg0) (ix4 ⟨t.val / 4, by omega⟩ ⟨n.val / 8, by omega⟩ ⟨n.val % 8 * 4 + t.val % 4, by omega⟩ l) := by
  unfold V
  after_reads_at

theorem v19_at (c : Dev nD) (t : Fin 24) (n : Fin 16384) :
    V m c main_v19 (ix3 t 0 n) = m (c, Proc.tc.devRef main_arg1) (ix1 ⟨n.val % 8 * 4 + t.val % 4, by omega⟩) := by
  unfold V
  after_reads_at

theorem v36_at (c : Dev nD) (t : Fin 24) (n : Fin 16384) (l : Fin 96) :
    V m c main_v36 (ix3 t n l) = m (c, Proc.tc.devRef main_arg6) (ix4 ⟨t.val / 4, by omega⟩ ⟨n.val / 8, by omega⟩ ⟨n.val % 8 * 4 + t.val % 4, by omega⟩ l) := by
  unfold V
  after_reads_at

theorem v42_at (c : Dev nD) (t : Fin 24) (n : Fin 2048) (l : Fin 96) :
    V m c main_v42 (ix3 t l n) = m (c, Proc.tc.devRef main_arg4) (ix4 ⟨t.val / 4, by omega⟩ n ⟨t.val % 4, by omega⟩ l) := by
  unfold V
  after_reads_at

theorem v24_at (c : Dev nD) (t : Fin 24)  :
    V m c main_v24 (ix3 t 0 0) = m (c, Proc.tc.devRef main_arg5) (ix1 ⟨t.val % 4, by omega⟩) := by
  unfold V
  after_reads_at

/-- The factor of `dq`, from the key scales. -/
def qscl (a : FVec Ideal S4 .f32) (t : Fin 24) : EReal := a (ix1 ⟨t.val % 4, by omega⟩) * Ideal.ofBits FTy.f32 0x3DD105EC#32

theorem v49_at (c : Dev nD) (t : Fin 24) (n : Fin 16384) : V m c main_v49 (ix3 t 0 n) = qscl (m (c, Proc.tc.devRef main_arg3)) t := by
  unfold V
  after_reads_at
  rfl

theorem dor_at (c : Dev nD) (t : Fin cfg0.N) (n : Fin 16384) (d : Fin 96) :
    (inAt m c t).dor (ix3 0 n d) = V m c main_v33 (ix3 ⟨t.val, t.isLt⟩ n d) := by
  show iblk m c 1 t (ix3 0 n d) = _
  unfold iblk
  blk_simp
  blk_ext!
  all_goals (have := idx1 t; omega)

theorem dos_at (c : Dev nD) (t : Fin cfg0.N) (n : Fin 16384) :
    (inAt m c t).dos (ix3 0 n 0) = V m c main_v50 (ix3 ⟨t.val, t.isLt⟩ n 0) := by
  show iblk m c 2 t (ix3 0 n 0) = _
  unfold iblk
  blk_simp
  blk_ext!
  all_goals (have := idx2 t; omega)

theorem qt_at (c : Dev nD) (t : Fin cfg0.N) (n : Fin 16384) (d : Fin 96) :
    (inAt m c t).qt (ix3 0 d n) = V m c main_v37 (ix3 ⟨t.val, t.isLt⟩ d n) := by
  show iblk m c 3 t (ix3 0 d n) = _
  unfold iblk
  blk_simp
  blk_ext!
  all_goals (have := idx3 t; omega)

theorem qs_at (c : Dev nD) (t : Fin cfg0.N) (n : Fin 16384) :
    (inAt m c t).qs (ix3 0 0 n) = V m c main_v19 (ix3 ⟨t.val, t.isLt⟩ 0 n) := by
  show iblk m c 4 t (ix3 0 0 n) = _
  unfold iblk
  blk_simp
  blk_ext!
  all_goals (have := idx4 t; omega)

theorem o_at (c : Dev nD) (t : Fin cfg0.N) (n : Fin 16384) (d : Fin 96) :
    (inAt m c t).o (ix3 0 n d) = V m c main_v36 (ix3 ⟨t.val, t.isLt⟩ n d) := by
  show iblk m c 8 t (ix3 0 n d) = _
  unfold iblk
  blk_simp
  blk_ext!
  all_goals (have := idx8 t; omega)

theorem vt_at (c : Dev nD) (t : Fin cfg0.N) (n : Fin 2048) (d : Fin 96) :
    (inAt m c t).vt (ix3 0 d n) = V m c main_v42 (ix3 ⟨t.val, t.isLt⟩ d n) := by
  show iblk m c 11 t (ix3 0 d n) = _
  unfold iblk
  blk_simp
  blk_ext!
  all_goals (have := idx11 t; omega)

theorem vs_at (c : Dev nD) (t : Fin cfg0.N)  :
    (inAt m c t).vs (ix3 0 0 0) = V m c main_v24 (ix3 ⟨t.val, t.isLt⟩ 0 0) := by
  show iblk m c 12 t (ix3 0 0 0) = _
  unfold iblk
  blk_simp
  blk_ext!
  all_goals (have := idx12 t; omega)

theorem dqs_at (c : Dev nD) (t : Fin cfg0.N) (n : Fin 16384) :
    (inAt m c t).dqs (ix3 0 0 n) = V m c main_v49 (ix3 ⟨t.val, t.isLt⟩ 0 n) := by
  show iblk m c 13 t (ix3 0 0 n) = _
  unfold iblk
  blk_simp
  blk_ext!
  all_goals (have := idx13 t; omega)

/-- The array of `dk` after the run. -/
def dkAll (c : Dev nD) : Vec Ideal S24x96x2048 .f32 := fun j => dkArr (inAt m c ⟨(j 0).val, (j 0).isLt⟩) (ix3 0 (j 1) (j 2))

theorem arr15 (c : Dev nD) : (dats m 0 c).arrAt 15 cfg0.N = dkAll m c := by
  refine (dats m 0 c).arrAt_eq_of_covers 15 _ (by decide +kernel) fun t hf y => ?_
  have e : ((cfg0.win 15).blk t).view.emb y = ix3 (⟨t.val, t.isLt⟩ : Fin 24) (y 1) (y 2) := by
    refine funext fun a => Fin.ext ?_
    obtain ⟨h0, h1, h2⟩ := idx15 t
    fin_cases a
    all_goals blk_simp
    · exact h0
    · show win0_15.index t 1 * 96 + (y 1).val = (y 1).val
      rw [h1]; omega
    · show win0_15.index t 2 * 2048 + (y 2).val = (y 2).val
      rw [h2]; omega
  rw [e, after0_15]
  show dkArr (inAt m c t) ((cfg0.win 15).xinj (cfg0.grid.coords t) y) = dkArr (inAt m c t) (ix3 0 (y 1) (y 2))
  refine congrArg (dkArr (inAt m c t)) (funext fun a => Fin.ext ?_)
  match a with
  | ⟨0, _⟩ => exact Nat.lt_one_iff.mp (y 0).isLt
  | ⟨1, _⟩ => rfl
  | ⟨2, _⟩ => rfl

/-- The array of `dq` after the run. -/
def dqAll (c : Dev nD) : Vec Ideal S24x16384x96 .bf16 := fun j => dqArr (inAt m c ⟨(j 0).val, (j 0).isLt⟩) (ix3 0 (j 1) (j 2))

theorem arr14 (c : Dev nD) : (dats m 0 c).arrAt 14 cfg0.N = dqAll m c := by
  refine (dats m 0 c).arrAt_eq_of_covers 14 _ (by decide +kernel) fun t hf y => ?_
  have e : ((cfg0.win 14).blk t).view.emb y = ix3 (⟨t.val, t.isLt⟩ : Fin 24) (y 1) (y 2) := by
    refine funext fun a => Fin.ext ?_
    obtain ⟨h0, h1, h2⟩ := idx14 t
    fin_cases a
    all_goals blk_simp
    · exact h0
    · show win0_14.index t 1 * 16384 + (y 1).val = (y 1).val
      rw [h1]; omega
    · show win0_14.index t 2 * 96 + (y 2).val = (y 2).val
      rw [h2]; omega
  rw [e, after0_14]
  show dqArr (inAt m c t) ((cfg0.win 14).xinj (cfg0.grid.coords t) y) = dqArr (inAt m c t) (ix3 0 (y 1) (y 2))
  refine congrArg (dqArr (inAt m c t)) (funext fun a => Fin.ext ?_)
  match a with
  | ⟨0, _⟩ => exact Nat.lt_one_iff.mp (y 0).isLt
  | ⟨1, _⟩ => rfl
  | ⟨2, _⟩ => rfl

end Cert.Proof.KernelIdeal
-- ==== Proof.Entry.lean ====
module

public import Idealize.ShloMosaic.Lib.Pointwise
public import Mathlib.Analysis.SpecialFunctions.Pow.Real

@[expose] public section

/-! # The results as both programs compute them, on the extended reals -/

noncomputable section

namespace Cert.Proof

open Idealize.ShloMosaic
open scoped BigOperators

/-- The arguments both programs take, as extended reals, and the factor `96 ^ (-1/2)`. -/
structure Args where
  q : Fin 6 → Fin 2048 → Fin 32 → Fin 96 → EReal
  qs : Fin 32 → EReal
  k : Fin 6 → Fin 2048 → Fin 4 → Fin 96 → EReal
  ks : Fin 4 → EReal
  v : Fin 6 → Fin 2048 → Fin 4 → Fin 96 → EReal
  vs : Fin 4 → EReal
  o : Fin 6 → Fin 2048 → Fin 32 → Fin 96 → EReal
  lse : Fin 6 → Fin 32 → Fin 2048 → EReal
  dO : Fin 6 → Fin 2048 → Fin 32 → Fin 96 → EReal
  dos : Fin 6 → Fin 2048 → EReal
  sm : EReal

/-- Query head `r` of key head `g`. -/
abbrev hd (r : Fin 8) (g : Fin 4) : Fin 32 := ⟨r.val * 4 + g.val, by omega⟩

/-- The probability of key position `k` at position `x`: 0 at a position before `k`. -/
def Args.prob (A : Args) (b : Fin 6) (x : Fin 2048) (r : Fin 8) (g : Fin 4) (k : Fin 2048) : EReal :=
  if k.val ≤ x.val then
    Ideal.exp ((∑ e : Fin 96, A.q b x (hd r g) e * A.k b k g e) * (A.qs (hd r g) * A.ks g * A.sm) - A.lse b (hd r g) x)
  else 0

/-- The gradient of a score: the probability times the difference of the scaled product with the value and the product with the output. -/
def Args.ds (A : Args) (b : Fin 6) (x : Fin 2048) (r : Fin 8) (g : Fin 4) (k : Fin 2048) : EReal :=
  A.prob b x r g k * ((∑ e : Fin 96, A.dO b x (hd r g) e * A.v b k g e) * A.dos b x * A.vs g
    - ∑ e : Fin 96, (A.dO b x (hd r g) e * A.dos b x) * A.o b x (hd r g) e)

/-- The gradient of the values. -/
def Args.dv (A : Args) (b : Fin 6) (k : Fin 2048) (g : Fin 4) (d : Fin 96) : EReal :=
  ∑ x : Fin 2048, ∑ r : Fin 8, (A.dO b x (hd r g) d * A.dos b x) * A.prob b x r g k

/-- The gradient of the keys. -/
def Args.dk (A : Args) (b : Fin 6) (k : Fin 2048) (g : Fin 4) (d : Fin 96) : EReal :=
  (∑ x : Fin 2048, ∑ r : Fin 8, (A.q b x (hd r g) d * A.qs (hd r g)) * A.ds b x r g k) * A.sm

/-- The gradient of the queries. -/
def Args.dq (A : Args) (b : Fin 6) (x : Fin 2048) (r : Fin 8) (g : Fin 4) (d : Fin 96) : EReal :=
  (∑ k : Fin 2048, A.k b k g d * A.ds b x r g k) * (A.ks g * A.sm)

/-- A product with scaled values is the scaled product, when the scales are nonnegative and finite. -/
theorem sum_scaled (f g : Fin 96 → EReal) (s t : EReal) (hs : 0 ≤ s) (hs' : s ≠ ⊤) (ht : 0 ≤ t) (ht' : t ≠ ⊤) :
    ∑ e : Fin 96, (f e * s) * (g e * t) = (∑ e : Fin 96, f e * g e) * s * t := by
  have h : ∀ (S : Finset (Fin 96)) (c : EReal), 0 ≤ c → c ≠ ⊤ → ∀ F : Fin 96 → EReal, (∑ e ∈ S, F e) * c = ∑ e ∈ S, F e * c := by
    intro S c hc hc' F
    induction S using Finset.induction_on with
    | empty => simp
    | insert a S ha ih => rw [Finset.sum_insert ha, Finset.sum_insert ha, EReal.right_distrib_of_nonneg_of_ne_top hc hc', ih]
  rw [h _ s hs hs', h _ t ht ht']
  refine Finset.sum_congr rfl fun e _ => ?_
  rw [mul_assoc, mul_assoc, mul_assoc, mul_left_comm s (g e) t]

/-- A power of two at a multiple of `log₂ e` is an exponential. -/
theorem exp2_mul_log2e (x : EReal) : Ideal.exp2 (x * (((Real.log 2)⁻¹ : ℝ) : EReal)) = Ideal.exp x := by
  have hl : (0 : ℝ) < (Real.log 2)⁻¹ := inv_pos.mpr (Real.log_pos (by norm_num))
  induction x with
  | bot => rw [EReal.bot_mul_coe_of_pos hl]; rfl
  | top => rw [EReal.top_mul_coe_of_pos hl]; rfl
  | coe r =>
    rw [← EReal.coe_mul]
    show ((Real.rpow 2 (r * (Real.log 2)⁻¹) : ℝ) : EReal) = (Real.exp r : EReal)
    refine congrArg _ ?_
    show (2 : ℝ) ^ (r * (Real.log 2)⁻¹) = _
    rw [Real.rpow_def_of_pos (by norm_num)]
    congr 1
    have : Real.log 2 ≠ 0 := (Real.log_pos (by norm_num)).ne'
    field_simp

/-- The kernel's exponent is the reference's times `log₂ e`. -/
theorem exp2_score (s c l : EReal) :
    Ideal.exp2 (s * (c * (((Real.log 2)⁻¹ : ℝ) : EReal)) - l * (((Real.log 2)⁻¹ : ℝ) : EReal)) = Ideal.exp (s * c - l) := by
  have hl : (0 : ℝ) < (Real.log 2)⁻¹ := inv_pos.mpr (Real.log_pos (by norm_num))
  rw [← exp2_mul_log2e (s * c - l), sub_eq_add_neg (s * c), EReal.right_distrib_of_nonneg_of_ne_top (EReal.coe_nonneg.mpr hl.le) (EReal.coe_ne_top _),
    EReal.neg_mul, ← sub_eq_add_neg, mul_assoc]

/-- A sum over rows is one over positions and heads. -/
theorem sum_rows (f : Fin 16384 → EReal) :
    ∑ n : Fin 16384, f n = ∑ x : Fin 2048, ∑ r : Fin 8, f ⟨x.val * 8 + r.val, by omega⟩ := by
  rw [← (finProdFinEquiv (m := 2048) (n := 8)).sum_comp (fun n : Fin (2048 * 8) => f n), Fintype.sum_prod_type]
  refine Finset.sum_congr rfl fun i _ => Finset.sum_congr rfl fun a _ => congrArg f (Fin.ext ?_)
  simp [finProdFinEquiv]; omega

end Cert.Proof
-- ==== Proof.KerTail.lean ====
module

public import proofs.«01_k».proof.Proof.KerGrad
public import proofs.«01_k».proof.Proof.KerIn2
public import proofs.«01_k».proof.Proof.Entry

@[expose] public section

/-! # The kernel's results at an index -/

set_option maxRecDepth 8192

noncomputable section

namespace Cert.Proof.KernelIdeal

open Cert.KernelIdeal Cert.KernelIdeal.Gen
open Idealize.ShloMosaic Idealize.ShloMosaic.TcCoe
open scoped BigOperators

abbrev sm : EReal := Ideal.ofBits FTy.f32 0x3DD105EC#32

/-- The operations after the kernel put the key head and the position in their places. -/
theorem tail_dv (W : Valuation τ sig (Elt Ideal)) (b : Fin 6) (k : Fin 2048) (g : Fin 4) (d : Fin 96) :
    StableHlo.after ([hostOps1].flatten) W (Proc.devRef .tc main_v63) (ix4 b k g d) =
      W (Proc.devRef .tc main_v52_2) (ix3 ⟨b.val * 4 + g.val, by omega⟩ d k) := by
  simp only [List.flatten_cons, List.flatten_nil, List.append_nil, List.cons_append, List.nil_append]
  after_reads_at

theorem tail_dk (W : Valuation τ sig (Elt Ideal)) (b : Fin 6) (k : Fin 2048) (g : Fin 4) (d : Fin 96) :
    StableHlo.after ([hostOps1].flatten) W (Proc.devRef .tc main_v62) (ix4 b k g d) =
      HMul.hMul (α := EReal) (β := EReal) (γ := EReal) (W (Proc.devRef .tc main_v52_1) (ix3 ⟨b.val * 4 + g.val, by omega⟩ d k)) sm := by
  simp only [List.flatten_cons, List.flatten_nil, List.append_nil, List.cons_append, List.nil_append]
  after_reads_at

theorem tail_dq (W : Valuation τ sig (Elt Ideal)) (b : Fin 6) (x : Fin 2048) (r : Fin 8) (g : Fin 4) (d : Fin 96) :
    StableHlo.after ([hostOps1].flatten) W (Proc.devRef .tc main_v55) (ix4 b x (hd r g) d) =
      W (Proc.devRef .tc main_v52_0) (ix3 ⟨b.val * 4 + g.val, by omega⟩ ⟨x.val * 8 + r.val, by omega⟩ d) := by
  have h1 : (r.val * 4 + g.val) % 4 = g.val := by omega
  have h2 : (r.val * 4 + g.val) / 4 = r.val := by omega
  simp only [List.flatten_cons, List.flatten_nil, List.append_nil, List.cons_append, List.nil_append]
  after_reads_at
  simp only [h1, h2]

/-- The grid point of batch `b` and key head `g`. -/
theorem tlt (b : Fin 6) (g : Fin 4) : b.val * 4 + g.val < 24 := by omega

variable (m : (ℓ : Loc nD τ sig) → Buf (Elt Ideal) ℓ)

/-- The arguments, from the memory the program starts in. -/
def argsM (c : Dev nD) : Args where
  q := fun b x h e => m (c.tc.loc main_arg0) (ix4 b x h e)
  qs := fun h => m (c.tc.loc main_arg1) (ix1 h)
  k := fun b x h e => m (c.tc.loc main_arg2) (ix4 b x h e)
  ks := fun h => m (c.tc.loc main_arg3) (ix1 h)
  v := fun b x h e => m (c.tc.loc main_arg4) (ix4 b x h e)
  vs := fun h => m (c.tc.loc main_arg5) (ix1 h)
  o := fun b x h e => m (c.tc.loc main_arg6) (ix4 b x h e)
  lse := fun b h x => m (c.tc.loc main_arg7) (ix3 b h x)
  dO := fun b x h e => m (c.tc.loc main_arg8) (ix4 b x h e)
  dos := fun b x => m (c.tc.loc main_arg9) (ix2 b x)
  sm := sm

/-- The scales of the output gradient and of the values are nonnegative and finite. -/
def ScalesNonneg (c : Dev nD) : Prop :=
  (∀ b x, 0 ≤ (argsM m c).dos b x ∧ (argsM m c).dos b x ≠ ⊤) ∧ ∀ g, 0 ≤ (argsM m c).vs g ∧ (argsM m c).vs g ≠ ⊤

/-- The score factor of the grid point of batch `b` and key head `g`. -/
abbrev scF (c : Dev nD) (b : Fin 6) (g : Fin 4) : Fin 8 → EReal :=
  scl (m (c, Proc.tc.devRef main_arg1)) (m (c, Proc.tc.devRef main_arg3)) ⟨b.val * 4 + g.val, tlt b g⟩

section
variable (c : Dev nD) (b : Fin 6) (x : Fin 2048) (r : Fin 8) (k : Fin 2048) (g : Fin 4) (d : Fin 96)

theorem sc_all (r : Fin 8) (l : Fin 128) : (inAt m c ⟨b.val * 4 + g.val, tlt b g⟩).sc (ix3 0 r l) = scF m c b g r :=
  (sc_at m c _ r l).trans (v11_at m c ⟨b.val * 4 + g.val, tlt b g⟩ r l)

/-- The probability of a grid point's row and key, in the program's arguments. -/
theorem pr_at : pr (inAt m c ⟨b.val * 4 + g.val, tlt b g⟩) (scF m c b g) ⟨x.val * 8 + r.val, by omega⟩ k = (argsM m c).prob b x r g k := by
  have hx : (x.val * 8 + r.val) / 8 = x.val := by omega
  have hr : (x.val * 8 + r.val) % 8 = r.val := by omega
  have hq : (b.val * 4 + g.val) / 4 = b.val := by omega
  have hg : (b.val * 4 + g.val) % 4 = g.val := by omega
  unfold pr Args.prob
  have hc : k.val ≤ (x.val * 8 + r.val) / 8 ↔ k.val ≤ x.val := by rw [hx]
  refine if_congr hc ?_ rfl
  rw [log2e, exp2_score]
  refine congrArg Ideal.exp (congrArg₂ HSub.hSub (congrArg₂ HMul.hMul (Finset.sum_congr rfl fun e _ => ?_) ?_) ?_)
  · rw [qr_at, kt_at, v30_at, v40_at]
    simp only [hx, hr, hq, hg]
    rfl
  · unfold scF scl
    simp only [hr, hg]
    rfl
  · rw [lse_at, v27_at]
    simp only [hx, hr, hq, hg]
    rfl

/-- A row's output gradient, scaled. -/
theorem dors_at : (inAt m c ⟨b.val * 4 + g.val, tlt b g⟩).dor (ix3 0 ⟨x.val * 8 + r.val, by omega⟩ d) *
    (inAt m c ⟨b.val * 4 + g.val, tlt b g⟩).dos (ix3 0 ⟨x.val * 8 + r.val, by omega⟩ 0) = (argsM m c).dO b x (hd r g) d * (argsM m c).dos b x := by
  have hx : (x.val * 8 + r.val) / 8 = x.val := by omega
  have hr : (x.val * 8 + r.val) % 8 = r.val := by omega
  have hq : (b.val * 4 + g.val) / 4 = b.val := by omega
  have hg : (b.val * 4 + g.val) % 4 = g.val := by omega
  rw [dor_at, v33_at, dos_at, v50_at]
  simp only [hx, hr, hq, hg]
  rfl

/-- The gradient of a score of a grid point's row and key, in the program's arguments. -/
theorem dsv_at (hs : ScalesNonneg m c) :
    dsv (inAt m c ⟨b.val * 4 + g.val, tlt b g⟩) (scF m c b g) ⟨x.val * 8 + r.val, by omega⟩ k = (argsM m c).ds b x r g k := by
  have hx : (x.val * 8 + r.val) / 8 = x.val := by omega
  have hr : (x.val * 8 + r.val) % 8 = r.val := by omega
  have hq : (b.val * 4 + g.val) / 4 = b.val := by omega
  have hg : (b.val * 4 + g.val) % 4 = g.val := by omega
  unfold dsv Args.ds
  refine congrArg₂ HMul.hMul (pr_at m c b x r k g) (congrArg₂ HSub.hSub ?_ ?_)
  · rw [← sum_scaled _ _ _ _ (hs.1 b x).1 (hs.1 b x).2 (hs.2 g).1 (hs.2 g).2]
    unfold dpv
    refine Finset.sum_congr rfl fun e _ => congrArg₂ HMul.hMul (dors_at m c b x r g e) ?_
    rw [vt_at, v42_at, vs_at, v24_at]
    simp only [hq, hg]
    rfl
  · unfold dlt
    refine Finset.sum_congr rfl fun e _ => congrArg₂ HMul.hMul (dors_at m c b x r g e) ?_
    rw [o_at, v36_at]
    simp only [hx, hr, hq, hg]
    rfl

/-- A grid point's block of `dv`, in the program's arguments. -/
theorem dvArr_at : dvAll m c (ix3 ⟨b.val * 4 + g.val, tlt b g⟩ d k) = (argsM m c).dv b k g d := by
  have hk : k.val / 256 < 8 := by omega
  have hb : k.val % 256 < 256 := by omega
  have e0 : dvAll m c (ix3 ⟨b.val * 4 + g.val, tlt b g⟩ d k) =
      dvSum (inAt m c ⟨b.val * 4 + g.val, tlt b g⟩) ⟨k.val / 256, hk⟩ (14 - 2 * (k.val / 256)) (ix3 0 d ⟨k.val % 256, hb⟩) := by
    show dvSum (inAt m c ⟨b.val * 4 + g.val, tlt b g⟩) ⟨k.val / 256, hk⟩ (14 - 2 * (k.val / 256)) _ = _
    refine congrArg _ (funext fun a => ?_)
    match a with
    | ⟨0, _⟩ => rfl
    | ⟨1, _⟩ => rfl
    | ⟨2, _⟩ => rfl
  have ek : (⟨256 * (k.val / 256) + k.val % 256, by omega⟩ : Fin 2048) = k := Fin.ext (by show 256 * (k.val / 256) + k.val % 256 = k.val; omega)
  rw [e0, dvSum_all (inAt m c ⟨b.val * 4 + g.val, tlt b g⟩) (scF m c b g) (sc_all m c b g) ⟨k.val / 256, hk⟩ d ⟨k.val % 256, hb⟩, sum_rows]
  simp only [ek]
  unfold Args.dv
  refine Finset.sum_congr rfl fun x _ => Finset.sum_congr rfl fun r _ => congrArg₂ HMul.hMul ?_ (pr_at m c b x r k g)
  have hx : (x.val * 8 + r.val) / 8 = x.val := by omega
  have hr : (x.val * 8 + r.val) % 8 = r.val := by omega
  have hq : (b.val * 4 + g.val) / 4 = b.val := by omega
  have hg : (b.val * 4 + g.val) % 4 = g.val := by omega
  rw [dot_at, v38_at, dost_at, v51_at]
  simp only [hx, hr, hq, hg]
  rfl

/-- A grid point's block of `dk`, in the program's arguments. -/
theorem dkArr_at (hs : ScalesNonneg m c) :
    HMul.hMul (α := EReal) (β := EReal) (γ := EReal) (dkAll m c (ix3 ⟨b.val * 4 + g.val, tlt b g⟩ d k)) sm = (argsM m c).dk b k g d := by
  have e0 : dkAll m c (ix3 ⟨b.val * 4 + g.val, tlt b g⟩ d k) = dkArr (inAt m c ⟨b.val * 4 + g.val, tlt b g⟩) (ix3 0 d k) := rfl
  rw [e0, dkArr_apply _ _ (sc_all m c b g), sum_rows]
  unfold Args.dk
  refine congrArg₂ HMul.hMul (Finset.sum_congr rfl fun x _ => Finset.sum_congr rfl fun r _ => congrArg₂ HMul.hMul ?_ (dsv_at m c b x r k g hs)) rfl
  have hx : (x.val * 8 + r.val) / 8 = x.val := by omega
  have hr : (x.val * 8 + r.val) % 8 = r.val := by omega
  have hq : (b.val * 4 + g.val) / 4 = b.val := by omega
  have hg : (b.val * 4 + g.val) % 4 = g.val := by omega
  rw [qt_at, v37_at, qs_at, v19_at]
  simp only [hx, hr, hq, hg]
  rfl

/-- A grid point's block of `dq`, in the program's arguments. -/
theorem dqArr_at (hs : ScalesNonneg m c) :
    dqAll m c (ix3 ⟨b.val * 4 + g.val, tlt b g⟩ ⟨x.val * 8 + r.val, by omega⟩ d) = (argsM m c).dq b x r g d := by
  have e0 : dqAll m c (ix3 ⟨b.val * 4 + g.val, tlt b g⟩ ⟨x.val * 8 + r.val, by omega⟩ d) =
    dqArr (inAt m c ⟨b.val * 4 + g.val, tlt b g⟩) (ix3 0 ⟨x.val * 8 + r.val, by omega⟩ d) := rfl
  have hq : (b.val * 4 + g.val) / 4 = b.val := by omega
  have hg : (b.val * 4 + g.val) % 4 = g.val := by omega
  rw [e0, dqArr_apply _ _ (sc_all m c b g)]
  unfold Args.dq
  refine congrArg₂ HMul.hMul (Finset.sum_congr rfl fun k _ => congrArg₂ HMul.hMul ?_ (dsv_at m c b x r k g hs)) ?_
  · rw [kt_at, v40_at]
    simp only [hq, hg]
    rfl
  · rw [dqs_at, v49_at]
    unfold qscl
    simp only [hg]
    rfl

/-- The kernel's `dv`. -/
theorem result_dv : Pipeline.afterTail₀ cfgs (dats m) 0 (V0 m) [hostOps1] c main_v63 (ix4 b k g d) = (argsM m c).dv b k g d := by
  unfold Pipeline.afterTail₀
  rw [tail_dv]
  have h0 := (Pipeline.withArrays_arr spec0 launch0.win.arr_inj c (V0 m c) (fun w => (dats m 0 c).arrAt w cfg0.N) 16).trans (arr16 m c)
  exact (congrFun h0 _).trans (dvArr_at m c b k g d)

/-- The kernel's `dk`. -/
theorem result_dk (hs : ScalesNonneg m c) :
    Pipeline.afterTail₀ cfgs (dats m) 0 (V0 m) [hostOps1] c main_v62 (ix4 b k g d) = (argsM m c).dk b k g d := by
  unfold Pipeline.afterTail₀
  rw [tail_dk]
  have h0 := (Pipeline.withArrays_arr spec0 launch0.win.arr_inj c (V0 m c) (fun w => (dats m 0 c).arrAt w cfg0.N) 15).trans (arr15 m c)
  exact (congrArg (fun z : EReal => z * sm) (congrFun h0 _)).trans (dkArr_at m c b k g d hs)

/-- The kernel's `dq`. -/
theorem result_dq (hs : ScalesNonneg m c) :
    Pipeline.afterTail₀ cfgs (dats m) 0 (V0 m) [hostOps1] c main_v55 (ix4 b x (hd r g) d) = (argsM m c).dq b x r g d := by
  unfold Pipeline.afterTail₀
  rw [tail_dq]
  have h0 := (Pipeline.withArrays_arr spec0 launch0.win.arr_inj c (V0 m c) (fun w => (dats m 0 c).arrAt w cfg0.N) 14).trans (arr14 m c)
  exact (congrFun h0 _).trans (dqArr_at m c b x r g d hs)

end

end Cert.Proof.KernelIdeal
-- ==== Proof.RefValue.lean ====
module

public import proofs.«01_k».proof.Proof.Gen.ReferenceIdeal
public import proofs.«01_k».proof.Proof.Gen.ReferenceIdeal.Frame
public import proofs.«01_k».proof.Proof.Entry
public import Idealize.ShloMosaic.Lib.Pointwise
public import Idealize.ShloMosaic.Lib.StableHlo.ReadAt
public import Idealize.ShloMosaic.Lib.Pipeline.ValueKit.Point
public import Idealize.ShloMosaic.Lib.TwoAxisContraction
public import Idealize.ShloMosaic.Lib.Claim

@[expose] public section

/-! # The reference's result at an index -/

set_option maxRecDepth 8192

noncomputable section

namespace Cert.Proof.ReferenceIdeal

open Cert.ReferenceIdeal Cert.ReferenceIdeal.Gen
open Idealize.ShloMosaic Idealize.ShloMosaic.TcCoe
open scoped BigOperators

/-- The factor `96 ^ (-1/2)` as both programs write it. -/
abbrev sm : EReal := Ideal.ofBits FTy.f32 0x3DD105EC#32

theorem ofBits_negInf : Ideal.ofBits .f32 0xFF800000#32 = (⊥ : EReal) := by simp [Ideal.ofBits, Ideal.ieee]

theorem sle_pos (k x : Fin 2048) : (BitVec.ofNat 32 k.val).sle (BitVec.ofNat 32 x.val) = decide (k.val ≤ x.val) := by
  have e : ∀ n : Nat, n < 2 ^ 31 → (BitVec.ofNat 32 n).toInt = n := fun n hn => by
    rw [BitVec.toInt_eq_toNat_of_lt] <;> rw [BitVec.toNat_ofNat, Nat.mod_eq_of_lt (by omega)]
    omega
  rw [BitVec.sle_eq_decide, e _ (by omega), e _ (by omega)]
  simp only [decide_eq_decide]; omega

/-- The exponential of a score with the causal mask before the subtraction. -/
theorem exp_masked (k x : Fin 2048) (s l : EReal) :
    Ideal.exp (Scalar.select (IntOp.cmpi CmpIPredicate.sle (BitVec.ofNat 32 k.val) (BitVec.ofNat 32 x.val)) s ⊥ - l)
      = if k.val ≤ x.val then Ideal.exp (s - l) else 0 := by
  unfold Scalar.select IntOp.cmpi
  rw [sle_pos]
  by_cases h : k.val ≤ x.val
  · rw [if_pos h, decide_eq_true h]; rfl
  · rw [if_neg h, decide_eq_false h]
    show Ideal.exp (⊥ - l) = 0
    rw [sub_eq_add_neg, EReal.bot_add]; rfl

/-- The arguments, from the buffers the pallas_call of the codes leaves. -/
def argsW (W : Valuation τ sig (Elt Ideal)) : Args where
  q := fun b x h e => W (Proc.devRef .tc main_v0_0) (ix4 b x h e)
  qs := fun h => W (Proc.devRef .tc main_arg1) (ix1 h)
  k := fun b x h e => W (Proc.devRef .tc main_v0_1) (ix4 b x h e)
  ks := fun h => W (Proc.devRef .tc main_arg3) (ix1 h)
  v := fun b x h e => W (Proc.devRef .tc main_v0_2) (ix4 b x h e)
  vs := fun h => W (Proc.devRef .tc main_arg5) (ix1 h)
  o := fun b x h e => W (Proc.devRef .tc main_arg6) (ix4 b x h e)
  lse := fun b h x => W (Proc.devRef .tc main_arg7) (ix3 b h x)
  dO := fun b x h e => W (Proc.devRef .tc main_v0_3) (ix4 b x h e)
  dos := fun b x => W (Proc.devRef .tc main_arg9) (ix2 b x)
  sm := sm

/-- The score's gradient as the host operations write it. -/
theorem ds_eq (A : Args) (b : Fin 6) (x : Fin 2048) (r : Fin 8) (g : Fin 4) (k : Fin 2048) (z : EReal) (hz : z = ⊥) :
    Ideal.exp (Scalar.select (IntOp.cmpi CmpIPredicate.sle (BitVec.ofNat 32 k.val) (BitVec.ofNat 32 x.val))
        ((∑ e : Fin 96, A.k b k g e * A.q b x (hd r g) e) * (A.qs (hd r g) * A.ks g * A.sm)) z - A.lse b (hd r g) x) *
      ((∑ e : Fin 96, A.v b k g e * A.dO b x (hd r g) e) * A.dos b x * A.vs g
        - ∑ e : Fin 96, (A.dO b x (hd r g) e * A.dos b x) * A.o b x (hd r g) e) = A.ds b x r g k := by
  rw [hz, exp_masked]
  unfold Args.ds Args.prob
  rw [Finset.sum_congr rfl fun e _ => mul_comm (A.k b k g e) (A.q b x (hd r g) e),
    Finset.sum_congr rfl fun e _ => mul_comm (A.v b k g e) (A.dO b x (hd r g) e)]

theorem negInf_at : id (constant (F := Ideal) S_ FTy.f32 0xFF800000#32) ix0 = (⊥ : EReal) := ofBits_negInf

theorem dv_at (W : Valuation τ sig (Elt Ideal)) (b : Fin 6) (k : Fin 2048) (g : Fin 4) (d : Fin 96) :
    StableHlo.after ([hostOps1, hostOps1_1, hostOps1_2].flatten) W (Proc.devRef .tc main_v71) (ix4 b k g d) = (argsW W).dv b k g d := by
  simp only [List.flatten_cons, List.flatten_nil, List.append_nil, List.cons_append, List.nil_append]
  after_reads_at
  unfold Args.dv Args.prob
  refine Finset.sum_congr rfl fun x _ => Finset.sum_congr rfl fun r _ => congrArg (HMul.hMul _) ?_
  rw [negInf_at, exp_masked]
  refine if_congr Iff.rfl (congrArg Ideal.exp ?_) rfl
  refine congrArg₂ HSub.hSub (congrArg₂ HMul.hMul ?_ rfl) rfl
  exact Finset.sum_congr rfl fun e _ => mul_comm _ _

theorem dk_at (W : Valuation τ sig (Elt Ideal)) (b : Fin 6) (k : Fin 2048) (g : Fin 4) (d : Fin 96) :
    StableHlo.after ([hostOps1, hostOps1_1, hostOps1_2].flatten) W (Proc.devRef .tc main_v70) (ix4 b k g d) = (argsW W).dk b k g d := by
  simp only [List.flatten_cons, List.flatten_nil, List.append_nil, List.cons_append, List.nil_append]
  after_reads_at
  unfold Args.dk
  refine congrArg₂ HMul.hMul (Finset.sum_congr rfl fun x _ => Finset.sum_congr rfl fun r _ => congrArg (HMul.hMul _) ?_) rfl
  exact ds_eq (argsW W) b x r g k _ negInf_at

theorem dq_at (W : Valuation τ sig (Elt Ideal)) (b : Fin 6) (x : Fin 2048) (r : Fin 8) (g : Fin 4) (d : Fin 96) :
    StableHlo.after ([hostOps1, hostOps1_1, hostOps1_2].flatten) W (Proc.devRef .tc main_v62) (ix4 b x (hd r g) d) = (argsW W).dq b x r g d := by
  simp only [List.flatten_cons, List.flatten_nil, List.append_nil, List.cons_append, List.nil_append]
  after_reads_at
  have e1 : (⟨(r.val * 4 + g.val) % 4, by omega⟩ : Fin 4) = g := Fin.ext (by show (r.val * 4 + g.val) % 4 = g.val; omega)
  have e2 : (⟨(r.val * 4 + g.val) / 4 * 4 + (r.val * 4 + g.val) % 4, by omega⟩ : Fin 32) = hd r g :=
    Fin.ext (by show (r.val * 4 + g.val) / 4 * 4 + (r.val * 4 + g.val) % 4 = r.val * 4 + g.val; omega)
  simp only [e1, e2]
  unfold Args.dq
  refine congrArg₂ HMul.hMul (Finset.sum_congr rfl fun k _ => congrArg (HMul.hMul _) ?_) rfl
  exact ds_eq (argsW W) b x r g k _ negInf_at

variable (m : (ℓ : Loc nD τ sig) → Buf (Elt Ideal) ℓ)

/-- The arguments, from the memory the program starts in. -/
def argsM (c : Dev nD) : Args where
  q := fun b x h e => m (c.tc.loc main_arg0) (ix4 b x h e)
  qs := fun h => m (c.tc.loc main_arg1) (ix1 h)
  k := fun b x h e => m (c.tc.loc main_arg2) (ix4 b x h e)
  ks := fun h => m (c.tc.loc main_arg3) (ix1 h)
  v := fun b x h e => m (c.tc.loc main_arg4) (ix4 b x h e)
  vs := fun h => m (c.tc.loc main_arg5) (ix1 h)
  o := fun b x h e => m (c.tc.loc main_arg6) (ix4 b x h e)
  lse := fun b h x => m (c.tc.loc main_arg7) (ix3 b h x)
  dO := fun b x h e => m (c.tc.loc main_arg8) (ix4 b x h e)
  dos := fun b x => m (c.tc.loc main_arg9) (ix2 b x)
  sm := sm

theorem arr4 (c : Dev nD) : (dats m 0 c).arrAt 4 cfg0.N = (fun j => m (c, Proc.tc.devRef main_arg0) j : Vec Ideal S6x2048x32x96 .bf16) := by
  refine (dats m 0 c).arrAt_eq_of_covers 4 _ (by decide +kernel) fun t hf y => ?_
  blk_simp
  rw [after0_4]
  frame_out
  rfl

theorem arr5 (c : Dev nD) : (dats m 0 c).arrAt 5 cfg0.N = (fun j => m (c, Proc.tc.devRef main_arg2) j : Vec Ideal S6x2048x4x96 .bf16) := by
  refine (dats m 0 c).arrAt_eq_of_covers 5 _ (by decide +kernel) fun t hf y => ?_
  blk_simp
  rw [after0_5]
  frame_out
  rfl

theorem arr6 (c : Dev nD) : (dats m 0 c).arrAt 6 cfg0.N = (fun j => m (c, Proc.tc.devRef main_arg4) j : Vec Ideal S6x2048x4x96 .bf16) := by
  refine (dats m 0 c).arrAt_eq_of_covers 6 _ (by decide +kernel) fun t hf y => ?_
  blk_simp
  rw [after0_6]
  frame_out
  rfl

theorem arr7 (c : Dev nD) : (dats m 0 c).arrAt 7 cfg0.N = (fun j => m (c, Proc.tc.devRef main_arg8) j : Vec Ideal S6x2048x32x96 .bf16) := by
  refine (dats m 0 c).arrAt_eq_of_covers 7 _ (by decide +kernel) fun t hf y => ?_
  blk_simp
  rw [after0_7]
  frame_out
  rfl

theorem args_eq (c : Dev nD) :
    argsW (Pipeline.withArrays (cfgs 0).spec c (V0 m c) fun w => (dats m 0 c).arrAt w (cfgs 0).N) = argsM m c := by
  have k0 := (Pipeline.withArrays_arr spec0 launch0.win.arr_inj c (V0 m c) (fun w => (dats m 0 c).arrAt w cfg0.N) 4).trans (arr4 m c)
  have k1 := (Pipeline.withArrays_arr spec0 launch0.win.arr_inj c (V0 m c) (fun w => (dats m 0 c).arrAt w cfg0.N) 5).trans (arr5 m c)
  have k2 := (Pipeline.withArrays_arr spec0 launch0.win.arr_inj c (V0 m c) (fun w => (dats m 0 c).arrAt w cfg0.N) 6).trans (arr6 m c)
  have k3 := (Pipeline.withArrays_arr spec0 launch0.win.arr_inj c (V0 m c) (fun w => (dats m 0 c).arrAt w cfg0.N) 7).trans (arr7 m c)
  have g1 := Pipeline.withArrays_of_ne spec0 c (V0 m c) (fun w => (dats m 0 c).arrAt w cfg0.N) main_arg1 (by exact (by decide : ∀ w, Pipeline.arrRef spec0 w ≠ main_arg1))
  have g3 := Pipeline.withArrays_of_ne spec0 c (V0 m c) (fun w => (dats m 0 c).arrAt w cfg0.N) main_arg3 (by exact (by decide : ∀ w, Pipeline.arrRef spec0 w ≠ main_arg3))
  have g5 := Pipeline.withArrays_of_ne spec0 c (V0 m c) (fun w => (dats m 0 c).arrAt w cfg0.N) main_arg5 (by exact (by decide : ∀ w, Pipeline.arrRef spec0 w ≠ main_arg5))
  have g6 := Pipeline.withArrays_of_ne spec0 c (V0 m c) (fun w => (dats m 0 c).arrAt w cfg0.N) main_arg6 (by exact (by decide : ∀ w, Pipeline.arrRef spec0 w ≠ main_arg6))
  have g7 := Pipeline.withArrays_of_ne spec0 c (V0 m c) (fun w => (dats m 0 c).arrAt w cfg0.N) main_arg7 (by exact (by decide : ∀ w, Pipeline.arrRef spec0 w ≠ main_arg7))
  have g9 := Pipeline.withArrays_of_ne spec0 c (V0 m c) (fun w => (dats m 0 c).arrAt w cfg0.N) main_arg9 (by exact (by decide : ∀ w, Pipeline.arrRef spec0 w ≠ main_arg9))
  have e0 : ∀ j, Pipeline.withArrays (cfgs 0).spec c (V0 m c) (fun w => (dats m 0 c).arrAt w (cfgs 0).N) (Proc.devRef .tc main_v0_0) j = m (c.tc.loc main_arg0) j := fun j => congrFun k0 j
  have e1 : ∀ j, Pipeline.withArrays (cfgs 0).spec c (V0 m c) (fun w => (dats m 0 c).arrAt w (cfgs 0).N) (Proc.devRef .tc main_v0_1) j = m (c.tc.loc main_arg2) j := fun j => congrFun k1 j
  have e2 : ∀ j, Pipeline.withArrays (cfgs 0).spec c (V0 m c) (fun w => (dats m 0 c).arrAt w (cfgs 0).N) (Proc.devRef .tc main_v0_2) j = m (c.tc.loc main_arg4) j := fun j => congrFun k2 j
  have e3 : ∀ j, Pipeline.withArrays (cfgs 0).spec c (V0 m c) (fun w => (dats m 0 c).arrAt w (cfgs 0).N) (Proc.devRef .tc main_v0_3) j = m (c.tc.loc main_arg8) j := fun j => congrFun k3 j
  have f1 : ∀ j, Pipeline.withArrays (cfgs 0).spec c (V0 m c) (fun w => (dats m 0 c).arrAt w (cfgs 0).N) (Proc.devRef .tc main_arg1) j = m (c.tc.loc main_arg1) j := fun j => congrFun g1 j
  have f3 : ∀ j, Pipeline.withArrays (cfgs 0).spec c (V0 m c) (fun w => (dats m 0 c).arrAt w (cfgs 0).N) (Proc.devRef .tc main_arg3) j = m (c.tc.loc main_arg3) j := fun j => congrFun g3 j
  have f5 : ∀ j, Pipeline.withArrays (cfgs 0).spec c (V0 m c) (fun w => (dats m 0 c).arrAt w (cfgs 0).N) (Proc.devRef .tc main_arg5) j = m (c.tc.loc main_arg5) j := fun j => congrFun g5 j
  have f6 : ∀ j, Pipeline.withArrays (cfgs 0).spec c (V0 m c) (fun w => (dats m 0 c).arrAt w (cfgs 0).N) (Proc.devRef .tc main_arg6) j = m (c.tc.loc main_arg6) j := fun j => congrFun g6 j
  have f7 : ∀ j, Pipeline.withArrays (cfgs 0).spec c (V0 m c) (fun w => (dats m 0 c).arrAt w (cfgs 0).N) (Proc.devRef .tc main_arg7) j = m (c.tc.loc main_arg7) j := fun j => congrFun g7 j
  have f9 : ∀ j, Pipeline.withArrays (cfgs 0).spec c (V0 m c) (fun w => (dats m 0 c).arrAt w (cfgs 0).N) (Proc.devRef .tc main_arg9) j = m (c.tc.loc main_arg9) j := fun j => congrFun g9 j
  unfold argsW argsM
  simp only [e0, e1, e2, e3, f1, f3, f5, f6, f7, f9]

/-- The reference's `dq`. -/
theorem result_dq (c : Dev nD) (b : Fin 6) (x : Fin 2048) (r : Fin 8) (g : Fin 4) (d : Fin 96) :
    Pipeline.afterTail₀ cfgs (dats m) 0 (V0 m) [hostOps1, hostOps1_1, hostOps1_2] c main_v62 (ix4 b x (hd r g) d) = (argsM m c).dq b x r g d := by
  unfold Pipeline.afterTail₀
  rw [dq_at, args_eq]

/-- The reference's `dk`. -/
theorem result_dk (c : Dev nD) (b : Fin 6) (k : Fin 2048) (g : Fin 4) (d : Fin 96) :
    Pipeline.afterTail₀ cfgs (dats m) 0 (V0 m) [hostOps1, hostOps1_1, hostOps1_2] c main_v70 (ix4 b k g d) = (argsM m c).dk b k g d := by
  unfold Pipeline.afterTail₀
  rw [dk_at, args_eq]

/-- The reference's `dv`. -/
theorem result_dv (c : Dev nD) (b : Fin 6) (k : Fin 2048) (g : Fin 4) (d : Fin 96) :
    Pipeline.afterTail₀ cfgs (dats m) 0 (V0 m) [hostOps1, hostOps1_1, hostOps1_2] c main_v71 (ix4 b k g d) = (argsM m c).dv b k g d := by
  unfold Pipeline.afterTail₀
  rw [dv_at, args_eq]

end Cert.Proof.ReferenceIdeal
-- ==== Proof.Equal.lean ====
module

public import proofs.«01_k».proof.Defs
public import proofs.«01_k».proof.Proof.PreScales
public import proofs.«01_k».proof.Proof.KerTail
public import proofs.«01_k».proof.Proof.RefValue

@[expose] public section

/-! # The two programs' results are equal -/

noncomputable section

namespace Cert.Proof

open Idealize.ShloMosaic Idealize.ShloMosaic.TcCoe

/-- Every query head is one of some key head. -/
theorem hd_surj (h : Fin 32) : ∃ (r : Fin 8) (g : Fin 4), h = hd r g :=
  ⟨⟨h.val / 4, by omega⟩, ⟨h.val % 4, by omega⟩, Fin.ext (by show h.val = h.val / 4 * 4 + h.val % 4; omega)⟩

theorem algebraic : Cert.algebraic_KernelIdeal_ReferenceIdeal_pre_scales_nonneg (hKernelIdeal := Cert.KernelIdeal.Gen.facts)
    (hReferenceIdeal := Cert.ReferenceIdeal.Gen.facts) (hPre_scales_nonneg := PreScales.facts) := by
  intro m g m' g' hpre hagree
  have hs : ∀ c, Cert.Proof.KernelIdeal.ScalesNonneg m c := fun c =>
    have h := PreScales.scales _ _ _ _ _ _ _ _ _ _ (hpre c)
    ⟨fun b x => h.1 _, fun g => h.2 _⟩
  have ea : ∀ c, Cert.Proof.ReferenceIdeal.argsM m' c = Cert.Proof.KernelIdeal.argsM m c := by
    intro c
    obtain ⟨h0, h1, h2, h3, h4, h5, h6, h7, h8, h9⟩ := hagree c
    unfold Cert.Proof.ReferenceIdeal.argsM Cert.Proof.KernelIdeal.argsM
    rw [h0, h1, h2, h3, h4, h5, h6, h7, h8, h9]
  refine ⟨
    fun c => Pipeline.afterTail₀ Cert.KernelIdeal.cfgs (Cert.Proof.KernelIdeal.dats m) 0 (Cert.KernelIdeal.Gen.V0 m) [Cert.KernelIdeal.Gen.hostOps1] c Cert.KernelIdeal.main_v55,
    fun c => Pipeline.afterTail₀ Cert.KernelIdeal.cfgs (Cert.Proof.KernelIdeal.dats m) 0 (Cert.KernelIdeal.Gen.V0 m) [Cert.KernelIdeal.Gen.hostOps1] c Cert.KernelIdeal.main_v62,
    fun c => Pipeline.afterTail₀ Cert.KernelIdeal.cfgs (Cert.Proof.KernelIdeal.dats m) 0 (Cert.KernelIdeal.Gen.V0 m) [Cert.KernelIdeal.Gen.hostOps1] c Cert.KernelIdeal.main_v63,
    ?_, ?_⟩
  · exact (θ_run Cert.KernelIdeal.defs _ _).mono
      (fun _ h c => ⟨(h.1 c).2 Cert.KernelIdeal.main_v55 (Pipeline.mem_restRefs_of Cert.KernelIdeal.main_v55 (by decide) (by decide)), (h.1 c).2 Cert.KernelIdeal.main_v62 (Pipeline.mem_restRefs_of Cert.KernelIdeal.main_v62 (by decide) (by decide)), (h.1 c).2 Cert.KernelIdeal.main_v63 (Pipeline.mem_restRefs_of Cert.KernelIdeal.main_v63 (by decide) (by decide)), h.2 c⟩)
      (θ_run_and (Cert.Proof.KernelIdeal.run_main (F := Ideal) m g) (Cert.KernelIdeal.Gen.frame_of m g (Cert.Proof.KernelIdeal.dats m) (Cert.Proof.KernelIdeal.A_eq m) (Cert.Proof.KernelIdeal.run_main m g)))
  · refine (θ_run Cert.ReferenceIdeal.defs _ _).mono
      (fun _ h c => ⟨((h.1 c).2 Cert.ReferenceIdeal.main_v62 (Pipeline.mem_restRefs_of Cert.ReferenceIdeal.main_v62 (by decide) (by decide))).trans ?_, ((h.1 c).2 Cert.ReferenceIdeal.main_v70 (Pipeline.mem_restRefs_of Cert.ReferenceIdeal.main_v70 (by decide) (by decide))).trans ?_, ((h.1 c).2 Cert.ReferenceIdeal.main_v71 (Pipeline.mem_restRefs_of Cert.ReferenceIdeal.main_v71 (by decide) (by decide))).trans ?_, h.2 c⟩)
      (θ_run_and (Cert.ReferenceIdeal.Gen.run_main (F := Ideal) m' g') (Cert.ReferenceIdeal.Gen.unchanged m' g'))
    · refine funext fun (j : Cert.KernelIdeal.S6x2048x32x96.Idx) => ?_
      obtain ⟨r, g, e⟩ := hd_surj (j 2)
      have e : j = ix4 (j 0) (j 1) (hd r g) (j 3) := funext fun a => match a with
        | ⟨0, _⟩ => rfl
        | ⟨1, _⟩ => rfl
        | ⟨2, _⟩ => e
        | ⟨3, _⟩ => rfl
      rw [e]
      refine (Cert.Proof.ReferenceIdeal.result_dq m' c (j 0) (j 1) r g (j 3)).trans ?_
      rw [ea c]
      exact (Cert.Proof.KernelIdeal.result_dq m c (j 0) (j 1) r g (j 3) (hs c)).symm
    · refine funext fun (j : Cert.KernelIdeal.S6x2048x4x96.Idx) => ?_
      have e : j = ix4 (j 0) (j 1) (j 2) (j 3) := funext fun a => match a with
        | ⟨0, _⟩ => rfl
        | ⟨1, _⟩ => rfl
        | ⟨2, _⟩ => rfl
        | ⟨3, _⟩ => rfl
      rw [e]
      refine (Cert.Proof.ReferenceIdeal.result_dk m' c (j 0) (j 1) (j 2) (j 3)).trans ?_
      rw [ea c]
      exact (Cert.Proof.KernelIdeal.result_dk m c (j 0) (j 1) (j 2) (j 3) (hs c)).symm
    · refine funext fun (j : Cert.KernelIdeal.S6x2048x4x96.Idx) => ?_
      have e : j = ix4 (j 0) (j 1) (j 2) (j 3) := funext fun a => match a with
        | ⟨0, _⟩ => rfl
        | ⟨1, _⟩ => rfl
        | ⟨2, _⟩ => rfl
        | ⟨3, _⟩ => rfl
      rw [e]
      refine (Cert.Proof.ReferenceIdeal.result_dv m' c (j 0) (j 1) (j 2) (j 3)).trans ?_
      rw [ea c]
      exact (Cert.Proof.KernelIdeal.result_dv m c (j 0) (j 1) (j 2) (j 3)).symm

end Cert.Proof
-- ==== Proof.lean ====
/- The proof of the certificate's claim: the frames of the kernel, of the idealized kernel and of the reference, the one rewrite
   between the kernel and its idealization, and the equality of the idealized kernel's three results and the reference's. The
   kernel's own argument is in Proof/: `Model` says what a grid point computes, `Body` that the body computes it, `Run` that
   every run ends, `Same` carries the frame to the kernel as written; `KerValue`, `KerGrad` and `KerTail` give the kernel's
   results at an index, `RefValue` the reference's, and `Equal` compares them. -/
module

public import proofs.«01_k».proof.Defs
public import proofs.«01_k».proof.Proof.Run
public import proofs.«01_k».proof.Proof.Same
public import proofs.«01_k».proof.Proof.Equal
public import proofs.«01_k».proof.Proof.Gen.ReferenceIdeal
public import proofs.«01_k».proof.Proof.Gen.ReferenceIdeal.Frame

@[expose] public section

noncomputable section

namespace Cert.Proof

open Idealize.ShloMosaic

theorem frame_pi : Cert.quiescent_KernelIdeal (hKernelIdeal := Cert.KernelIdeal.Gen.facts) :=
  fun m ρ _ => Cert.Proof.KernelIdeal.frame_holds m ρ

theorem frame_ri : Cert.quiescent_ReferenceIdeal (hReferenceIdeal := Cert.ReferenceIdeal.Gen.facts) :=
  fun m ρ _ => Cert.ReferenceIdeal.Gen.frame m ρ

theorem frame_pi_pre : Cert.quiescent_KernelIdeal_pre_scales_nonneg (hKernelIdeal := Cert.KernelIdeal.Gen.facts)
    (hPre_scales_nonneg := PreScales.facts) :=
  fun m ρ _ => Cert.Proof.KernelIdeal.frame_holds m ρ

theorem frame_ri_pre : Cert.quiescent_ReferenceIdeal_pre_scales_nonneg (hReferenceIdeal := Cert.ReferenceIdeal.Gen.facts)
    (hPre_scales_nonneg := PreScales.facts) :=
  fun m ρ _ => Cert.ReferenceIdeal.Gen.frame m ρ

theorem preserves : Cert.preserves_Kernel_KernelIdeal :=
  IdealRules.named_const.statement Cert.KernelIdeal.κ "log2e" .f32 0x3FB8AA3B#32 (((Real.log 2)⁻¹ : ℝ) : EReal) rfl

theorem claim : Cert.Claim := ⟨Cert.Kernel.Gen.facts, Cert.KernelIdeal.Gen.facts, Cert.ReferenceIdeal.Gen.facts, PreScales.facts,
  Cert.Proof.Kernel.frame_holds, frame_pi, frame_pi_pre, frame_ri, frame_ri_pre, preserves, algebraic⟩

end Cert.Proof

end
